-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v44) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v76) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)) (v4 : (c : Dev Cert.InprojIdeal.nD) → Buf (Elt Ideal) ((c.tc : Thread Cert.InprojIdeal.nD Cert.InprojIdeal.τ).loc Cert.InprojIdeal.main_v11_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_v11_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v62) = v0 c
          ∧ r.2.mem ((c.tc : Thread Cert.InprojRefIdeal.nD Cert.InprojRefIdeal.τ).loc Cert.InprojRefIdeal.main_v64) = v1 c
          ∧ r.2.mem ((c.tc : Thread Cert.InprojRefIdeal.nD Cert.InprojRefIdeal.τ).loc Cert.InprojRefIdeal.main_v66) = v2 c
          ∧ r.2.mem ((c.tc : Thread Cert.InprojRefIdeal.nD Cert.InprojRefIdeal.τ).loc Cert.InprojRefIdeal.main_v68) = v3 c
          ∧ r.2.mem ((c.tc : Thread Cert.InprojRefIdeal.nD Cert.InprojRefIdeal.τ).loc Cert.InprojRefIdeal.main_v69) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v5) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v9)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v9) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v143) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hModulation : Cert.Modulation.Facts) (hModulationIdeal : Cert.ModulationIdeal.Facts) (hModulationRefIdeal : Cert.ModulationRefIdeal.Facts) (hSsd : Cert.Ssd.Facts) (hSsdIdeal : Cert.SsdIdeal.Facts) (hSsdRefIdeal : Cert.SsdRefIdeal.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Ssd (hSsd := hSsd)
    ∧ quiescent_SsdIdeal (hSsdIdeal := hSsdIdeal)
    ∧ quiescent_SsdRefIdeal (hSsdRefIdeal := hSsdRefIdeal)
    ∧ preserves_Attn_AttnIdeal
    ∧ algebraic_AttnIdeal_AttnRefIdeal (hAttnIdeal := hAttnIdeal) (hAttnRefIdeal := hAttnRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Modulation_ModulationIdeal
    ∧ algebraic_ModulationIdeal_ModulationRefIdeal (hModulationIdeal := hModulationIdeal) (hModulationRefIdeal := hModulationRefIdeal)
    ∧ preserves_Ssd_SsdIdeal
    ∧ algebraic_SsdIdeal_SsdRefIdeal (hSsdIdeal := hSsdIdeal) (hSsdRefIdeal := hSsdRefIdeal)
-- ==== Attn.lean ====
abbrev S2x16384x256 : Shape := ⟨3, ![2, 16384, 256]⟩
abbrev S_ : Shape := ⟨0, ![]⟩
abbrev S2x16384x768 : Shape := ⟨3, ![2, 16384, 768]⟩
abbrev S32768x768 : Shape := ⟨2, ![32768, 768]⟩
abbrev S32768x256 : Shape := ⟨2, ![32768, 256]⟩
abbrev S512x128 : Shape := ⟨2, ![512, 128]⟩
abbrev S16384x128 : Shape := ⟨2, ![16384, 128]⟩
abbrev S2x128x128 : Shape := ⟨3, ![2, 128, 128]⟩
abbrev S128x128 : Shape := ⟨2, ![128, 128]⟩
abbrev S128x256 : Shape := ⟨2, ![128, 256]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S_, .f32⟩
  | .hbm, ⟨4, _⟩ => ⟨S2x16384x256, .f32⟩
  | .hbm, ⟨5, _⟩ => ⟨S2x16384x256, .f32⟩
  | .hbm, ⟨6, _⟩ => ⟨S2x16384x768, .f32⟩
  | .hbm, ⟨7, _⟩ => ⟨S2x16384x768, .bf16⟩
  | .hbm, ⟨8, _⟩ => ⟨S32768x768, .bf16⟩
  | .hbm, ⟨9, _⟩ => ⟨S32768x256, .bf16⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | .local _ .vmem, ⟨8, _⟩ => ⟨S2x128x128, .f32⟩
  | .local _ .vmem, ⟨9, _⟩ => ⟨S2x128x128, .f32⟩
  | _, _ => ⟨S2x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c128_i32_4 : BitVec 32 := 128#32
  let v24 : BitVec 32 := Scalar.muli v17 c128_i32_4
  v24
def k0_off1 (i : grid0.Coords) (c0_i32 : BitVec 32) : Fin 2 → Nat :=
  let arg2 : BitVec 32 := BitVec.ofNat 32 (i 2).val
  let c4_i32 : BitVec 32 := 4#32
  let v0 : BitVec 32 := Scalar.muli arg2 c4_i32
  let v17 : BitVec 32 := Scalar.addi v0 c0_i32
  let c128_i32_4 : BitVec 32 := 128#32
  let v24 : BitVec 32 := Scalar.muli v17 c128_i32_4
  let v25 : BitVec 32 := v24
  let v26 : Index := Scalar.indexCast v25
  let c0_5 : Index := 0#32
  ![v26.toNat, 0]
def k0_mult2 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c128_i32_22 : BitVec 32 := 128#32
  let v64 : BitVec 32 := Scalar.muli v17 c128_i32_22
  v64
@[reducible] def k0_t1_loop (i : grid0.Coords) : Scf.Loop 32 :=
  let c0_i32_39 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let v104 : BitVec 32 := Scalar.subi v17 c0_i32_39
  let c1_i32 : BitVec 32 := 1#32
  let v106 : BitVec 32 := Scalar.divsi v104 c1_i32
  let v107 : BitVec 32 := Scalar.muli v106 c1_i32
  let v108 : BitVec 32 := Scalar.addi c0_i32_39 v107
  let c1_i32_41 : BitVec 32 := 1#32
  ⟨c0_i32_39, v108, c1_i32_41⟩
def k0_mult3 (i : grid0.Coords) (k0_t1 : Fin (k0_t1_loop i).trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let c1_i32_41 : BitVec 32 := 1#32
  let arg9 : BitVec 32 := Scf.iv c0_i32_39 c1_i32_41 k0_t1
  let v422 : BitVec 32 := Scalar.subi v421 arg9
  let c128_i32_209 : BitVec 32 := 128#32
  let v423 : BitVec 32 := Scalar.muli v422 c128_i32_209
  v423
def k0_off2 (i : grid0.Coords) (k0_t1 : Fin (k0_t1_loop i).trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let c1_i32_41 : BitVec 32 := 1#32
  let arg9 : BitVec 32 := Scf.iv c0_i32_39 c1_i32_41 k0_t1
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult4 (i : grid0.Coords) (k0_t1 : Fin (k0_t1_loop i).trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let c1_i32_41 : BitVec 32 := 1#32
  let arg9 : BitVec 32 := Scf.iv c0_i32_39 c1_i32_41 k0_t1
  let v422 : BitVec 32 := Scalar.subi v421 arg9
  let c128_i32_234 : BitVec 32 := 128#32
  let v468 : BitVec 32 := Scalar.muli v422 c128_i32_234
  v468
@[reducible] def k0_t2_loop (i : grid0.Coords) : Scf.Loop 32 :=
  let c0_i32_39 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let v104 : BitVec 32 := Scalar.subi v17 c0_i32_39
  let c1_i32 : BitVec 32 := 1#32
  let v106 : BitVec 32 := Scalar.divsi v104 c1_i32
  let v107 : BitVec 32 := Scalar.muli v106 c1_i32
  let v108 : BitVec 32 := Scalar.addi c0_i32_39 v107
  let v105 : BitVec 32 := Scalar.addi c0_i32_39 v104
  let c1_i32_42 : BitVec 32 := 1#32
  ⟨v108, v105, c1_i32_42⟩
def k0_mult5 (i : grid0.Coords) (k0_t2 : Fin (k0_t2_loop i).trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let v104 : BitVec 32 := Scalar.subi v17 c0_i32_39
  let c1_i32 : BitVec 32 := 1#32
  let v106 : BitVec 32 := Scalar.divsi v104 c1_i32
  let v107 : BitVec 32 := Scalar.muli v106 c1_i32
  let v108 : BitVec 32 := Scalar.addi c0_i32_39 v107
  let c1_i32_42 : BitVec 32 := 1#32
  let arg9 : BitVec 32 := Scf.iv v108 c1_i32_42 k0_t2
  let v422 : BitVec 32 := Scalar.subi v421 arg9
  let c128_i32_209 : BitVec 32 := 128#32
  let v423 : BitVec 32 := Scalar.muli v422 c128_i32_209
  v423
def k0_off3 (i : grid0.Coords) (k0_t2 : Fin (k0_t2_loop i).trips) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let v104 : BitVec 32 := Scalar.subi v17 c0_i32_39
  let c1_i32 : BitVec 32 := 1#32
  let v106 : BitVec 32 := Scalar.divsi v104 c1_i32
  let v107 : BitVec 32 := Scalar.muli v106 c1_i32
  let v108 : BitVec 32 := Scalar.addi c0_i32_39 v107
  let c1_i32_42 : BitVec 32 := 1#32
  let arg9 : BitVec 32 := Scf.iv v108 c1_i32_42 k0_t2
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult6 (i : grid0.Coords) (k0_t2 : Fin (k0_t2_loop i).trips) : BitVec 32 :=
  let arg2 : BitVec 32 := BitVec.ofNat 32 (i 2).val
  let c4_i32 : BitVec 32 := 4#32
  let v0 : BitVec 32 := Scalar.muli arg2 c4_i32
  let c0_i32 : BitVec 32 := 0#32
  let v17 : BitVec 32 := Scalar.addi v0 c0_i32
  let c1_i32_208 : BitVec 32 := 1#32
  let v421 : BitVec 32 := Scalar.subi v17 c1_i32_208
  let c0_i32_39 : BitVec 32 := 0#32
  let v104 : BitVec 32 := Scalar.subi v17 c0_i32_39
  let c1_i32 : BitVec 32 := 1#32
  let v106 : BitVec 32 := Scalar.divsi v104 c1_i32
  let v107 : BitVec 32 := Scalar.muli v106 c1_i32
  let v108 : BitVec 32 := Scalar.addi c0_i32_39 v107
  let c1_i32_42 : BitVec 32 := 1#32
  let arg9 : BitVec 32 := Scf.iv v108 c1_i32_42 k0_t2
  let v422 : BitVec 32 := Scalar.subi v421 arg9
  let c128_i32_234 : BitVec 32 := 128#32
  let v468 : BitVec 32 := Scalar.muli v422 c128_i32_234
  v468
def k0_mult7 (i : grid0.Coords) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c128_i32_55 : BitVec 32 := 128#32
  let v125 : BitVec 32 := Scalar.muli v118 c128_i32_55
  v125
def k0_mult8 (i : grid0.Coords) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c128_i32_73 : BitVec 32 := 128#32
  let v165 : BitVec 32 := Scalar.muli v118 c128_i32_73
  v165
@[reducible] def k0_t3_loop (i : grid0.Coords) : Scf.Loop 32 :=
  let c0_i32_91 : BitVec 32 := 0#32
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let v205 : BitVec 32 := Scalar.subi v118 c0_i32_91
  let c1_i32_93 : BitVec 32 := 1#32
  let v207 : BitVec 32 := Scalar.divsi v205 c1_i32_93
  let v208 : BitVec 32 := Scalar.muli v207 c1_i32_93
  let v209 : BitVec 32 := Scalar.addi c0_i32_91 v208
  let c1_i32_94 : BitVec 32 := 1#32
  ⟨c0_i32_91, v209, c1_i32_94⟩
def k0_mult9 (i : grid0.Coords) (k0_t3 : Fin (k0_t3_loop i).trips) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let c1_i32_94 : BitVec 32 := 1#32
  let arg9 : BitVec 32 := Scf.iv c0_i32_91 c1_i32_94 k0_t3
  let v422 : BitVec 32 := Scalar.subi v421 arg9
  let c128_i32_209 : BitVec 32 := 128#32
  let v423 : BitVec 32 := Scalar.muli v422 c128_i32_209
  v423
def k0_off4 (i : grid0.Coords) (k0_t3 : Fin (k0_t3_loop i).trips) : Fin 2 → Nat :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let c1_i32_94 : BitVec 32 := 1#32
  let arg9 : BitVec 32 := Scf.iv c0_i32_91 c1_i32_94 k0_t3
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult10 (i : grid0.Coords) (k0_t3 : Fin (k0_t3_loop i).trips) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let c1_i32_94 : BitVec 32 := 1#32
  let arg9 : BitVec 32 := Scf.iv c0_i32_91 c1_i32_94 k0_t3
  let v422 : BitVec 32 := Scalar.subi v421 arg9
  let c128_i32_234 : BitVec 32 := 128#32
  let v468 : BitVec 32 := Scalar.muli v422 c128_i32_234
  v468
@[reducible] def k0_t4_loop (i : grid0.Coords) : Scf.Loop 32 :=
  let c0_i32_91 : BitVec 32 := 0#32
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let v205 : BitVec 32 := Scalar.subi v118 c0_i32_91
  let c1_i32_93 : BitVec 32 := 1#32
  let v207 : BitVec 32 := Scalar.divsi v205 c1_i32_93
  let v208 : BitVec 32 := Scalar.muli v207 c1_i32_93
  let v209 : BitVec 32 := Scalar.addi c0_i32_91 v208
  let v206 : BitVec 32 := Scalar.addi c0_i32_91 v205
  let c1_i32_95 : BitVec 32 := 1#32
  ⟨v209, v206, c1_i32_95⟩
def k0_mult11 (i : grid0.Coords) (k0_t4 : Fin (k0_t4_loop i).trips) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let v205 : BitVec 32 := Scalar.subi v118 c0_i32_91
  let c1_i32_93 : BitVec 32 := 1#32
  let v207 : BitVec 32 := Scalar.divsi v205 c1_i32_93
  let v208 : BitVec 32 := Scalar.muli v207 c1_i32_93
  let v209 : BitVec 32 := Scalar.addi c0_i32_91 v208
  let c1_i32_95 : BitVec 32 := 1#32
  let arg9 : BitVec 32 := Scf.iv v209 c1_i32_95 k0_t4
  let v422 : BitVec 32 := Scalar.subi v421 arg9
  let c128_i32_209 : BitVec 32 := 128#32
  let v423 : BitVec 32 := Scalar.muli v422 c128_i32_209
  v423
def k0_off5 (i : grid0.Coords) (k0_t4 : Fin (k0_t4_loop i).trips) : Fin 2 → Nat :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let v205 : BitVec 32 := Scalar.subi v118 c0_i32_91
  let c1_i32_93 : BitVec 32 := 1#32
  let v207 : BitVec 32 := Scalar.divsi v205 c1_i32_93
  let v208 : BitVec 32 := Scalar.muli v207 c1_i32_93
  let v209 : BitVec 32 := Scalar.addi c0_i32_91 v208
  let c1_i32_95 : BitVec 32 := 1#32
  let arg9 : BitVec 32 := Scf.iv v209 c1_i32_95 k0_t4
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult12 (i : grid0.Coords) (k0_t4 : Fin (k0_t4_loop i).trips) : BitVec 32 :=
  let arg2 : BitVec 32 := BitVec.ofNat 32 (i 2).val
  let c4_i32 : BitVec 32 := 4#32
  let v0 : BitVec 32 := Scalar.muli arg2 c4_i32
  let c1_i32_51 : BitVec 32 := 1#32
  let v118 : BitVec 32 := Scalar.addi v0 c1_i32_51
  let c1_i32_208 : BitVec 32 := 1#32
  let v421 : BitVec 32 := Scalar.subi v118 c1_i32_208
  let c0_i32_91 : BitVec 32 := 0#32
  let v205 : BitVec 32 := Scalar.subi v118 c0_i32_91
  let c1_i32_93 : BitVec 32 := 1#32
  let v207 : BitVec 32 := Scalar.divsi v205 c1_i32_93
  let v208 : BitVec 32 := Scalar.muli v207 c1_i32_93
  let v209 : BitVec 32 := Scalar.addi c0_i32_91 v208
  let c1_i32_95 : BitVec 32 := 1#32
  let arg9 : BitVec 32 := Scf.iv v209 c1_i32_95 k0_t4
  let v422 : BitVec 32 := Scalar.subi v421 arg9
  let c128_i32_234 : BitVec 32 := 128#32
  let v468 : BitVec 32 := Scalar.muli v422 c128_i32_234
  v468
def k0_mult13 (i : grid0.Coords) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c128_i32_107 : BitVec 32 := 128#32
  let v226 : BitVec 32 := Scalar.muli v219 c128_i32_107
  v226
def k0_mult14 (i : grid0.Coords) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c128_i32_125 : BitVec 32 := 128#32
  let v266 : BitVec 32 := Scalar.muli v219 c128_i32_125
  v266
@[reducible] def k0_t5_loop (i : grid0.Coords) : Scf.Loop 32 :=
  let c0_i32_143 : BitVec 32 := 0#32
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let v306 : BitVec 32 := Scalar.subi v219 c0_i32_143
  let c1_i32_145 : BitVec 32 := 1#32
  let v308 : BitVec 32 := Scalar.divsi v306 c1_i32_145
  let v309 : BitVec 32 := Scalar.muli v308 c1_i32_145
  let v310 : BitVec 32 := Scalar.addi c0_i32_143 v309
  let c1_i32_146 : BitVec 32 := 1#32
  ⟨c0_i32_143, v310, c1_i32_146⟩
def k0_mult15 (i : grid0.Coords) (k0_t5 : Fin (k0_t5_loop i).trips) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let c1_i32_146 : BitVec 32 := 1#32
  let arg9 : BitVec 32 := Scf.iv c0_i32_143 c1_i32_146 k0_t5
  let v422 : BitVec 32 := Scalar.subi v421 arg9
  let c128_i32_209 : BitVec 32 := 128#32
  let v423 : BitVec 32 := Scalar.muli v422 c128_i32_209
  v423
def k0_off6 (i : grid0.Coords) (k0_t5 : Fin (k0_t5_loop i).trips) : Fin 2 → Nat :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let c1_i32_146 : BitVec 32 := 1#32
  let arg9 : BitVec 32 := Scf.iv c0_i32_143 c1_i32_146 k0_t5
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult16 (i : grid0.Coords) (k0_t5 : Fin (k0_t5_loop i).trips) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let c1_i32_146 : BitVec 32 := 1#32
  let arg9 : BitVec 32 := Scf.iv c0_i32_143 c1_i32_146 k0_t5
  let v422 : BitVec 32 := Scalar.subi v421 arg9
  let c128_i32_234 : BitVec 32 := 128#32
  let v468 : BitVec 32 := Scalar.muli v422 c128_i32_234
  v468
@[reducible] def k0_t6_loop (i : grid0.Coords) : Scf.Loop 32 :=
  let c0_i32_143 : BitVec 32 := 0#32
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let v306 : BitVec 32 := Scalar.subi v219 c0_i32_143
  let c1_i32_145 : BitVec 32 := 1#32
  let v308 : BitVec 32 := Scalar.divsi v306 c1_i32_145
  let v309 : BitVec 32 := Scalar.muli v308 c1_i32_145
  let v310 : BitVec 32 := Scalar.addi c0_i32_143 v309
  let v307 : BitVec 32 := Scalar.addi c0_i32_143 v306
  let c1_i32_147 : BitVec 32 := 1#32
  ⟨v310, v307, c1_i32_147⟩
def k0_mult17 (i : grid0.Coords) (k0_t6 : Fin (k0_t6_loop i).trips) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let v306 : BitVec 32 := Scalar.subi v219 c0_i32_143
  let c1_i32_145 : BitVec 32 := 1#32
  let v308 : BitVec 32 := Scalar.divsi v306 c1_i32_145
  let v309 : BitVec 32 := Scalar.muli v308 c1_i32_145
  let v310 : BitVec 32 := Scalar.addi c0_i32_143 v309
  let c1_i32_147 : BitVec 32 := 1#32
  let arg9 : BitVec 32 := Scf.iv v310 c1_i32_147 k0_t6
  let v422 : BitVec 32 := Scalar.subi v421 arg9
  let c128_i32_209 : BitVec 32 := 128#32
  let v423 : BitVec 32 := Scalar.muli v422 c128_i32_209
  v423
def k0_off7 (i : grid0.Coords) (k0_t6 : Fin (k0_t6_loop i).trips) : Fin 2 → Nat :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let v306 : BitVec 32 := Scalar.subi v219 c0_i32_143
  let c1_i32_145 : BitVec 32 := 1#32
  let v308 : BitVec 32 := Scalar.divsi v306 c1_i32_145
  let v309 : BitVec 32 := Scalar.muli v308 c1_i32_145
  let v310 : BitVec 32 := Scalar.addi c0_i32_143 v309
  let c1_i32_147 : BitVec 32 := 1#32
  let arg9 : BitVec 32 := Scf.iv v310 c1_i32_147 k0_t6
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult18 (i : grid0.Coords) (k0_t6 : Fin (k0_t6_loop i).trips) : BitVec 32 :=
  let arg2 : BitVec 32 := BitVec.ofNat 32 (i 2).val
  let c4_i32 : BitVec 32 := 4#32
  let v0 : BitVec 32 := Scalar.muli arg2 c4_i32
  let c2_i32 : BitVec 32 := 2#32
  let v219 : BitVec 32 := Scalar.addi v0 c2_i32
  let c1_i32_208 : BitVec 32 := 1#32
  let v421 : BitVec 32 := Scalar.subi v219 c1_i32_208
  let c0_i32_143 : BitVec 32 := 0#32
  let v306 : BitVec 32 := Scalar.subi v219 c0_i32_143
  let c1_i32_145 : BitVec 32 := 1#32
  let v308 : BitVec 32 := Scalar.divsi v306 c1_i32_145
  let v309 : BitVec 32 := Scalar.muli v308 c1_i32_145
  let v310 : BitVec 32 := Scalar.addi c0_i32_143 v309
  let c1_i32_147 : BitVec 32 := 1#32
  let arg9 : BitVec 32 := Scf.iv v310 c1_i32_147 k0_t6
  let v422 : BitVec 32 := Scalar.subi v421 arg9
  let c128_i32_234 : BitVec 32 := 128#32
  let v468 : BitVec 32 := Scalar.muli v422 c128_i32_234
  v468
def k0_mult19 (i : grid0.Coords) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c128_i32_159 : BitVec 32 := 128#32
  let v327 : BitVec 32 := Scalar.muli v320 c128_i32_159
  v327
def k0_mult20 (i : grid0.Coords) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c128_i32_177 : BitVec 32 := 128#32
  let v367 : BitVec 32 := Scalar.muli v320 c128_i32_177
  v367
@[reducible] def k0_t7_loop (i : grid0.Coords) : Scf.Loop 32 :=
  let c0_i32_195 : BitVec 32 := 0#32
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let v407 : BitVec 32 := Scalar.subi v320 c0_i32_195
  let c1_i32_197 : BitVec 32 := 1#32
  let v409 : BitVec 32 := Scalar.divsi v407 c1_i32_197
  let v410 : BitVec 32 := Scalar.muli v409 c1_i32_197
  let v411 : BitVec 32 := Scalar.addi c0_i32_195 v410
  let c1_i32_198 : BitVec 32 := 1#32
  ⟨c0_i32_195, v411, c1_i32_198⟩
def k0_mult21 (i : grid0.Coords) (k0_t7 : Fin (k0_t7_loop i).trips) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let c1_i32_198 : BitVec 32 := 1#32
  let arg9 : BitVec 32 := Scf.iv c0_i32_195 c1_i32_198 k0_t7
  let v422 : BitVec 32 := Scalar.subi v421 arg9
  let c128_i32_209 : BitVec 32 := 128#32
  let v423 : BitVec 32 := Scalar.muli v422 c128_i32_209
  v423
def k0_off8 (i : grid0.Coords) (k0_t7 : Fin (k0_t7_loop i).trips) : Fin 2 → Nat :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let c1_i32_198 : BitVec 32 := 1#32
  let arg9 : BitVec 32 := Scf.iv c0_i32_195 c1_i32_198 k0_t7
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult22 (i : grid0.Coords) (k0_t7 : Fin (k0_t7_loop i).trips) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let c1_i32_198 : BitVec 32 := 1#32
  let arg9 : BitVec 32 := Scf.iv c0_i32_195 c1_i32_198 k0_t7
  let v422 : BitVec 32 := Scalar.subi v421 arg9
  let c128_i32_234 : BitVec 32 := 128#32
  let v468 : BitVec 32 := Scalar.muli v422 c128_i32_234
  v468
@[reducible] def k0_t8_loop (i : grid0.Coords) : Scf.Loop 32 :=
  let c0_i32_195 : BitVec 32 := 0#32
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let v407 : BitVec 32 := Scalar.subi v320 c0_i32_195
  let c1_i32_197 : BitVec 32 := 1#32
  let v409 : BitVec 32 := Scalar.divsi v407 c1_i32_197
  let v410 : BitVec 32 := Scalar.muli v409 c1_i32_197
  let v411 : BitVec 32 := Scalar.addi c0_i32_195 v410
  let v408 : BitVec 32 := Scalar.addi c0_i32_195 v407
  let c1_i32_199 : BitVec 32 := 1#32
  ⟨v411, v408, c1_i32_199⟩
def k0_mult23 (i : grid0.Coords) (k0_t8 : Fin (k0_t8_loop i).trips) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let v407 : BitVec 32 := Scalar.subi v320 c0_i32_195
  let c1_i32_197 : BitVec 32 := 1#32
  let v409 : BitVec 32 := Scalar.divsi v407 c1_i32_197
  let v410 : BitVec 32 := Scalar.muli v409 c1_i32_197
  let v411 : BitVec 32 := Scalar.addi c0_i32_195 v410
  let c1_i32_199 : BitVec 32 := 1#32
  let arg9 : BitVec 32 := Scf.iv v411 c1_i32_199 k0_t8
  let v422 : BitVec 32 := Scalar.subi v421 arg9
  let c128_i32_209 : BitVec 32 := 128#32
  let v423 : BitVec 32 := Scalar.muli v422 c128_i32_209
  v423
def k0_off9 (i : grid0.Coords) (k0_t8 : Fin (k0_t8_loop i).trips) : Fin 2 → Nat :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let v407 : BitVec 32 := Scalar.subi v320 c0_i32_195
  let c1_i32_197 : BitVec 32 := 1#32
  let v409 : BitVec 32 := Scalar.divsi v407 c1_i32_197
  let v410 : BitVec 32 := Scalar.muli v409 c1_i32_197
  let v411 : BitVec 32 := Scalar.addi c0_i32_195 v410
  let c1_i32_199 : BitVec 32 := 1#32
  let arg9 : BitVec 32 := Scf.iv v411 c1_i32_199 k0_t8
  let v422 : BitVec 32 := Scalar.subi v421 arg9
  let c128_i32_209 : BitVec 32 := 128#32
  let v423 : BitVec 32 := Scalar.muli v422 c128_i32_209
  let v424 : BitVec 32 := v423
  let v425 : Index := Scalar.indexCast v424
  let c0_210 : Index := 0#32
  ![v425.toNat, 0]
def k0_mult24 (i : grid0.Coords) (k0_t8 : Fin (k0_t8_loop i).trips) : BitVec 32 :=
  let arg2 : BitVec 32 := BitVec.ofNat 32 (i 2).val
  let c4_i32 : BitVec 32 := 4#32
  let v0 : BitVec 32 := Scalar.muli arg2 c4_i32
  let c3_i32 : BitVec 32 := 3#32
  let v320 : BitVec 32 := Scalar.addi v0 c3_i32
  let c1_i32_208 : BitVec 32 := 1#32
  let v421 : BitVec 32 := Scalar.subi v320 c1_i32_208
  let c0_i32_195 : BitVec 32 := 0#32
  let v407 : BitVec 32 := Scalar.subi v320 c0_i32_195
  let c1_i32_197 : BitVec 32 := 1#32
  let v409 : BitVec 32 := Scalar.divsi v407 c1_i32_197
  let v410 : BitVec 32 := Scalar.muli v409 c1_i32_197
  let v411 : BitVec 32 := Scalar.addi c0_i32_195 v410
  let c1_i32_199 : BitVec 32 := 1#32
  let arg9 : BitVec 32 := Scf.iv v411 c1_i32_199 k0_t8
  let v422 : BitVec 32 := Scalar.subi v421 arg9
  let c128_i32_234 : BitVec 32 := 128#32
  let v468 : BitVec 32 := Scalar.muli v422 c128_i32_234
  v468
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S2x16384x256 : Shape := ⟨3, ![2, 16384, 256]⟩
abbrev S2x16384x4x64 : Shape := ⟨4, ![2, 16384, 4, 64]⟩
abbrev S2x4x16384x64 : Shape := ⟨4, ![2, 4, 16384, 64]⟩
abbrev S2x4x16384x16384 : Shape := ⟨4, ![2, 4, 16384, 16384]⟩
abbrev S_ : Shape := ⟨0, ![]⟩
abbrev S16384x16384 : Shape := ⟨2, ![16384, 16384]⟩
abbrev S32768x256 : Shape := ⟨2, ![32768, 256]⟩

abbrev nBuf : Space → Nat
  | .hbm => 53
  | .vmem => 0
  | .smem => 0
  | _ => 0

abbrev bufTy : (tb : Table) → Fin (tcTables nBuf tb) → BufTy
  | .hbm, ⟨0, _⟩ => ⟨S2x16384x256, .f32⟩
  | .hbm, ⟨1, _⟩ => ⟨S2x16384x256, .f32⟩
  | .hbm, ⟨2, _⟩ => ⟨S2x16384x256, .f32⟩
  | .hbm, ⟨3, _⟩ => ⟨S2x16384x4x64, .f32⟩
  | .hbm, ⟨4, _⟩ => ⟨S2x4x16384x64, .f32⟩
  | .hbm, ⟨5, _⟩ => ⟨S2x16384x4x64, .f32⟩
  | .hbm, ⟨6, _⟩ => ⟨S2x4x16384x64, .f32⟩
  | .hbm, ⟨7, _⟩ => ⟨S2x16384x4x64, .f32⟩
  | .hbm, ⟨8, _⟩ => ⟨S2x4x16384x64, .f32⟩
  | .hbm, ⟨9, _⟩ => ⟨S2x4x16384x16384, .f32⟩
  | .hbm, ⟨10, _⟩ => ⟨S_, .f32⟩
  | .hbm, ⟨11, _⟩ => ⟨S2x4x16384x16384, .f32⟩
  | .hbm, ⟨12, _⟩ => ⟨S2x4x16384x16384, .f32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S2x4x16384x16384, .f32⟩
  | .hbm, ⟨17, _⟩ => ⟨S2x4x16384x16384, .f32⟩
  | .hbm, ⟨18, _⟩ => ⟨S_, .f32⟩
  | .hbm, ⟨19, _⟩ => ⟨S2x4x16384x16384, .f32⟩
  | .hbm, ⟨20, _⟩ => ⟨S2x4x16384x16384, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .i1⟩
  | .hbm, ⟨24, _⟩ => ⟨S2x4x16384x16384, .f32⟩
  | .hbm, ⟨25, _⟩ => ⟨S2x4x16384x16384, .f32⟩
  | .hbm, ⟨26, _⟩ => ⟨S2x4x16384x16384, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .f32⟩
  | .hbm, ⟨30, _⟩ => ⟨S2x4x16384x16384, .f32⟩
  | .hbm, ⟨31, _⟩ => ⟨S2x4x16384x16384, .f32⟩
  | .hbm, ⟨32, _⟩ => ⟨S2x4x16384x16384, .f32⟩
  | .hbm, ⟨33, _⟩ => ⟨S_, .f32⟩
  | .hbm, ⟨34, _⟩ => ⟨S_, .f32⟩
  | .hbm, ⟨35, _⟩ => ⟨S2x4x16384x16384, .i1⟩
  | .hbm, ⟨36, _⟩ => ⟨S2x4x16384x16384, .f32⟩
  | .hbm, ⟨37, _⟩ => ⟨S2x4x16384x16384, .f32⟩
  | .hbm, ⟨38, _⟩ => ⟨S16384x16384, .i1⟩
  | .hbm, ⟨39, _⟩ => ⟨S16384x16384, .f32⟩
  | .hbm, ⟨40, _⟩ => ⟨S2x4x16384x16384, .f32⟩
  | .hbm, ⟨41, _⟩ => ⟨S2x4x16384x16384, .f32⟩
  | .hbm, ⟨42, _⟩ => ⟨S2x4x16384x16384, .f32⟩
  | .hbm, ⟨43, _⟩ => ⟨S_, .f32⟩
  | .hbm, ⟨44, _⟩ => ⟨S_, .f32⟩
  | .hbm, ⟨45, _⟩ => ⟨S2x4x16384x16384, .i1⟩
  | .hbm, ⟨46, _⟩ => ⟨S2x4x16384x16384, .f32⟩
  | .hbm, ⟨47, _⟩ => ⟨S2x4x16384x16384, .f32⟩
  | .hbm, ⟨48, _⟩ => ⟨S2x4x16384x16384, .f32⟩
  | .hbm, ⟨49, _⟩ => ⟨S2x4x16384x64, .f32⟩
  | .hbm, ⟨50, _⟩ => ⟨S2x16384x4x64, .f32⟩
  | .hbm, ⟨51, _⟩ => ⟨S32768x256, .f32⟩
  | .hbm, ⟨52, _⟩ => ⟨S32768x256, .bf16⟩
  | _, _ => ⟨S2x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Ffn.lean ====
abbrev S2x16384x1024 : Shape := ⟨3, ![2, 16384, 1024]⟩
abbrev S2x6x1024 : Shape := ⟨3, ![2, 6, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 12
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S32768x1024, .f32⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S2x16384x1024 : Shape := ⟨3, ![2, 16384, 1024]⟩
abbrev S2x6x1024 : Shape := ⟨3, ![2, 6, 1024]⟩
abbrev S1024 : Shape := ⟨1, ![1024]⟩
abbrev S1024x5632 : Shape := ⟨2, ![1024, 5632]⟩
abbrev S2816x1024 : Shape := ⟨2, ![2816, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x16384x1024, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S1x1x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x5632, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S2x16384x2816, .f32⟩
  | .hbm, ⟨37, _⟩ => ⟨S_, .f32⟩
  | .hbm, ⟨38, _⟩ => ⟨S2x16384x2816, .f32⟩
  | .hbm, ⟨39, _⟩ => ⟨S2x16384x2816, .f32⟩
  | .hbm, ⟨40, _⟩ => ⟨S_, .f32⟩
  | .hbm, ⟨41, _⟩ => ⟨S2x16384x2816, .f32⟩
  | .hbm, ⟨42, _⟩ => ⟨S2x16384x2816, .f32⟩
  | .hbm, ⟨43, _⟩ => ⟨S2x16384x2816, .f32⟩
  | .hbm, ⟨44, _⟩ => ⟨S2x16384x2816, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Merge.lean ====
abbrev S2x16384x1024 : Shape := ⟨3, ![2, 16384, 1024]⟩
abbrev S2x6x1024 : Shape := ⟨3, ![2, 6, 1024]⟩
abbrev S1024 : Shape := ⟨1, ![1024]⟩
abbrev S32768x256 : Shape := ⟨2, ![32768, 256]⟩
abbrev S32768x512 : Shape := ⟨2, ![32768, 512]⟩
abbrev S1024x5896 : Shape := ⟨2, ![1024, 5896]⟩
abbrev S256x1024 : Shape := ⟨2, ![256, 1024]⟩
abbrev S512x1024 : Shape := ⟨2, ![512, 1024]⟩
abbrev S1024x1024 : Shape := ⟨2, ![1024, 1024]⟩
abbrev S1024x3072 : Shape := ⟨2, ![1024, 3072]⟩
abbrev S32768x1024 : Shape := ⟨2, ![32768, 1024]⟩
abbrev S1x1024 : Shape := ⟨2, ![1, 1024]⟩
abbrev S1x6x1024 : Shape := ⟨3, ![1, 6, 1024]⟩
abbrev S512x256 : Shape := ⟨2, ![512, 256]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 22
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024, .f32⟩
  | .hbm, ⟨4, _⟩ => ⟨S32768x256, .bf16⟩
  | .hbm, ⟨5, _⟩ => ⟨S32768x256, .bf16⟩
  | .hbm, ⟨6, _⟩ => ⟨S32768x512, .bf16⟩
  | .hbm, ⟨7, _⟩ => ⟨S1024x5896, .f32⟩
  | .hbm, ⟨8, _⟩ => ⟨S256x1024, .f32⟩
  | .hbm, ⟨9, _⟩ => ⟨S256x1024, .f32⟩
  | .hbm, ⟨10, _⟩ => ⟨S512x1024, .f32⟩
  | .hbm, ⟨11, _⟩ => ⟨S1024x1024, .f32⟩
  | .hbm, ⟨12, _⟩ => ⟨S1024x3072, .f32⟩
  | .hbm, ⟨13, _⟩ => ⟨S1024x3072, .bf16⟩
  | .hbm, ⟨14, _⟩ => ⟨S32768x1024, .f32⟩
  | .hbm, ⟨15, _⟩ => ⟨S1x1024, .f32⟩
  | .hbm, ⟨16, _⟩ => ⟨S1x1024, .f32⟩
  | .hbm, ⟨17, _⟩ => ⟨S256x1024, .bf16⟩
  | .hbm, ⟨18, _⟩ => ⟨S256x1024, .bf16⟩
  | .hbm, ⟨19, _⟩ => ⟨S512x1024, .bf16⟩
  | .hbm, ⟨20, _⟩ => ⟨S1024x1024, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S1024x3072, .bf16⟩
  | .local _ .vmem, ⟨13, _⟩ => ⟨S256x1024, .bf16⟩
  | .local _ .vmem, ⟨14, _⟩ => ⟨S256x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S2x16384x1024 : Shape := ⟨3, ![2, 16384, 1024]⟩
abbrev S2x6x1024 : Shape := ⟨3, ![2, 6, 1024]⟩
abbrev S1024 : Shape := ⟨1, ![1024]⟩
abbrev S32768x256 : Shape := ⟨2, ![32768, 256]⟩
abbrev S32768x512 : Shape := ⟨2, ![32768, 512]⟩
abbrev S1024x5896 : Shape := ⟨2, ![1024, 5896]⟩
abbrev S256x1024 : Shape := ⟨2, ![256, 1024]⟩
abbrev S512x1024 : Shape := ⟨2, ![512, 1024]⟩
abbrev S1024x1024 : Shape := ⟨2, ![1024, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5896 : Shape := ⟨3, ![2, 16384, 5896]⟩
abbrev S2x16384x3072 : Shape := ⟨3, ![2, 16384, 3072]⟩
abbrev S2x16384x256 : Shape := ⟨3, ![2, 16384, 256]⟩
abbrev S2x16384x512 : Shape := ⟨3, ![2, 16384, 512]⟩
abbrev S32768x1024 : Shape := ⟨2, ![32768, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024, .f32⟩
  | .hbm, ⟨4, _⟩ => ⟨S32768x256, .bf16⟩
  | .hbm, ⟨5, _⟩ => ⟨S32768x256, .bf16⟩
  | .hbm, ⟨6, _⟩ => ⟨S32768x512, .bf16⟩
  | .hbm, ⟨7, _⟩ => ⟨S1024x5896, .f32⟩
  | .hbm, ⟨8, _⟩ => ⟨S256x1024, .f32⟩
  | .hbm, ⟨9, _⟩ => ⟨S256x1024, .f32⟩
  | .hbm, ⟨10, _⟩ => ⟨S512x1024, .f32⟩
  | .hbm, ⟨11, _⟩ => ⟨S1024x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x16384x1024, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x1024, .f32⟩
  | .hbm, ⟨27, _⟩ => ⟨S2x16384x1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x5896, .f32⟩
  | .hbm, ⟨39, _⟩ => ⟨S2x16384x3072, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384x1024, .f32⟩
  | .hbm, ⟨47, _⟩ => ⟨S2x16384x1024, .f32⟩
  | .hbm, ⟨48, _⟩ => ⟨S_, .f32⟩
  | .hbm, ⟨49, _⟩ => ⟨S2x16384x1024, .f32⟩
  | .hbm, ⟨50, _⟩ => ⟨S2x16384x1024, .f32⟩
  | .hbm, ⟨51, _⟩ => ⟨S32768x256, .f32⟩
  | .hbm, ⟨52, _⟩ => ⟨S2x16384x256, .f32⟩
  | .hbm, ⟨53, _⟩ => ⟨S2x16384x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S_, .f32⟩
  | .hbm, ⟨58, _⟩ => ⟨S2x16384x1024, .f32⟩
  | .hbm, ⟨59, _⟩ => ⟨S2x16384x1024, .f32⟩
  | .hbm, ⟨60, _⟩ => ⟨S_, .f32⟩
  | .hbm, ⟨61, _⟩ => ⟨S2x16384x1024, .f32⟩
  | .hbm, ⟨62, _⟩ => ⟨S2x16384x1024, .f32⟩
  | .hbm, ⟨63, _⟩ => ⟨S32768x256, .f32⟩
  | .hbm, ⟨64, _⟩ => ⟨S2x16384x256, .f32⟩
  | .hbm, ⟨65, _⟩ => ⟨S2x16384x1024, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | .hbm, ⟨69, _⟩ => ⟨S2x16384x1024, .f32⟩
  | .hbm, ⟨70, _⟩ => ⟨S_, .f32⟩
  | .hbm, ⟨71, _⟩ => ⟨S2x16384x1024, .f32⟩
  | .hbm, ⟨72, _⟩ => ⟨S2x16384x1024, .f32⟩
  | .hbm, ⟨73, _⟩ => ⟨S_, .f32⟩
  | .hbm, ⟨74, _⟩ => ⟨S2x16384x1024, .f32⟩
  | .hbm, ⟨75, _⟩ => ⟨S2x16384x1024, .f32⟩
  | .hbm, ⟨76, _⟩ => ⟨S32768x512, .f32⟩
  | .hbm, ⟨77, _⟩ => ⟨S2x16384x512, .f32⟩
  | .hbm, ⟨78, _⟩ => ⟨S2x16384x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S_, .f32⟩
  | .hbm, ⟨84, _⟩ => ⟨S2x16384, .f32⟩
  | .hbm, ⟨85, _⟩ => ⟨S2x16384x1, .f32⟩
  | .hbm, ⟨86, _⟩ => ⟨S_, .f32⟩
  | .hbm, ⟨87, _⟩ => ⟨S2x16384x1, .f32⟩
  | .hbm, ⟨88, _⟩ => ⟨S2x16384x1, .f32⟩
  | .hbm, ⟨89, _⟩ => ⟨S_, .f32⟩
  | .hbm, ⟨90, _⟩ => ⟨S2x16384x1, .f32⟩
  | .hbm, ⟨91, _⟩ => ⟨S2x16384x1, .f32⟩
  | .hbm, ⟨92, _⟩ => ⟨S2x16384x1, .f32⟩
  | .hbm, ⟨93, _⟩ => ⟨S2x16384x1024, .f32⟩
  | .hbm, ⟨94, _⟩ => ⟨S2x16384x1024, .f32⟩
  | .hbm, ⟨95, _⟩ => ⟨S1x1x1024, .f32⟩
  | .hbm, ⟨96, _⟩ => ⟨S2x16384x1024, .f32⟩
  | .hbm, ⟨97, _⟩ => ⟨S2x16384x1024, .f32⟩
  | .hbm, ⟨98, _⟩ => ⟨S2x16384x1024, .f32⟩
  | .hbm, ⟨99, _⟩ => ⟨S2x16384x1024, .f32⟩
  | .hbm, ⟨100, _⟩ => ⟨S2x16384x1024, .f32⟩
  | .hbm, ⟨101, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_cst_10 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]
-- ==== Inproj.lean ====
abbrev S2x16384x1024 : Shape := ⟨3, ![2, 16384, 1024]⟩
abbrev S2x6x1024 : Shape := ⟨3, ![2, 6, 1024]⟩
abbrev S1024 : Shape := ⟨1, ![1024]⟩
abbrev S1024x5896 : Shape := ⟨2, ![1024, 5896]⟩
abbrev S3x256 : Shape := ⟨2, ![3, 256]⟩
abbrev S1024x768 : Shape := ⟨2, ![1024, 768]⟩
abbrev S1024x256 : Shape := ⟨2, ![1024, 256]⟩
abbrev S_ : Shape := ⟨0, ![]⟩
abbrev S1024x1792 : Shape := ⟨2, ![1024, 1792]⟩
abbrev S1024x8 : Shape := ⟨2, ![1024, 8]⟩
abbrev S1024x128 : Shape := ⟨2, ![1024, 128]⟩
abbrev S1024x2944 : Shape := ⟨2, ![1024, 2944]⟩
abbrev S32768x1024 : Shape := ⟨2, ![32768, 1024]⟩
abbrev S1x1024 : Shape := ⟨2, ![1, 1024]⟩
abbrev S32768x256 : Shape := ⟨2, ![32768, 256]⟩
abbrev S32768x768 : Shape := ⟨2, ![32768, 768]⟩
abbrev S32768x512 : Shape := ⟨2, ![32768, 512]⟩
abbrev S32768x128 : Shape := ⟨2, ![32768, 128]⟩
abbrev S512x1024 : Shape := ⟨2, ![512, 1024]⟩
abbrev S1x6x1024 : Shape := ⟨3, ![1, 6, 1024]⟩
abbrev S512x256 : Shape := ⟨2, ![512, 256]⟩
abbrev S512x768 : Shape := ⟨2, ![512, 768]⟩
abbrev S512x512 : Shape := ⟨2, ![512, 512]⟩
abbrev S512x128 : Shape := ⟨2, ![512, 128]⟩
abbrev S520x256 : Shape := ⟨2, ![520, 256]⟩
abbrev S1x1x1024 : Shape := ⟨3, ![1, 1, 1024]⟩
abbrev S512 : Shape := ⟨1, ![512]⟩
abbrev S512x1 : Shape := ⟨2, ![512, 1]⟩
abbrev S1024x512 : Shape := ⟨2, ![1024, 512]⟩
abbrev S8x256 : Shape := ⟨2, ![8, 256]⟩
abbrev S1x256 : Shape := ⟨2, ![1, 256]⟩

abbrev nBuf : Space → Nat
  | .hbm => 24
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024x5896, .f32⟩
  | .hbm, ⟨4, _⟩ => ⟨S3x256, .f32⟩
  | .hbm, ⟨5, _⟩ => ⟨S1024x768, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x1792, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2944, .f32⟩
  | .hbm, ⟨16, _⟩ => ⟨S1024x2944, .bf16⟩
  | .hbm, ⟨17, _⟩ => ⟨S32768x1024, .f32⟩
  | .hbm, ⟨18, _⟩ => ⟨S1x1024, .f32⟩
  | .hbm, ⟨19, _⟩ => ⟨S32768x256, .bf16⟩
  | .hbm, ⟨20, _⟩ => ⟨S32768x768, .bf16⟩
  | .hbm, ⟨21, _⟩ => ⟨S32768x512, .bf16⟩
  | .hbm, ⟨22, _⟩ => ⟨S32768x768, .bf16⟩
  | .hbm, ⟨23, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2944, .bf16⟩
  | .local _ .vmem, ⟨6, _⟩ => ⟨S3x256, .f32⟩
  | .local _ .vmem, ⟨7, _⟩ => ⟨S512x256, .bf16⟩
  | .local _ .vmem, ⟨8, _⟩ => ⟨S512x256, .bf16⟩
  | .local _ .vmem, ⟨9, _⟩ => ⟨S512x768, .bf16⟩
  | .local _ .vmem, ⟨10, _⟩ => ⟨S512x768, .bf16⟩
  | .local _ .vmem, ⟨11, _⟩ => ⟨S512x512, .bf16⟩
  | .local _ .vmem, ⟨12, _⟩ => ⟨S512x512, .bf16⟩
  | .local _ .vmem, ⟨13, _⟩ => ⟨S512x768, .bf16⟩
  | .local _ .vmem, ⟨14, _⟩ => ⟨S512x768, .bf16⟩
  | .local _ .vmem, ⟨15, _⟩ => ⟨S512x128, .f32⟩
  | .local _ .vmem, ⟨16, _⟩ => ⟨S512x128, .f32⟩
  | .local _ .vmem, ⟨17, _⟩ => ⟨S520x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojRefIdeal.lean ====
abbrev S2x16384x1024 : Shape := ⟨3, ![2, 16384, 1024]⟩
abbrev S2x6x1024 : Shape := ⟨3, ![2, 6, 1024]⟩
abbrev S1024 : Shape := ⟨1, ![1024]⟩
abbrev S1024x5896 : Shape := ⟨2, ![1024, 5896]⟩
abbrev S3x256 : Shape := ⟨2, ![3, 256]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5896 : Shape := ⟨3, ![2, 16384, 5896]⟩
abbrev S2x16384x256 : Shape := ⟨3, ![2, 16384, 256]⟩
abbrev S2x16384x512 : Shape := ⟨3, ![2, 16384, 512]⟩
abbrev S2x16384x768 : Shape := ⟨3, ![2, 16384, 768]⟩
abbrev S2x16384x8 : Shape := ⟨3, ![2, 16384, 8]⟩
abbrev S2x16384x3072 : Shape := ⟨3, ![2, 16384, 3072]⟩
abbrev S2x16386x256 : Shape := ⟨3, ![2, 16386, 256]⟩
abbrev S1x256 : Shape := ⟨2, ![1, 256]⟩
abbrev S256 : Shape := ⟨1, ![256]⟩
abbrev S1x1x256 : Shape := ⟨3, ![1, 1, 256]⟩
abbrev S2x16384x128 : Shape := ⟨3, ![2, 16384, 128]⟩
abbrev S32768x256 : Shape := ⟨2, ![32768, 256]⟩
abbrev S32768x768 : Shape := ⟨2, ![32768, 768]⟩
abbrev S32768x512 : Shape := ⟨2, ![32768, 512]⟩
abbrev S32768x128 : Shape := ⟨2, ![32768, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6x1024, .f32⟩
  | .hbm, ⟨2, _⟩ => ⟨S1024, .f32⟩
  | .hbm, ⟨3, _⟩ => ⟨S1024x5896, .f32⟩
  | .hbm, ⟨4, _⟩ => ⟨S3x256, .f32⟩
  | .hbm, ⟨5, _⟩ => ⟨S2x1x1024, .f32⟩
  | .hbm, ⟨6, _⟩ => ⟨S2x1x1024, .f32⟩
  | .hbm, ⟨7, _⟩ => ⟨S2x16384x1024, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x5896, .f32⟩
  | .hbm, ⟨31, _⟩ => ⟨S2x16384x256, .f32⟩
  | .hbm, ⟨32, _⟩ => ⟨S2x16384x256, .f32⟩
  | .hbm, ⟨33, _⟩ => ⟨S2x16384x256, .f32⟩
  | .hbm, ⟨34, _⟩ => ⟨S2x16384x256, .f32⟩
  | .hbm, ⟨35, _⟩ => ⟨S2x16384x256, .f32⟩
  | .hbm, ⟨36, _⟩ => ⟨S2x16384x256, .f32⟩
  | .hbm, ⟨37, _⟩ => ⟨S2x16384x512, .f32⟩
  | .hbm, ⟨38, _⟩ => ⟨S2x16384x768, .f32⟩
  | .hbm, ⟨39, _⟩ => ⟨S2x16384x8, .f32⟩
  | .hbm, ⟨40, _⟩ => ⟨S2x16384x3072, .f32⟩
  | .hbm, ⟨41, _⟩ => ⟨S2x16384x256, .f32⟩
  | .hbm, ⟨42, _⟩ => ⟨S_, .i32⟩
  | .hbm, ⟨43, _⟩ => ⟨S_, .f32⟩
  | .hbm, ⟨44, _⟩ => ⟨S2x16386x256, .f32⟩
  | .hbm, ⟨45, _⟩ => ⟨S1x256, .f32⟩
  | .hbm, ⟨46, _⟩ => ⟨S256, .f32⟩
  | .hbm, ⟨47, _⟩ => ⟨S2x16384x256, .f32⟩
  | .hbm, ⟨48, _⟩ => ⟨S1x1x256, .f32⟩
  | .hbm, ⟨49, _⟩ => ⟨S2x16384x256, .f32⟩
  | .hbm, ⟨50, _⟩ => ⟨S2x16384x256, .f32⟩
  | .hbm, ⟨51, _⟩ => ⟨S_, .f32⟩
  | .hbm, ⟨52, _⟩ => ⟨S2x16384x256, .f32⟩
  | .hbm, ⟨53, _⟩ => ⟨S2x16384x256, .f32⟩
  | .hbm, ⟨54, _⟩ => ⟨S1x256, .f32⟩
  | .hbm, ⟨55, _⟩ => ⟨S256, .f32⟩
  | .hbm, ⟨56, _⟩ => ⟨S2x16384x256, .f32⟩
  | .hbm, ⟨57, _⟩ => ⟨S1x1x256, .f32⟩
  | .hbm, ⟨58, _⟩ => ⟨S2x16384x256, .f32⟩
  | .hbm, ⟨59, _⟩ => ⟨S2x16384x256, .f32⟩
  | .hbm, ⟨60, _⟩ => ⟨S2x16384x256, .f32⟩
  | .hbm, ⟨61, _⟩ => ⟨S1x256, .f32⟩
  | .hbm, ⟨62, _⟩ => ⟨S256, .f32⟩
  | .hbm, ⟨63, _⟩ => ⟨S2x16384x256, .f32⟩
  | .hbm, ⟨64, _⟩ => ⟨S1x1x256, .f32⟩
  | .hbm, ⟨65, _⟩ => ⟨S2x16384x256, .f32⟩
  | .hbm, ⟨66, _⟩ => ⟨S2x16384x256, .f32⟩
  | .hbm, ⟨67, _⟩ => ⟨S2x16384x256, .f32⟩
  | .hbm, ⟨68, _⟩ => ⟨S_, .f32⟩
  | .hbm, ⟨69, _⟩ => ⟨S2x16384x256, .f32⟩
  | .hbm, ⟨70, _⟩ => ⟨S2x16384x256, .f32⟩
  | .hbm, ⟨71, _⟩ => ⟨S2x16384x768, .f32⟩
  | .hbm, ⟨72, _⟩ => ⟨S_, .i32⟩
  | .hbm, ⟨73, _⟩ => ⟨S_, .f32⟩
  | .hbm, ⟨74, _⟩ => ⟨S2x16384x128, .f32⟩
  | .hbm, ⟨75, _⟩ => ⟨S2x16384x256, .f32⟩
  | .hbm, ⟨76, _⟩ => ⟨S32768x256, .f32⟩
  | .hbm, ⟨77, _⟩ => ⟨S32768x256, .bf16⟩
  | .hbm, ⟨78, _⟩ => ⟨S32768x768, .f32⟩
  | .hbm, ⟨79, _⟩ => ⟨S32768x768, .bf16⟩
  | .hbm, ⟨80, _⟩ => ⟨S32768x512, .f32⟩
  | .hbm, ⟨81, _⟩ => ⟨S32768x512, .bf16⟩
  | .hbm, ⟨82, _⟩ => ⟨S32768x768, .f32⟩
  | .hbm, ⟨83, _⟩ => ⟨S32768x768, .bf16⟩
  | .hbm, ⟨84, _⟩ => ⟨S32768x128, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_5 : Ref sig .tc := ⟨.hbm, 72, rfl⟩
abbrev main_call1_v0 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]
-- ==== Modulation.lean ====
abbrev S2x1024 : Shape := ⟨2, ![2, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x2x6144 : Shape := ⟨3, ![2, 2, 6144]⟩
abbrev S1x1024x1024 : Shape := ⟨3, ![1, 1024, 1024]⟩
abbrev S1x1x1024 : Shape := ⟨3, ![1, 1, 1024]⟩
abbrev S1x2x1024 : Shape := ⟨3, ![1, 2, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x2x6144, .f32⟩
  | .local _ .vmem, ⟨0, _⟩ => ⟨S2x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S2x1024 : Shape := ⟨2, ![2, 1024]⟩
abbrev S2x1024x6144 : Shape := ⟨3, ![2, 1024, 6144]⟩
abbrev S2x6144 : Shape := ⟨2, ![2, 6144]⟩
abbrev S_ : Shape := ⟨0, ![]⟩
abbrev S2x6144x2 : Shape := ⟨3, ![2, 6144, 2]⟩
abbrev S2x2x6144 : Shape := ⟨3, ![2, 2, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024x6144, .f32⟩
  | .hbm, ⟨2, _⟩ => ⟨S2x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x6144x2, .f32⟩
  | .hbm, ⟨13, _⟩ => ⟨S2x2x6144, .f32⟩
  | .hbm, ⟨14, _⟩ => ⟨S2x1x6144, .f32⟩
  | .hbm, ⟨15, _⟩ => ⟨S2x2x6144, .f32⟩
  | .hbm, ⟨16, _⟩ => ⟨S2x2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Ssd.lean ====
abbrev S32768x512 : Shape := ⟨2, ![32768, 512]⟩
abbrev S32768x768 : Shape := ⟨2, ![32768, 768]⟩
abbrev S32768x128 : Shape := ⟨2, ![32768, 128]⟩
abbrev S4x768 : Shape := ⟨2, ![4, 768]⟩
abbrev S768 : Shape := ⟨1, ![768]⟩
abbrev S8 : Shape := ⟨1, ![8]⟩
abbrev S512 : Shape := ⟨1, ![512]⟩
abbrev S1x768 : Shape := ⟨2, ![1, 768]⟩
abbrev S_ : Shape := ⟨0, ![]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S256x512 : Shape := ⟨2, ![256, 512]⟩
abbrev S256x768 : Shape := ⟨2, ![256, 768]⟩
abbrev S256x128 : Shape := ⟨2, ![256, 128]⟩
abbrev S264x768 : Shape := ⟨2, ![264, 768]⟩
abbrev S128x512 : Shape := ⟨2, ![128, 512]⟩
abbrev S8x768 : Shape := ⟨2, ![8, 768]⟩
abbrev S256x256 : Shape := ⟨2, ![256, 256]⟩
abbrev S128x256 : Shape := ⟨2, ![128, 256]⟩
abbrev S256x1 : Shape := ⟨2, ![256, 1]⟩
abbrev S1x256 : Shape := ⟨2, ![1, 256]⟩
abbrev S256 : Shape := ⟨1, ![256]⟩

abbrev nBuf : Space → Nat
  | .hbm => 23
  | .vmem => 16
  | .smem => 0
  | _ => 0

abbrev bufTy : (tb : Table) → Fin (tcTables nBuf tb) → BufTy
  | .hbm, ⟨0, _⟩ => ⟨S32768x512, .bf16⟩
  | .hbm, ⟨1, _⟩ => ⟨S32768x768, .bf16⟩
  | .hbm, ⟨2, _⟩ => ⟨S32768x128, .f32⟩
  | .hbm, ⟨3, _⟩ => ⟨S4x768, .f32⟩
  | .hbm, ⟨4, _⟩ => ⟨S768, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S1x768, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S256x768, .bf16⟩
  | .local _ .vmem, ⟨3, _⟩ => ⟨S256x768, .bf16⟩
  | .local _ .vmem, ⟨4, _⟩ => ⟨S256x128, .f32⟩
  | .local _ .vmem, ⟨5, _⟩ => ⟨S256x128, .f32⟩
  | .local _ .vmem, ⟨6, _⟩ => ⟨S4x768, .f32⟩
  | .local _ .vmem, ⟨7, _⟩ => ⟨S1x768, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S264x768, .f32⟩
  | .local _ .vmem, ⟨15, _⟩ => ⟨S128x512, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdRefIdeal.lean ====
abbrev S32768x512 : Shape := ⟨2, ![32768, 512]⟩
abbrev S32768x768 : Shape := ⟨2, ![32768, 768]⟩
abbrev S32768x128 : Shape := ⟨2, ![32768, 128]⟩
abbrev S4x768 : Shape := ⟨2, ![4, 768]⟩
abbrev S768 : Shape := ⟨1, ![768]⟩
abbrev S8 : Shape := ⟨1, ![8]⟩
abbrev S512 : Shape := ⟨1, ![512]⟩
abbrev S2x16384x512 : Shape := ⟨3, ![2, 16384, 512]⟩
abbrev S2x16384x768 : Shape := ⟨3, ![2, 16384, 768]⟩
abbrev S32768x8 : Shape := ⟨2, ![32768, 8]⟩
abbrev S2x16384x8 : Shape := ⟨3, ![2, 16384, 8]⟩
abbrev S_ : Shape := ⟨0, ![]⟩
abbrev S2x16387x768 : Shape := ⟨3, ![2, 16387, 768]⟩
abbrev S1x768 : Shape := ⟨2, ![1, 768]⟩
abbrev S1x1x768 : Shape := ⟨3, ![1, 1, 768]⟩
abbrev S2x16384x128 : Shape := ⟨3, ![2, 16384, 128]⟩
abbrev S2x16384x8x64 : Shape := ⟨4, ![2, 16384, 8, 64]⟩
abbrev S2x16384x2x64 : Shape := ⟨4, ![2, 16384, 2, 64]⟩
abbrev S1x1x8 : Shape := ⟨3, ![1, 1, 8]⟩
abbrev S2x16384x2x4x64 : Shape := ⟨5, ![2, 16384, 2, 4, 64]⟩
abbrev S2x16384x8x1 : Shape := ⟨4, ![2, 16384, 8, 1]⟩
abbrev S2x64x256x8x64 : Shape := ⟨5, ![2, 64, 256, 8, 64]⟩
abbrev S256x256 : Shape := ⟨2, ![256, 256]⟩
abbrev S2x64x256x8 : Shape := ⟨4, ![2, 64, 256, 8]⟩
abbrev S2x64x8x256 : Shape := ⟨4, ![2, 64, 8, 256]⟩
abbrev S2x64x8x256x1 : Shape := ⟨5, ![2, 64, 8, 256, 1]⟩
abbrev S2x64x8x1x256 : Shape := ⟨5, ![2, 64, 8, 1, 256]⟩
abbrev S2x64x8x256x256 : Shape := ⟨5, ![2, 64, 8, 256, 256]⟩
abbrev S2x64x8x64x256 : Shape := ⟨5, ![2, 64, 8, 64, 256]⟩
abbrev S2x64x1x8 : Shape := ⟨4, ![2, 64, 1, 8]⟩
abbrev S2x64x256x8x1 : Shape := ⟨5, ![2, 64, 256, 8, 1]⟩
abbrev S2x64x8x64x64 : Shape := ⟨5, ![2, 64, 8, 64, 64]⟩
abbrev S64x64x64 : Shape := ⟨3, ![64, 64, 64]⟩
abbrev S2x64x8 : Shape := ⟨3, ![2, 64, 8]⟩
abbrev S2x8x64x64 : Shape := ⟨4, ![2, 8, 64, 64]⟩
abbrev S2x64x64x8 : Shape := ⟨4, ![2, 64, 64, 8]⟩
abbrev S64x64x1 : Shape := ⟨3, ![64, 64, 1]⟩
abbrev S2x8x64x64x64 : Shape := ⟨5, ![2, 8, 64, 64, 64]⟩
abbrev S8x1 : Shape := ⟨2, ![8, 1]⟩
abbrev S1x1x8x1 : Shape := ⟨4, ![1, 1, 8, 1]⟩
abbrev S2x16384x2x256 : Shape := ⟨4, ![2, 16384, 2, 256]⟩
abbrev S2x16384x2 : Shape := ⟨3, ![2, 16384, 2]⟩
abbrev S2x16384x2x1 : Shape := ⟨4, ![2, 16384, 2, 1]⟩
abbrev S1x512 : Shape := ⟨2, ![1, 512]⟩

abbrev nBuf : Space → Nat
  | .hbm => 196
  | .vmem => 0
  | .smem => 0
  | _ => 0

abbrev hbmTy0_0 (i : Nat) : BufTy := match i % 128 with
  | 0 => ⟨S32768x512, .bf16⟩
  | 1 => ⟨S32768x768, .bf16⟩
  | 2 => ⟨S32768x128, .f32⟩
  | 3 => ⟨S4x768, .f32⟩
  | 4 => ⟨S768, .f32⟩
  | 5 => ⟨S8, .f32⟩
  | 6 => ⟨S8, .f32⟩
  | 7 => ⟨S8, .f32⟩
  | 8 => ⟨S512, .f32⟩
  | 9 => ⟨S32768x512, .f32⟩
  | 10 => ⟨S2x16384x512, .f32⟩
  | 11 => ⟨S32768x768, .f32⟩
  | 12 => ⟨S2x16384x768, .f32⟩
  | 13 => ⟨S32768x8, .f32⟩
  | 14 => ⟨S2x16384x8, .f32⟩
  | 15 => ⟨S_, .i32⟩
  | 16 => ⟨S_, .f32⟩
  | 17 => ⟨S2x16387x768, .f32⟩
  | 18 => ⟨S1x768, .f32⟩
  | 19 => ⟨S768, .f32⟩
  | 20 => ⟨S2x16384x768, .f32⟩
  | 21 => ⟨S1x1x768, .f32⟩
  | 22 => ⟨S2x16384x768, .f32⟩
  | 23 => ⟨S2x16384x768, .f32⟩
  | 24 => ⟨S_, .f32⟩
  | 25 => ⟨S2x16384x768, .f32⟩
  | 26 => ⟨S2x16384x768, .f32⟩
  | 27 => ⟨S1x768, .f32⟩
  | 28 => ⟨S768, .f32⟩
  | 29 => ⟨S2x16384x768, .f32⟩
  | 30 => ⟨S1x1x768, .f32⟩
  | 31 => ⟨S2x16384x768, .f32⟩
  | 32 => ⟨S2x16384x768, .f32⟩
  | 33 => ⟨S2x16384x768, .f32⟩
  | 34 => ⟨S1x768, .f32⟩
  | 35 => ⟨S768, .f32⟩
  | 36 => ⟨S2x16384x768, .f32⟩
  | 37 => ⟨S1x1x768, .f32⟩
  | 38 => ⟨S2x16384x768, .f32⟩
  | 39 => ⟨S2x16384x768, .f32⟩
  | 40 => ⟨S2x16384x768, .f32⟩
  | 41 => ⟨S1x768, .f32⟩
  | 42 => ⟨S768, .f32⟩
  | 43 => ⟨S2x16384x768, .f32⟩
  | 44 => ⟨S1x1x768, .f32⟩
  | 45 => ⟨S2x16384x768, .f32⟩
  | 46 => ⟨S2x16384x768, .f32⟩
  | 47 => ⟨S2x16384x768, .f32⟩
  | 48 => ⟨S1x1x768, .f32⟩
  | 49 => ⟨S2x16384x768, .f32⟩
  | 50 => ⟨S2x16384x768, .f32⟩
  | 51 => ⟨S2x16384x768, .f32⟩
  | 52 => ⟨S2x16384x768, .f32⟩
  | 53 => ⟨S_, .f32⟩
  | 54 => ⟨S2x16384x768, .f32⟩
  | 55 => ⟨S2x16384x768, .f32⟩
  | 56 => ⟨S_, .f32⟩
  | 57 => ⟨S2x16384x768, .f32⟩
  | 58 => ⟨S2x16384x768, .f32⟩
  | 59 => ⟨S2x16384x768, .f32⟩
  | 60 => ⟨S2x16384x512, .f32⟩
  | 61 => ⟨S2x16384x128, .f32⟩
  | 62 => ⟨S2x16384x128, .f32⟩
  | 63 => ⟨S2x16384x8x64, .f32⟩
  | 64 => ⟨S2x16384x2x64, .f32⟩
  | 65 => ⟨S2x16384x2x64, .f32⟩
  | 66 => ⟨S1x1x8, .f32⟩
  | 67 => ⟨S2x16384x8, .f32⟩
  | 68 => ⟨S2x16384x8, .f32⟩
  | 69 => ⟨S_, .f32⟩
  | 70 => ⟨S2x16384x8, .f32⟩
  | 71 => ⟨S2x16384x8, .f32⟩
  | 72 => ⟨S2x16384x8, .f32⟩
  | 73 => ⟨S2x16384x8, .f32⟩
  | 74 => ⟨S2x16384x8, .i1⟩
  | 75 => ⟨S2x16384x8, .f32⟩
  | 76 => ⟨S2x16384x8, .f32⟩
  | 77 => ⟨S2x16384x8, .f32⟩
  | 78 => ⟨S2x16384x8, .f32⟩
  | 79 => ⟨S2x16384x8, .f32⟩
  | 80 => ⟨S2x16384x8, .f32⟩
  | 81 => ⟨S2x16384x8, .f32⟩
  | 82 => ⟨S2x16384x8, .f32⟩
  | 83 => ⟨S8, .f32⟩
  | 84 => ⟨S8, .f32⟩
  | 85 => ⟨S2x16384x2x4x64, .f32⟩
  | 86 => ⟨S2x16384x8x64, .f32⟩
  | 87 => ⟨S2x16384x2x4x64, .f32⟩
  | 88 => ⟨S2x16384x8x64, .f32⟩
  | 89 => ⟨S2x16384x8x1, .f32⟩
  | 90 => ⟨S2x16384x8x64, .f32⟩
  | 91 => ⟨S2x16384x8x64, .f32⟩
  | 92 => ⟨S1x1x8, .f32⟩
  | 93 => ⟨S2x16384x8, .f32⟩
  | 94 => ⟨S2x16384x8, .f32⟩
  | 95 => ⟨S2x64x256x8x64, .f32⟩
  | 96 => ⟨S2x64x256x8x64, .f32⟩
  | 97 => ⟨S2x64x256x8x64, .f32⟩
  | 98 => ⟨S256x256, .i32⟩
  | 99 => ⟨S256x256, .i32⟩
  | 100 => ⟨S256x256, .i1⟩
  | 101 => ⟨S256x256, .f32⟩
  | 102 => ⟨S2x64x256x8, .f32⟩
  | 103 => ⟨S2x64x8x256, .f32⟩
  | 104 => ⟨S2x64x256x8, .f32⟩
  | 105 => ⟨S2x64x8x256, .f32⟩
  | 106 => ⟨S256x256, .i32⟩
  | 107 => ⟨S256x256, .i32⟩
  | 108 => ⟨S2x64x8x256x1, .f32⟩
  | 109 => ⟨S2x64x8x1x256, .f32⟩
  | 110 => ⟨S2x64x8x256x256, .f32⟩
  | 111 => ⟨S2x64x8x256x256, .f32⟩
  | 112 => ⟨S2x64x8x256x256, .f32⟩
  | 113 => ⟨S256x256, .i1⟩
  | 114 => ⟨S_, .f32⟩
  | 115 => ⟨S_, .f32⟩
  | 116 => ⟨S2x64x8x256x256, .i1⟩
  | 117 => ⟨S2x64x8x256x256, .f32⟩
  | 118 => ⟨S2x64x8x256x256, .f32⟩
  | 119 => ⟨S2x64x8x256x256, .f32⟩
  | 120 => ⟨S2x64x8x256x256, .f32⟩
  | 121 => ⟨S2x64x8x256x256, .f32⟩
  | 122 => ⟨S2x64x8x64x256, .f32⟩
  | 123 => ⟨S2x64x256x8x64, .f32⟩
  | 124 => ⟨S2x64x1x8, .f32⟩
  | 125 => ⟨S2x64x256x8, .f32⟩
  | 126 => ⟨S2x64x256x8, .f32⟩
  | 127 => ⟨S2x64x256x8, .f32⟩
  | _ => ⟨S32768x512, .bf16⟩

abbrev hbmTy0_1 (i : Nat) : BufTy := match i % 128 with
  | 0 => ⟨S2x64x256x8x1, .f32⟩
  | 1 => ⟨S2x64x256x8x64, .f32⟩
  | 2 => ⟨S2x64x256x8x64, .f32⟩
  | 3 => ⟨S2x64x8x64x64, .f32⟩
  | 4 => ⟨S64x64x64, .i32⟩
  | 5 => ⟨S64x64x64, .i32⟩
  | 6 => ⟨S64x64x64, .i32⟩
  | 7 => ⟨S64x64x64, .i1⟩
  | 8 => ⟨S64x64x64, .i1⟩
  | 9 => ⟨S64x64x64, .i1⟩
  | 10 => ⟨S64x64x64, .f32⟩
  | 11 => ⟨S2x64x1x8, .f32⟩
  | 12 => ⟨S2x64x8, .f32⟩
  | 13 => ⟨S2x8x64x64, .f32⟩
  | 14 => ⟨S2x64x64x8, .f32⟩
  | 15 => ⟨S64x64x64, .i1⟩
  | 16 => ⟨S64x64x1, .i1⟩
  | 17 => ⟨S_, .f32⟩
  | 18 => ⟨S_, .f32⟩
  | 19 => ⟨S2x64x64x8, .i1⟩
  | 20 => ⟨S2x64x64x8, .f32⟩
  | 21 => ⟨S2x64x64x8, .f32⟩
  | 22 => ⟨S2x64x64x8, .f32⟩
  | 23 => ⟨S2x8x64x64x64, .f32⟩
  | 24 => ⟨S2x64x8x64x64, .f32⟩
  | 25 => ⟨S2x64x8x64x256, .f32⟩
  | 26 => ⟨S2x64x256x8x64, .f32⟩
  | 27 => ⟨S2x64x256x8, .f32⟩
  | 28 => ⟨S2x64x256x8x1, .f32⟩
  | 29 => ⟨S2x64x256x8x64, .f32⟩
  | 30 => ⟨S2x64x256x8x64, .f32⟩
  | 31 => ⟨S2x64x256x8x64, .f32⟩
  | 32 => ⟨S2x16384x8x64, .f32⟩
  | 33 => ⟨S8x1, .f32⟩
  | 34 => ⟨S1x1x8x1, .f32⟩
  | 35 => ⟨S2x16384x8x64, .f32⟩
  | 36 => ⟨S2x16384x8x64, .f32⟩
  | 37 => ⟨S2x16384x8x64, .f32⟩
  | 38 => ⟨S2x16384x512, .f32⟩
  | 39 => ⟨S2x16384x512, .f32⟩
  | 40 => ⟨S2x16384x512, .f32⟩
  | 41 => ⟨S_, .f32⟩
  | 42 => ⟨S2x16384x512, .f32⟩
  | 43 => ⟨S2x16384x512, .f32⟩
  | 44 => ⟨S_, .f32⟩
  | 45 => ⟨S2x16384x512, .f32⟩
  | 46 => ⟨S2x16384x512, .f32⟩
  | 47 => ⟨S2x16384x512, .f32⟩
  | 48 => ⟨S2x16384x512, .f32⟩
  | 49 => ⟨S2x16384x2x256, .f32⟩
  | 50 => ⟨S2x16384x2x256, .f32⟩
  | 51 => ⟨S_, .f32⟩
  | 52 => ⟨S2x16384x2, .f32⟩
  | 53 => ⟨S2x16384x2x1, .f32⟩
  | 54 => ⟨S_, .f32⟩
  | 55 => ⟨S2x16384x2x1, .f32⟩
  | 56 => ⟨S2x16384x2x1, .f32⟩
  | 57 => ⟨S_, .f32⟩
  | 58 => ⟨S2x16384x2x1, .f32⟩
  | 59 => ⟨S2x16384x2x1, .f32⟩
  | 60 => ⟨S2x16384x2x1, .f32⟩
  | 61 => ⟨S2x16384x2x256, .f32⟩
  | 62 => ⟨S2x16384x2x256, .f32⟩
  | 63 => ⟨S32768x512, .f32⟩
  | 64 => ⟨S1x512, .f32⟩
  | 65 => ⟨S32768x512, .f32⟩
  | 66 => ⟨S32768x512, .f32⟩
  | 67 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_0 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_1 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_call5_v0 : Ref sig .tc := ⟨.hbm, 167, rfl⟩
abbrev main_call5_v1 : Ref sig .tc := ⟨.hbm, 168, rfl⟩
abbrev main_call5_cst : Ref sig .tc := ⟨.hbm, 169, rfl⟩
abbrev main_call5_v2 : Ref sig .tc := ⟨.hbm, 170, rfl⟩
abbrev main_call5_v3 : Ref sig .tc := ⟨.hbm, 171, rfl⟩
abbrev main_call5_cst_0 : Ref sig .tc := ⟨.hbm, 172, rfl⟩
abbrev main_call5_v4 : Ref sig .tc := ⟨.hbm, 173, rfl⟩
abbrev main_call5_v5 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_2 : Ref sig .tc := ⟨.hbm, 179, rfl⟩
abbrev main_v130 : Ref sig .tc := ⟨.hbm, 180, rfl⟩
abbrev main_v131 : Ref sig .tc := ⟨.hbm, 181, rfl⟩
abbrev main_cst_3 : Ref sig .tc := ⟨.hbm, 182, rfl⟩
abbrev main_v132 : Ref sig .tc := ⟨.hbm, 183, rfl⟩
abbrev main_v133 : Ref sig .tc := ⟨.hbm, 184, rfl⟩
abbrev main_cst_4 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩

abbrev nD : Nat := 1
abbrev τ : Topo := Topo.v7x

variable {F : FTy → Type} [FloatOps F]
-- ==== Proof.Stick.lean ====
/- The mathematics of one row of stick-breaking attention over the extended reals: the logarithm of the kept
   fraction, the running sum of the logarithms over the later keys, the weights, and the weighted sum of the
   values, with the way they grow when 128 more keys are taken in. -/
module

public import Idealize.ShloMosaic.PureOps.Ideal
public import Mathlib.Algebra.BigOperators.Intervals
public import Mathlib.Algebra.BigOperators.Fin

@[expose] public section

noncomputable section

namespace Cert.Stick

open Idealize.ShloMosaic Finset

/-- The number of keys. -/
abbrev N : ℕ := 16384

/-- The logarithm of the fraction of the stick that a key of score `x` leaves, `-softplus x`. -/
def lk (x : EReal) : EReal := 0 - (max x 0 + Ideal.log (1 + Ideal.exp (0 - max x (-x))))

/-- The logarithm that key `s` contributes to row `T`: only keys before the row contribute. -/
def keep (z : ℕ → EReal) (T s : ℕ) : EReal := if s < T then lk (z s) else 0

/-- The sum of the logarithms over the keys from `a` on. -/
def later (z : ℕ → EReal) (T a : ℕ) : EReal := ∑ j ∈ Ico a N, keep z T j

/-- The weight of key `s` in row `T`. -/
def att (z : ℕ → EReal) (T s : ℕ) : EReal :=
  if s < T then Ideal.exp (z s + keep z T s + later z T (s + 1)) else 0

/-- The weighted sum of the values of the keys from `a` on. -/
def accum (z v : ℕ → EReal) (T a : ℕ) : EReal := ∑ s ∈ Ico a N, att z T s * v s

/-- A sum over 128 consecutive numbers. -/
theorem sum_block (f : ℕ → EReal) (a : ℕ) : ∑ s ∈ Ico a (a + 128), f s = ∑ c : Fin 128, f (a + c.val) := by
  rw [Finset.sum_Ico_eq_sum_range, Nat.add_sub_cancel_left, Finset.sum_range]

/-- Taking in the 128 keys from `a` adds their logarithms. -/
theorem later_step (z : ℕ → EReal) (T a : ℕ) (h : a + 128 ≤ N) :
    later z T a = later z T (a + 128) + ∑ c : Fin 128, keep z T (a + c.val) := by
  unfold later
  rw [← sum_block, add_comm, Finset.sum_Ico_consecutive _ (by omega) h]

/-- Taking in the 128 keys from `a` adds their weighted values. -/
theorem accum_step (z v : ℕ → EReal) (T a : ℕ) (h : a + 128 ≤ N) :
    accum z v T a = accum z v T (a + 128) + ∑ c : Fin 128, att z T (a + c.val) * v (a + c.val) := by
  unfold accum
  rw [← sum_block (fun s => att z T s * v s), add_comm, Finset.sum_Ico_consecutive _ (by omega) h]

/-- The later keys seen from key `a + c`: those of its block of 128, then those after the block. -/
theorem later_within (z : ℕ → EReal) (T a : ℕ) (h : a + 128 ≤ N) (c : Fin 128) :
    later z T (a + c.val + 1)
      = (∑ e : Fin 128, keep z T (a + e.val) * (if c.val < e.val then 1 else 0)) + later z T (a + 128) := by
  have hc := c.isLt
  unfold later
  rw [← Finset.sum_Ico_consecutive (keep z T) (show a + c.val + 1 ≤ a + 128 by omega) h]
  congr 1
  have := sum_block (fun s => keep z T s * (if a + c.val < s then 1 else 0)) a
  simp only [Nat.add_lt_add_iff_left] at this
  rw [← this, ← Finset.sum_Ico_consecutive _ (show a ≤ a + c.val + 1 by omega) (show a + c.val + 1 ≤ a + 128 by omega)]
  rw [Finset.sum_eq_zero (s := Ico a (a + c.val + 1)), zero_add]
  · refine Finset.sum_congr rfl fun s hs => ?_
    rw [Finset.mem_Ico] at hs
    rw [if_pos (by omega), mul_one]
  · intro s hs
    rw [Finset.mem_Ico] at hs
    rw [if_neg (by omega), mul_zero]

/-- No key from the row's own number on contributes a logarithm. -/
theorem later_of_le (z : ℕ → EReal) (T a : ℕ) (h : T ≤ a) : later z T a = 0 := by
  unfold later
  refine Finset.sum_eq_zero fun s hs => ?_
  rw [Finset.mem_Ico] at hs
  unfold keep; rw [if_neg (by omega)]

/-- No key from the row's own number on has a weight. -/
theorem accum_of_le (z v : ℕ → EReal) (T a : ℕ) (h : T ≤ a) : accum z v T a = 0 := by
  unfold accum
  refine Finset.sum_eq_zero fun s hs => ?_
  rw [Finset.mem_Ico] at hs
  unfold att; rw [if_neg (by omega), zero_mul]

/-- A block of keys before the row: the logarithms are those of the scores. -/
theorem keep_of_lt (z : ℕ → EReal) (T s : ℕ) (h : s < T) : keep z T s = lk (z s) := if_pos h

/-- The weight of key `a + c` of a block of 128 keys that lies before the row, from the block's own logarithms and
    the sum over the keys after the block. -/
theorem att_block (z : ℕ → EReal) (T a : ℕ) (hT : a + 128 ≤ T) (h : a + 128 ≤ N) (c : Fin 128) :
    Ideal.exp (z (a + c.val) + lk (z (a + c.val))
        + (∑ e : Fin 128, lk (z (a + e.val)) * (if c.val < e.val then 1 else 0)) + later z T (a + 128))
      = att z T (a + c.val) := by
  have hc := c.isLt
  unfold att
  rw [if_pos (by omega), later_within z T a h c, keep_of_lt z T _ (by omega), add_assoc (z (a + c.val) + _)]
  congr 3
  refine Finset.sum_congr rfl fun e _ => ?_
  have he := e.isLt
  rw [keep_of_lt z T _ (by omega)]

/-- The weight of key `a + c` of the row's own block of 128 keys. -/
theorem att_diag (z : ℕ → EReal) (a : ℕ) (r : Fin 128) (h : a + 128 ≤ N) (c : Fin 128) :
    (if c.val < r.val then Ideal.exp (z (a + c.val) + (if c.val < r.val then lk (z (a + c.val)) else 0)
        + (∑ e : Fin 128, (if e.val < r.val then lk (z (a + e.val)) else 0) * (if c.val < e.val then 1 else 0))) else 0)
      = att z (a + r.val) (a + c.val) := by
  have hr := r.isLt
  unfold att
  simp only [Nat.add_lt_add_iff_left]
  by_cases hcr : c.val < r.val
  · rw [if_pos hcr, if_pos hcr, if_pos hcr, later_within z _ a h c, later_of_le z _ (a + 128) (by omega), add_zero]
    simp only [keep, Nat.add_lt_add_iff_left, if_pos hcr]
  · rw [if_neg hcr, if_neg hcr]

/-- The whole weighted sum is the sum over the keys of numbers below `N`. -/
theorem accum_zero (z v : ℕ → EReal) (T : ℕ) : accum z v T 0 = ∑ s : Fin N, att z T s.val * v s.val := by
  unfold accum
  rw [Finset.sum_Ico_eq_sum_range, Nat.sub_zero, Finset.sum_range]
  simp only [zero_add]

/-- The sum over the later keys as a sum over all keys with a mask. -/
theorem later_mask (z : ℕ → EReal) (T : ℕ) (s : Fin N) :
    later z T (s.val + 1) = ∑ j : Fin N, keep z T j.val * (if s.val < j.val then 1 else 0) := by
  have hs := s.isLt
  have h0 := Finset.sum_range (n := N) (fun j => keep z T j * (if s.val < j then 1 else 0))
  rw [← h0, Finset.range_eq_Ico, ← Finset.sum_Ico_consecutive _ (show 0 ≤ s.val + 1 by omega) (show s.val + 1 ≤ N by omega)]
  rw [Finset.sum_eq_zero (s := Ico 0 (s.val + 1)), zero_add]
  · unfold later
    refine Finset.sum_congr rfl fun j hj => ?_
    rw [Finset.mem_Ico] at hj
    rw [if_pos (by omega), mul_one]
  · intro j hj
    rw [Finset.mem_Ico] at hj
    rw [if_neg (by omega), mul_zero]

end Cert.Stick

end
-- ==== Proof.Mask.lean ====
module
public import proofs.«01_k».proof.Proof.Gen.AttnIdeal.Skeleton
public import Idealize.ShloMosaic.Lib.Pointwise
@[expose] public section
set_option maxRecDepth 16384
noncomputable section
namespace Cert.AttnIdeal.Hand
open Cert.AttnIdeal Cert.AttnIdeal.Gen Idealize.ShloMosaic Idealize.ShloMosaic.TcCoe Idealize.SL.Sem

/-- The mask of the lower 64 lanes. -/
theorem low_apply (r c : Fin 128) : k0_pay98 (ix2 r c) = BitVec.ofBool (decide (c.val < 64)) := by
  revert r c
  decide +kernel

/-- The mask of the keys before the row, within a block on the diagonal. -/
theorem causal_apply (r c : Fin 128) : k0_pay99 (ix2 r c) = BitVec.ofBool (decide (c.val < r.val)) := by
  revert r c
  decide +kernel

/-- The condition of the block of sums. -/
theorem cum_cond : ∀ (e : Fin 128) (s : Fin 256),
    (ori (cmpi .sgt (iota .tc S128x256 32 [0] iota_S128x256_d0_w32) (iota .tc S128x256 32 [1] iota_S128x256_d1_w32))
      (cmpi .sge (iota .tc S128x256 32 [1] iota_S128x256_d1_w32) (broadcast S128x256 128#32))) (ix2 e s)
      = BitVec.ofBool (decide (s.val < e.val ∨ 128 ≤ s.val)) := by
  decide +kernel

/-- The block of sums: one where the row is after the column, and one in the last 128 columns. -/
theorem cum_apply (e : Fin 128) (s : Fin 256) :
    (k0_pay100 (F := Ideal)) (ix2 e s) = if s.val < e.val ∨ 128 ≤ s.val then 1 else 0 := by
  have h := cum_cond e s
  have h2 : (k0_pay100 (F := Ideal)) (ix2 e s) = Scalar.select ((ori (cmpi .sgt (iota .tc S128x256 32 [0] iota_S128x256_d0_w32) (iota .tc S128x256 32 [1] iota_S128x256_d1_w32))
      (cmpi .sge (iota .tc S128x256 32 [1] iota_S128x256_d1_w32) (broadcast S128x256 128#32))) (ix2 e s)) (1 : EReal) 0 := by
    unfold k0_pay100
    generalize ori _ _ = b
    pointwise []
  rw [h2, h]
  by_cases hc : s.val < e.val ∨ 128 ≤ s.val <;> simp [hc, Scalar.select]

end Cert.AttnIdeal.Hand
end
-- ==== Proof.Tile.lean ====
module
public import proofs.«01_k».proof.Proof.Gen.AttnIdeal.Skeleton
public import proofs.«01_k».proof.Proof.Stick
public import proofs.«01_k».proof.Proof.Mask
public import Idealize.ShloMosaic.Lib.Pointwise
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

/-- An entry of the scores is the product of a query row with a key row. -/
theorem pay3_apply (q k : FVec Ideal S128x128 .bf16) (r c : Fin 128) :
    k0_pay3 q k (ix2 r c) = ∑ d : Fin 128, q (ix2 r d) * k (ix2 c d) := by
  pointwise [k0_pay3]

/-- The logarithm of one minus the gate, entry by entry of the scores. -/
theorem pay4_apply (q k : FVec Ideal S128x128 .bf16) (j : S128x128.Idx) :
    k0_pay4 q k j = lk (k0_pay3 q k j) := by
  unfold k0_pay4
  generalize k0_pay3 q k = z
  pointwise [lk]
  rfl

/-- The running sums of the logarithms of a block, with the block of sums `m`. -/
theorem pay5_apply (m : FVec Ideal S128x256 .bf16) (q k : FVec Ideal S128x128 .bf16) (r : Fin 128) (s : Fin 256) :
    k0_pay5 m q k (ix2 r s) = ∑ e : Fin 128, lk (k0_pay3 q k (ix2 r e)) * m (ix2 e s) := by
  unfold k0_pay5
  have h := pay4_apply q k
  generalize k0_pay4 q k = z at h
  pointwise []
  simp only [h]

/-- The weight: exponential of score, logarithm, running sum and carry. -/
theorem pay6_apply (m : FVec Ideal S128x256 .bf16) (q k : FVec Ideal S128x128 .bf16) (y : Vec Ideal S1x128x128 .f32) (r c : Fin 128) :
    k0_pay6 m q k y (ix2 r c) = Ideal.exp (k0_pay3 q k (ix2 r c) + lk (k0_pay3 q k (ix2 r c)) + k0_pay5 m q k (ix2 r ⟨c.val, by omega⟩) + y (ix3 0 r c)) := by
  unfold k0_pay6
  rw [← pay4_apply]
  generalize k0_pay4 q k = z4
  generalize k0_pay3 q k = z3
  generalize k0_pay5 m q k = z5
  pointwise []

/-- The carry takes in the total of the block. -/
theorem pay7_apply (m : FVec Ideal S128x256 .bf16) (q k : FVec Ideal S128x128 .bf16) (y : Vec Ideal S1x128x128 .f32) (r c : Fin 128) :
    k0_pay7 m q k y (ix3 0 r c) = y (ix3 0 r c) + k0_pay5 m q k (ix2 r ⟨128 + c.val, by omega⟩) := by
  unfold k0_pay7
  generalize k0_pay5 m q k = z5
  pointwise []

/-- The accumulator takes in the weighted values of the block. -/
theorem pay8_apply (v a : FVec Ideal S128x128 .bf16) (y : Vec Ideal S1x128x128 .f32) (r c : Fin 128) :
    k0_pay8 v a y (ix3 0 r c) = y (ix3 0 r c) + ∑ e : Fin 128, a (ix2 r e) * v (ix2 e c) := by
  pointwise [k0_pay8]

/-- The running sum within a block. -/
theorem cum_low (z : Fin 128 → EReal) (c : Fin 128) (h : c.val < 256) :
    (∑ e : Fin 128, z e * (k0_pay100 (F := Ideal)) (ix2 e ⟨c.val, h⟩)) = ∑ e : Fin 128, z e * (if c.val < e.val then 1 else 0) := by
  have hc := c.isLt
  refine Finset.sum_congr rfl fun e _ => ?_
  rw [cum_apply]
  have : (c.val < e.val ∨ 128 ≤ c.val) ↔ c.val < e.val := by omega
  simp only [this]

/-- The total of a block. -/
theorem cum_high (z : Fin 128 → EReal) (c : Fin 128) (h : 128 + c.val < 256) :
    (∑ e : Fin 128, z e * (k0_pay100 (F := Ideal)) (ix2 e ⟨128 + c.val, h⟩)) = ∑ e : Fin 128, z e := by
  refine Finset.sum_congr rfl fun e _ => ?_
  rw [cum_apply, if_pos (Or.inr (by simp)), mul_one]

/-- The queries of the first head: the lower 64 lanes. -/
theorem head0_apply (q : FVec Ideal S128x128 .bf16) (r d : Fin 128) :
    k0_pay153 (F := Ideal) k0_pay98 q (ix2 r d) = if d.val < 64 then q (ix2 r d) else 0 := by
  have h := low_apply r d
  generalize k0_pay98 = b at h
  have h2 : k0_pay153 (F := Ideal) b q (ix2 r d) = Scalar.select (b (ix2 r d)) (q (ix2 r d)) (0 : EReal) := by
    pointwise [k0_pay153, k0_pay152]
  rw [h2, h]
  by_cases hc : d.val < 64 <;> simp [hc, Scalar.select]

/-- The queries of the second head: the upper 64 lanes. -/
theorem head1_apply (q : FVec Ideal S128x128 .bf16) (r d : Fin 128) :
    k0_pay154 (F := Ideal) k0_pay98 q (ix2 r d) = if d.val < 64 then 0 else q (ix2 r d) := by
  have h := low_apply r d
  generalize k0_pay98 = b at h
  have h2 : k0_pay154 (F := Ideal) b q (ix2 r d) = Scalar.select (b (ix2 r d)) (0 : EReal) (q (ix2 r d)) := by
    pointwise [k0_pay154, k0_pay152]
  rw [h2, h]
  by_cases hc : d.val < 64 <;> simp [hc, Scalar.select]

/-- The written block: the lower 64 lanes from the first head, the others from the second. -/
theorem merge_apply (a b : Vec Ideal S1x128x128 .f32) (r c : Fin 128) :
    k0_pay151 k0_pay98 a b (ix2 r c) = if c.val < 64 then a (ix3 0 r c) else b (ix3 0 r c) := by
  have h := low_apply r c
  generalize k0_pay98 = m at h
  have h2 : k0_pay151 m a b (ix2 r c) = Scalar.select (m (ix2 r c)) (a (ix3 0 r c)) (b (ix3 0 r c)) := by
    pointwise [k0_pay151]
  rw [h2, h]
  by_cases hc : c.val < 64 <;> simp [hc, Scalar.select]

/-- The masked logarithms of a block on the diagonal. -/
theorem pay156_apply (q k : FVec Ideal S128x128 .bf16) (r c : Fin 128) :
    k0_pay156 k0_pay99 q k (ix2 r c) = if c.val < r.val then lk (k0_pay3 q k (ix2 r c)) else 0 := by
  have h := causal_apply r c
  generalize k0_pay99 = m at h
  have h2 : k0_pay156 m q k (ix2 r c) = Scalar.select (m (ix2 r c)) (lk (k0_pay3 q k (ix2 r c))) (0 : EReal) := by
    unfold k0_pay156
    have h3 : k0_pay155 q k = k0_pay3 q k := rfl
    rw [h3]
    generalize k0_pay3 q k = z
    pointwise [lk]
    rfl
  rw [h2, h]
  by_cases hc : c.val < r.val <;> simp [hc, Scalar.select]

/-- The running sums of the masked logarithms. -/
theorem pay157_apply (b : IVec S128x128 1) (m : FVec Ideal S128x256 .bf16) (q k : FVec Ideal S128x128 .bf16) (r : Fin 128) (s : Fin 256) :
    k0_pay157 b m q k (ix2 r s) = ∑ e : Fin 128, k0_pay156 b q k (ix2 r e) * m (ix2 e s) := by
  unfold k0_pay157
  generalize k0_pay156 b q k = z
  pointwise []

/-- The first carry of a row: the total of the masked logarithms. -/
theorem pay158_apply (b : IVec S128x128 1) (m : FVec Ideal S128x256 .bf16) (q k : FVec Ideal S128x128 .bf16) (r c : Fin 128) :
    k0_pay158 b m q k (ix3 0 r c) = k0_pay157 b m q k (ix2 r ⟨128 + c.val, by omega⟩) := by
  unfold k0_pay158
  generalize k0_pay157 b m q k = z
  pointwise []

/-- The first accumulator of a row: the weighted values of the block on the diagonal. -/
theorem pay159_apply (m : FVec Ideal S128x256 .bf16) (q k v : FVec Ideal S128x128 .bf16) (r c : Fin 128) :
    k0_pay159 k0_pay99 m q k v (ix3 0 r c) = ∑ e : Fin 128,
      (if e.val < r.val then Ideal.exp (k0_pay3 q k (ix2 r e) + k0_pay156 k0_pay99 q k (ix2 r e)
        + k0_pay157 k0_pay99 m q k (ix2 r ⟨e.val, by omega⟩)) else 0) * v (ix2 e c) := by
  have h := causal_apply r
  unfold k0_pay159
  have h3 : k0_pay155 q k = k0_pay3 q k := rfl
  rw [h3]
  generalize k0_pay157 k0_pay99 m q k = z7
  generalize k0_pay156 k0_pay99 q k = z6
  generalize k0_pay3 q k = z3
  generalize k0_pay99 = b at h
  pointwise []
  refine Finset.sum_congr rfl fun e _ => ?_
  rw [h]
  by_cases hc : e.val < r.val <;> simp [hc, Scalar.select]

end Cert.AttnIdeal.Hand
end
-- ==== Proof.Sweep.lean ====
module
public import proofs.«01_k».proof.Proof.Tile
public import Idealize.ShloMosaic.Lib.Writes
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

/-- The score of a row of the queries `q` with the key at place `s`. -/
def score (q : FVec Ideal S128x128 .bf16) (K : S16384x128.Idx → EReal) (r : Fin 128) (s : ℕ) : EReal :=
  if h : s < 16384 then ∑ d : Fin 128, q (ix2 r d) * K (ix2 ⟨s, h⟩ d) else 0

/-- Lane `c` of the value at place `s`. -/
def value (V : S16384x128.Idx → EReal) (c : Fin 128) (s : ℕ) : EReal :=
  if h : s < 16384 then V (ix2 ⟨s, h⟩ c) else 0

/-- A block of rows of an array, from row `a`. -/
def IsRows (a : ℕ) (K : S16384x128.Idx → EReal) (k : FVec Ideal S128x128 .bf16) : Prop :=
  ∀ (c d : Fin 128) (h : a + c.val < 16384), k (ix2 c d) = K (ix2 ⟨a + c.val, h⟩ d)

/-- The scores of a block. -/
theorem score_block (q k : FVec Ideal S128x128 .bf16) (K : S16384x128.Idx → EReal) (a : ℕ) (hk : IsRows a K k)
    (ha : a + 128 ≤ N) (r c : Fin 128) : k0_pay3 q k (ix2 r c) = score q K r (a + c.val) := by
  have hc := c.isLt
  have h : a + c.val < 16384 := by unfold N at ha; omega
  rw [pay3_apply, score, dif_pos h]
  exact Finset.sum_congr rfl fun d _ => by rw [hk c d h]

/-- The values of a block. -/
theorem value_block (v : FVec Ideal S128x128 .bf16) (V : S16384x128.Idx → EReal) (a : ℕ) (hv : IsRows a V v)
    (ha : a + 128 ≤ N) (e c : Fin 128) : v (ix2 e c) = value V c (a + e.val) := by
  have he := e.isLt
  have h : a + e.val < 16384 := by unfold N at ha; omega
  rw [value, dif_pos h, hv e c h]

/-- The carry after one more block before the rows. -/
theorem carry_step (q k : FVec Ideal S128x128 .bf16) (K : S16384x128.Idx → EReal) (a T : ℕ) (hk : IsRows a K k)
    (hT : a + 128 ≤ T) (ha : a + 128 ≤ N) (y : Vec Ideal S1x128x128 .f32) (r c : Fin 128)
    (hy : y (ix3 0 r c) = later (score q K r) (T + r.val) (a + 128)) :
    k0_pay7 k0_pay100 q k y (ix3 0 r c) = later (score q K r) (T + r.val) a := by
  rw [pay7_apply, pay5_apply, cum_high (fun e => lk (k0_pay3 q k (ix2 r e))) c, hy, later_step _ _ _ ha]
  congr 1
  refine Finset.sum_congr rfl fun e _ => ?_
  have he := e.isLt
  rw [score_block q k K a hk ha, keep_of_lt _ _ _ (by omega)]

/-- The weights of one more block before the rows. -/
theorem weight_step (q k : FVec Ideal S128x128 .bf16) (K : S16384x128.Idx → EReal) (a T : ℕ) (hk : IsRows a K k)
    (hT : a + 128 ≤ T) (ha : a + 128 ≤ N) (y : Vec Ideal S1x128x128 .f32) (r c : Fin 128)
    (hy : y (ix3 0 r c) = later (score q K r) (T + r.val) (a + 128)) :
    k0_pay6 k0_pay100 q k y (ix2 r c) = att (score q K r) (T + r.val) (a + c.val) := by
  rw [pay6_apply, pay5_apply, cum_low (fun e => lk (k0_pay3 q k (ix2 r e))) c, hy,
    ← att_block _ _ _ (by omega) ha c]
  simp only [score_block q k K a hk ha]

/-- The accumulator after one more block before the rows. -/
theorem acc_step (q k v : FVec Ideal S128x128 .bf16) (K V : S16384x128.Idx → EReal) (a T : ℕ) (hk : IsRows a K k)
    (hv : IsRows a V v) (hT : a + 128 ≤ T) (ha : a + 128 ≤ N) (y x : Vec Ideal S1x128x128 .f32) (r c : Fin 128)
    (hy : ∀ c, y (ix3 0 r c) = later (score q K r) (T + r.val) (a + 128))
    (hx : x (ix3 0 r c) = accum (score q K r) (value V c) (T + r.val) (a + 128)) :
    k0_pay8 v (k0_pay6 k0_pay100 q k y) x (ix3 0 r c) = accum (score q K r) (value V c) (T + r.val) a := by
  rw [pay8_apply, hx, accum_step _ _ _ _ ha]
  congr 1
  refine Finset.sum_congr rfl fun e _ => ?_
  rw [weight_step q k K a T hk hT ha y r e (hy e), value_block v V a hv ha]

/-- The carry after the block on the diagonal. -/
theorem carry_diag (q k : FVec Ideal S128x128 .bf16) (K : S16384x128.Idx → EReal) (a : ℕ) (hk : IsRows a K k)
    (ha : a + 128 ≤ N) (r c : Fin 128) :
    k0_pay158 k0_pay99 k0_pay100 q k (ix3 0 r c) = later (score q K r) (a + r.val) a := by
  have hr := r.isLt
  rw [pay158_apply, pay157_apply, cum_high (fun e => k0_pay156 k0_pay99 q k (ix2 r e)) c, later_step _ _ _ ha,
    later_of_le _ _ _ (by omega), zero_add]
  refine Finset.sum_congr rfl fun e _ => ?_
  rw [pay156_apply, score_block q k K a hk ha]
  unfold keep
  simp only [Nat.add_lt_add_iff_left]

/-- The accumulator after the block on the diagonal. -/
theorem acc_diag (q k v : FVec Ideal S128x128 .bf16) (K V : S16384x128.Idx → EReal) (a : ℕ) (hk : IsRows a K k)
    (hv : IsRows a V v) (ha : a + 128 ≤ N) (r c : Fin 128) :
    k0_pay159 k0_pay99 k0_pay100 q k v (ix3 0 r c) = accum (score q K r) (value V c) (a + r.val) a := by
  have hr := r.isLt
  rw [pay159_apply, accum_step _ _ _ _ ha, accum_of_le _ _ _ _ (by omega), zero_add]
  refine Finset.sum_congr rfl fun e _ => ?_
  rw [pay157_apply, cum_low (fun e => k0_pay156 k0_pay99 q k (ix2 r e)) e, value_block v V a hv ha,
    ← att_diag _ a r ha e]
  simp only [pay156_apply, score_block q k K a hk ha]

/-- The two scratch contents stand at key `a`: the carry holds the sums of the logarithms from `a` on and the
    accumulator the weighted values from `a` on, for either head (`q0`, `q1`) and the rows from `T`. -/
structure Holds (q0 q1 : FVec Ideal S128x128 .bf16) (K V : S16384x128.Idx → EReal) (T a : ℕ)
    (x y : S2x128x128.Idx → EReal) : Prop where
  acc0 : ∀ r c : Fin 128, x (ix3 0 r c) = accum (score q0 K r) (value V c) (T + r.val) a
  acc1 : ∀ r c : Fin 128, x (ix3 1 r c) = accum (score q1 K r) (value V c) (T + r.val) a
  car0 : ∀ r c : Fin 128, y (ix3 0 r c) = later (score q0 K r) (T + r.val) a
  car1 : ∀ r c : Fin 128, y (ix3 1 r c) = later (score q1 K r) (T + r.val) a

section
variable (A : Memref sig .tc .vmem S2x128x128 .f32) (f : A.view.ty.Contents (Elt Ideal))
variable (h0 : ∀ a, (![0, 0, 0] : Fin 3 → ℕ) a + S1x128x128.size a ≤ S2x128x128.size a)
variable (h1 : ∀ a, (![1, 0, 0] : Fin 3 → ℕ) a + S1x128x128.size a ≤ S2x128x128.size a)

/-- A load of the first head's half. -/
theorem load0 (r c : Fin 128) :
    A.view.readAt (Elt Ideal) (Rect.unit (s := S2x128x128) ![0, 0, 0] S1x128x128.size h0).toLoadRect f (ix3 0 r c)
      = A.view.read (Elt Ideal) f (ix3 0 r c) := by
  rw [View.readAt_apply]
  congr 1
  funext a
  apply Fin.ext
  fin_cases a <;> simp [LoadRect.idx, Rect.toLoadRect, Rect.unit]

/-- A load of the second head's half. -/
theorem load1 (r c : Fin 128) :
    A.view.readAt (Elt Ideal) (Rect.unit (s := S2x128x128) ![1, 0, 0] S1x128x128.size h1).toLoadRect f (ix3 0 r c)
      = A.view.read (Elt Ideal) f (ix3 1 r c) := by
  rw [View.readAt_apply]
  congr 1
  funext a
  apply Fin.ext
  fin_cases a <;> simp [LoadRect.idx, Rect.toLoadRect, Rect.unit]

variable (w1 w0 : Vec Ideal S1x128x128 .f32)

/-- After the stores of both halves, the second head's half. -/
theorem stored1 (L : List (View.Piece (Elt Ideal) S2x128x128 .f32)) (r c : Fin 128) :
    A.view.read (Elt Ideal) (A.view.writes (Elt Ideal) f (⟨Rect.unit (s := S2x128x128) ![1, 0, 0] S1x128x128.size h1, w1⟩
      :: ⟨Rect.unit (s := S2x128x128) ![0, 0, 0] S1x128x128.size h0, w0⟩ :: L)) (ix3 1 r c) = w1 (ix3 0 r c) := by
  have hx : ∀ a : Fin 3, ((ix3 1 r c : S2x128x128.Idx) a).val
      = (Rect.unit (s := S2x128x128) ![1, 0, 0] S1x128x128.size h1).off a
        + (Rect.unit (s := S2x128x128) ![1, 0, 0] S1x128x128.size h1).stride a * ((ix3 0 r c : S1x128x128.Idx) a).val := by
    intro a
    fin_cases a <;> simp [Rect.unit]
  exact View.read_writes_cons_hit_of_coords A.view f (Rect.unit (s := S2x128x128) ![1, 0, 0] S1x128x128.size h1) w1 _
    (ix3 0 r c : S1x128x128.Idx) (ix3 1 r c) hx

/-- After the stores of both halves, the first head's half. -/
theorem stored0 (L : List (View.Piece (Elt Ideal) S2x128x128 .f32)) (r c : Fin 128) :
    A.view.read (Elt Ideal) (A.view.writes (Elt Ideal) f (⟨Rect.unit (s := S2x128x128) ![1, 0, 0] S1x128x128.size h1, w1⟩
      :: ⟨Rect.unit (s := S2x128x128) ![0, 0, 0] S1x128x128.size h0, w0⟩ :: L)) (ix3 0 r c) = w0 (ix3 0 r c) := by
  rw [View.read_writes_cons_miss_of_axis _ _ _ _ _ (0 : Fin 3) 1 1 rfl rfl rfl (Or.inl (by simp))]
  have hx : ∀ a : Fin 3, ((ix3 0 r c : S2x128x128.Idx) a).val
      = (Rect.unit (s := S2x128x128) ![0, 0, 0] S1x128x128.size h0).off a
        + (Rect.unit (s := S2x128x128) ![0, 0, 0] S1x128x128.size h0).stride a * ((ix3 0 r c : S1x128x128.Idx) a).val := by
    intro a
    fin_cases a <;> simp [Rect.unit]
  exact View.read_writes_cons_hit_of_coords A.view f (Rect.unit (s := S2x128x128) ![0, 0, 0] S1x128x128.size h0) w0 _
    (ix3 0 r c : S1x128x128.Idx) (ix3 0 r c) hx

end

/-- A load of 128 rows of an array from row `a`. -/
theorem load_rows (A : Memref sig .tc .vmem S16384x128 .bf16) (f : A.view.ty.Contents (Elt Ideal)) (off : Fin 2 → ℕ) (a : ℕ)
    (ho : off = ![a, 0]) (h : ∀ b, off b + S128x128.size b ≤ S16384x128.size b) :
    IsRows a (A.view.read (Elt Ideal) f)
      (A.view.readAt (Elt Ideal) (Rect.unit (s := S16384x128) off S128x128.size h).toLoadRect f) := by
  subst ho
  intro c d hc
  rw [View.readAt_apply]
  congr 1
  funext b
  apply Fin.ext
  fin_cases b <;> simp [LoadRect.idx, Rect.toLoadRect, Rect.unit]

section
variable (A7 A8 : Memref sig .tc .vmem S2x128x128 .f32)
variable (h0 : ∀ a, (![0, 0, 0] : Fin 3 → ℕ) a + S1x128x128.size a ≤ S2x128x128.size a)
variable (h1 : ∀ a, (![1, 0, 0] : Fin 3 → ℕ) a + S1x128x128.size a ≤ S2x128x128.size a)
variable (q0 q1 : FVec Ideal S128x128 .bf16) (K V : S16384x128.Idx → EReal)

/-- The pieces the accumulator takes in one trip. -/
def accPieces (f7 : A7.view.ty.Contents (Elt Ideal)) (f8 : A8.view.ty.Contents (Elt Ideal)) (k v : FVec Ideal S128x128 .bf16) :
    List (View.Piece (Elt Ideal) S2x128x128 .f32) :=
  [⟨Rect.unit (s := S2x128x128) ![1, 0, 0] S1x128x128.size h1, k0_pay8 v (k0_pay6 k0_pay100 q1 k
      (A8.view.readAt (Elt Ideal) (Rect.unit (s := S2x128x128) ![1, 0, 0] S1x128x128.size h1).toLoadRect f8))
      (A7.view.readAt (Elt Ideal) (Rect.unit (s := S2x128x128) ![1, 0, 0] S1x128x128.size h1).toLoadRect f7)⟩,
   ⟨Rect.unit (s := S2x128x128) ![0, 0, 0] S1x128x128.size h0, k0_pay8 v (k0_pay6 k0_pay100 q0 k
      (A8.view.readAt (Elt Ideal) (Rect.unit (s := S2x128x128) ![0, 0, 0] S1x128x128.size h0).toLoadRect f8))
      (A7.view.readAt (Elt Ideal) (Rect.unit (s := S2x128x128) ![0, 0, 0] S1x128x128.size h0).toLoadRect f7)⟩]

/-- The pieces the carry takes in one trip. -/
def carPieces (f8 : A8.view.ty.Contents (Elt Ideal)) (k : FVec Ideal S128x128 .bf16) :
    List (View.Piece (Elt Ideal) S2x128x128 .f32) :=
  [⟨Rect.unit (s := S2x128x128) ![1, 0, 0] S1x128x128.size h1, k0_pay7 k0_pay100 q1 k
      (A8.view.readAt (Elt Ideal) (Rect.unit (s := S2x128x128) ![1, 0, 0] S1x128x128.size h1).toLoadRect f8)⟩,
   ⟨Rect.unit (s := S2x128x128) ![0, 0, 0] S1x128x128.size h0, k0_pay7 k0_pay100 q0 k
      (A8.view.readAt (Elt Ideal) (Rect.unit (s := S2x128x128) ![0, 0, 0] S1x128x128.size h0).toLoadRect f8)⟩]

/-- One trip moves the scratch contents one block down. -/
theorem holds_trip (f7 : A7.view.ty.Contents (Elt Ideal)) (f8 : A8.view.ty.Contents (Elt Ideal)) (k v : FVec Ideal S128x128 .bf16)
    (a T : ℕ) (hk : IsRows a K k) (hv : IsRows a V v) (hT : a + 128 ≤ T) (ha : a + 128 ≤ N)
    (H : Holds q0 q1 K V T (a + 128) (A7.view.read (Elt Ideal) f7) (A8.view.read (Elt Ideal) f8)) :
    Holds q0 q1 K V T a (A7.view.read (Elt Ideal) (A7.view.writes (Elt Ideal) f7 (accPieces A7 A8 h0 h1 q0 q1 f7 f8 k v)))
      (A8.view.read (Elt Ideal) (A8.view.writes (Elt Ideal) f8 (carPieces A8 h0 h1 q0 q1 f8 k))) where
  acc0 r c := by
    unfold accPieces
    rw [stored0 A7 f7 h0 h1]
    exact acc_step q0 k v K V a T hk hv hT ha _ _ r c (fun c => by rw [load0, H.car0]) (by rw [load0, H.acc0])
  acc1 r c := by
    unfold accPieces
    rw [stored1 A7 f7 h0 h1]
    exact acc_step q1 k v K V a T hk hv hT ha _ _ r c (fun c => by rw [load1, H.car1]) (by rw [load1, H.acc1])
  car0 r c := by
    unfold carPieces
    rw [stored0 A8 f8 h0 h1]
    exact carry_step q0 k K a T hk hT ha _ r c (by rw [load0, H.car0])
  car1 r c := by
    unfold carPieces
    rw [stored1 A8 f8 h0 h1]
    exact carry_step q1 k K a T hk hT ha _ r c (by rw [load1, H.car1])

/-- The block on the diagonal starts the scratch contents, whatever was there. -/
theorem holds_diag (f7 : A7.view.ty.Contents (Elt Ideal)) (f8 : A8.view.ty.Contents (Elt Ideal)) (k v : FVec Ideal S128x128 .bf16)
    (a : ℕ) (hk : IsRows a K k) (hv : IsRows a V v) (ha : a + 128 ≤ N) (L7 L8 : List (View.Piece (Elt Ideal) S2x128x128 .f32)) :
    Holds q0 q1 K V a a
      (A7.view.read (Elt Ideal) (A7.view.writes (Elt Ideal) f7
        (⟨Rect.unit (s := S2x128x128) ![1, 0, 0] S1x128x128.size h1, k0_pay159 k0_pay99 k0_pay100 q1 k v⟩
          :: ⟨Rect.unit (s := S2x128x128) ![0, 0, 0] S1x128x128.size h0, k0_pay159 k0_pay99 k0_pay100 q0 k v⟩ :: L7)))
      (A8.view.read (Elt Ideal) (A8.view.writes (Elt Ideal) f8
        (⟨Rect.unit (s := S2x128x128) ![1, 0, 0] S1x128x128.size h1, k0_pay158 k0_pay99 k0_pay100 q1 k⟩
          :: ⟨Rect.unit (s := S2x128x128) ![0, 0, 0] S1x128x128.size h0, k0_pay158 k0_pay99 k0_pay100 q0 k⟩ :: L8))) where
  acc0 r c := by rw [stored0 A7 f7 h0 h1]; exact acc_diag q0 k v K V a hk hv ha r c
  acc1 r c := by rw [stored1 A7 f7 h0 h1]; exact acc_diag q1 k v K V a hk hv ha r c
  car0 r c := by rw [stored0 A8 f8 h0 h1]; exact carry_diag q0 k K a hk ha r c
  car1 r c := by rw [stored1 A8 f8 h0 h1]; exact carry_diag q1 k K a hk ha r c

/-- A state that takes the pieces of one trip per step. -/
theorem holds_loop (n : ℕ) (st : ℕ → BitVec 32 × List (View.Piece (Elt Ideal) S2x128x128 .f32) × List (View.Piece (Elt Ideal) S2x128x128 .f32))
    (G7 : A7.view.ty.Contents (Elt Ideal)) (G8 : A8.view.ty.Contents (Elt Ideal)) (T : ℕ) (I : ℕ) (hI : T = I * 128) (hT : T + 128 ≤ N) (hn : n = I)
    (k v : Fin n → FVec Ideal S128x128 .bf16)
    (z7 : (st 0).2.1 = []) (z8 : (st 0).2.2 = [])
    (s7 : ∀ i : Fin n, (st (i.val + 1)).2.1 = accPieces A7 A8 h0 h1 q0 q1 (A7.view.writes (Elt Ideal) G7 (st i.val).2.1)
      (A8.view.writes (Elt Ideal) G8 (st i.val).2.2) (k i) (v i) ++ (st i.val).2.1)
    (s8 : ∀ i : Fin n, (st (i.val + 1)).2.2 = carPieces A8 h0 h1 q0 q1
      (A8.view.writes (Elt Ideal) G8 (st i.val).2.2) (k i) ++ (st i.val).2.2)
    (hk : ∀ i : Fin n, IsRows ((I - 1 - i.val) * 128) K (k i)) (hv : ∀ i : Fin n, IsRows ((I - 1 - i.val) * 128) V (v i))
    (H : Holds q0 q1 K V T T (A7.view.read (Elt Ideal) G7) (A8.view.read (Elt Ideal) G8)) :
    Holds q0 q1 K V T 0 (A7.view.read (Elt Ideal) (A7.view.writes (Elt Ideal) G7 (st n).2.1))
      (A8.view.read (Elt Ideal) (A8.view.writes (Elt Ideal) G8 (st n).2.2)) := by
  have key : ∀ m : ℕ, m ≤ n → Holds q0 q1 K V T ((I - m) * 128) (A7.view.read (Elt Ideal) (A7.view.writes (Elt Ideal) G7 (st m).2.1))
      (A8.view.read (Elt Ideal) (A8.view.writes (Elt Ideal) G8 (st m).2.2)) := by
    intro m
    induction m with
    | zero =>
      intro _
      rw [z7, z8, Nat.sub_zero, ← hI]
      exact H
    | succ m ih =>
      intro hm
      have hp := ih (by omega)
      have e7 := s7 ⟨m, hm⟩
      have e8 := s8 ⟨m, hm⟩
      dsimp only at e7 e8
      rw [e7, e8, View.writes_append, View.writes_append]
      have ea : (I - (m + 1)) * 128 = (I - 1 - m) * 128 := by congr 1; omega
      have eb : (I - m) * 128 = (I - 1 - m) * 128 + 128 := by
        have : I - m = I - 1 - m + 1 := by omega
        rw [this, Nat.add_mul]
      rw [eb] at hp
      rw [ea]
      exact holds_trip A7 A8 h0 h1 q0 q1 K V _ _ _ _ _ T (hk ⟨m, hm⟩) (hv ⟨m, hm⟩) (by omega) (by unfold N at *; omega) hp
  have h := key n le_rfl
  rwa [hn, Nat.sub_self, Nat.zero_mul, ← hn] at h

end

end Cert.AttnIdeal.Hand
end
-- ==== Proof.Where.lean ====
module
public import proofs.«01_k».proof.Proof.Gen.AttnIdeal.Skeleton
@[expose] public section
set_option maxRecDepth 16384
noncomputable section
namespace Cert.AttnIdeal.Hand
open Cert.AttnIdeal Cert.AttnIdeal.Gen Idealize.ShloMosaic Idealize.ShloMosaic.TcCoe Idealize.SL.Sem

/-- The loop over earlier blocks of query block 0: its trips. -/
theorem trips0 : ∀ i : grid0.Coords, (k0_t1_loop i).trips = 4 * (i 2).val + 0 := by decide +kernel
/-- The rest loop of query block 0 makes no trip. -/
theorem rest0 : ∀ i : grid0.Coords, (k0_t2_loop i).trips = 0 := by decide +kernel
/-- The block on the diagonal of query block 0. -/
theorem diag0 : ∀ i : grid0.Coords, k0_off1 i 0#32 = ![(4 * (i 2).val + 0) * 128, 0] := by decide +kernel
/-- The block a trip of query block 0 reads. -/
theorem trip0 : ∀ (i : grid0.Coords) (k : Fin (k0_t1_loop i).trips),
    k0_off2 i k = ![(4 * (i 2).val + 0 - 1 - k.val) * 128, 0] := by decide +kernel

/-- The loop over earlier blocks of query block 1: its trips. -/
theorem trips1 : ∀ i : grid0.Coords, (k0_t3_loop i).trips = 4 * (i 2).val + 1 := by decide +kernel
/-- The rest loop of query block 1 makes no trip. -/
theorem rest1 : ∀ i : grid0.Coords, (k0_t4_loop i).trips = 0 := by decide +kernel
/-- The block on the diagonal of query block 1. -/
theorem diag1 : ∀ i : grid0.Coords, k0_off1 i 1#32 = ![(4 * (i 2).val + 1) * 128, 0] := by decide +kernel
/-- The block a trip of query block 1 reads. -/
theorem trip1 : ∀ (i : grid0.Coords) (k : Fin (k0_t3_loop i).trips),
    k0_off4 i k = ![(4 * (i 2).val + 1 - 1 - k.val) * 128, 0] := by decide +kernel

/-- The loop over earlier blocks of query block 2: its trips. -/
theorem trips2 : ∀ i : grid0.Coords, (k0_t5_loop i).trips = 4 * (i 2).val + 2 := by decide +kernel
/-- The rest loop of query block 2 makes no trip. -/
theorem rest2 : ∀ i : grid0.Coords, (k0_t6_loop i).trips = 0 := by decide +kernel
/-- The block on the diagonal of query block 2. -/
theorem diag2 : ∀ i : grid0.Coords, k0_off1 i 2#32 = ![(4 * (i 2).val + 2) * 128, 0] := by decide +kernel
/-- The block a trip of query block 2 reads. -/
theorem trip2 : ∀ (i : grid0.Coords) (k : Fin (k0_t5_loop i).trips),
    k0_off6 i k = ![(4 * (i 2).val + 2 - 1 - k.val) * 128, 0] := by decide +kernel

/-- The loop over earlier blocks of query block 3: its trips. -/
theorem trips3 : ∀ i : grid0.Coords, (k0_t7_loop i).trips = 4 * (i 2).val + 3 := by decide +kernel
/-- The rest loop of query block 3 makes no trip. -/
theorem rest3 : ∀ i : grid0.Coords, (k0_t8_loop i).trips = 0 := by decide +kernel
/-- The block on the diagonal of query block 3. -/
theorem diag3 : ∀ i : grid0.Coords, k0_off1 i 3#32 = ![(4 * (i 2).val + 3) * 128, 0] := by decide +kernel
/-- The block a trip of query block 3 reads. -/
theorem trip3 : ∀ (i : grid0.Coords) (k : Fin (k0_t7_loop i).trips),
    k0_off8 i k = ![(4 * (i 2).val + 3 - 1 - k.val) * 128, 0] := by decide +kernel

end Cert.AttnIdeal.Hand
end
-- ==== Proof.Swept.lean ====
module
public import proofs.«01_k».proof.Proof.Gen.AttnIdeal.Loops
public import proofs.«01_k».proof.Proof.Sweep
public import proofs.«01_k».proof.Proof.Where
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

/-- A block of values cast to its own shape. -/
theorem pay2_eq (v : Vec Ideal S128x128 .bf16) : k0_pay2 v = v := by
  funext j
  obtain ⟨r, c, rfl⟩ : ∃ r c, j = ix2 r c := ⟨j 0, j 1, by funext a; fin_cases a <;> rfl⟩
  pointwise [k0_pay2]

/-- After the loop of query block 0 the scratch contents stand at key 0. -/
theorem swept0 {𝒱 : Variants} {c : Dev nD} {bd : Option 𝒱.V} {i : grid0.Coords} {arg3 : Memref sig .tc .vmem S512x128 .bf16} {harg3 : arg3.IsWhole} {arg4 : Memref sig .tc .vmem S16384x128 .bf16} {harg4 : arg4.IsWhole} {arg5 : Memref sig .tc .vmem S16384x128 .bf16} {harg5 : arg5.IsWhole} {arg6 : Memref sig .tc .vmem S512x128 .bf16} {harg6 : arg6.IsWhole} {arg7 : Memref sig .tc .vmem S2x128x128 .f32} {harg7 : arg7.IsWhole} {arg8 : Memref sig .tc .vmem S2x128x128 .f32} {harg8 : arg8.IsWhole} {v3 : IVec S128x128 1} {v6 : IVec S128x128 1} {v16 : FVec Ideal S128x256 .bf16} {v17 : BitVec 32} {v21 : FVec Ideal S128x128 .bf16} {v23 : FVec Ideal S128x128 .bf16} {v71 : FVec Ideal S128x128 .bf16} {v72 : FVec Ideal S128x128 .f32} {v74 : FVec Ideal S128x128 .f32} {v78 : FVec Ideal S128x128 .f32} {v79 : FVec Ideal S128x128 .f32} {X_arg4 : BufTy.Contents (Elt Ideal) arg4.view.ty} {X_arg5 : BufTy.Contents (Elt Ideal) arg5.view.ty} {G_arg7 : BufTy.Contents (Elt Ideal) arg7.view.ty} {G_arg8 : BufTy.Contents (Elt Ideal) arg8.view.ty} {init : BitVec 32}
    (h0 : ∀ a, (![0, 0, 0] : Fin 3 → ℕ) a + S1x128x128.size a ≤ S2x128x128.size a)
    (h1 : ∀ a, (![1, 0, 0] : Fin 3 → ℕ) a + S1x128x128.size a ≤ S2x128x128.size a)
    (h16 : v16 = k0_pay100)
    (H : Holds v21 v23 (arg4.view.read (Elt Ideal) X_arg4) (arg5.view.read (Elt Ideal) X_arg5) ((4 * (i 2).val + 0) * 128)
      ((4 * (i 2).val + 0) * 128) (arg7.view.read (Elt Ideal) G_arg7) (arg8.view.read (Elt Ideal) G_arg8)) :
    Holds v21 v23 (arg4.view.read (Elt Ideal) X_arg4) (arg5.view.read (Elt Ideal) X_arg5) ((4 * (i 2).val + 0) * 128)
      0 (arg7.view.read (Elt Ideal) (arg7.view.writes (Elt Ideal) G_arg7 (st_k0_t1 (F := Ideal) 𝒱 c bd i arg3 harg3 arg4 harg4 arg5 harg5 arg6 harg6 arg7 harg7 arg8 harg8 v3 v6 v16 v17 v21 v23 v71 v72 v74 v78 v79 X_arg4 X_arg5 G_arg7 G_arg8 init (k0_t1_loop i).trips).2.1))
        (arg8.view.read (Elt Ideal) (arg8.view.writes (Elt Ideal) G_arg8 (st_k0_t1 (F := Ideal) 𝒱 c bd i arg3 harg3 arg4 harg4 arg5 harg5 arg6 harg6 arg7 harg7 arg8 harg8 v3 v6 v16 v17 v21 v23 v71 v72 v74 v78 v79 X_arg4 X_arg5 G_arg7 G_arg8 init (k0_t1_loop i).trips).2.2)) := by
  subst h16
  have hi : (i 2).val < 32 := (i 2).isLt
  refine holds_loop arg7 arg8 h0 h1 v21 v23 _ _ (k0_t1_loop i).trips (fun k => st_k0_t1 (F := Ideal) 𝒱 c bd i arg3 harg3 arg4 harg4 arg5 harg5 arg6 harg6 arg7 harg7 arg8 harg8 v3 v6 k0_pay100 v17 v21 v23 v71 v72 v74 v78 v79 X_arg4 X_arg5 G_arg7 G_arg8 init k) G_arg7 G_arg8 _ _ rfl (by unfold N; omega) (trips0 i)
    (fun k => arg4.view.readAt (Elt Ideal) (Rect.unit (s := S16384x128) (k0_off2 i k) S128x128.size (k0_off2_inb i k)).toLoadRect X_arg4)
    (fun k => k0_pay2 (arg5.view.readAt (Elt Ideal) (Rect.unit (s := S16384x128) (k0_off2 i k) S128x128.size (k0_off2_inb i k)).toLoadRect X_arg5))
    rfl rfl ?_ ?_ ?_ ?_ H
  · intro k
    dsimp only
    rw [st_k0_t1_succ]
    dsimp only [tripL_k0_t1]
    unfold trip_k0_t1
    rfl
  · intro k
    dsimp only
    rw [st_k0_t1_succ]
    dsimp only [tripL_k0_t1]
    unfold trip_k0_t1
    rfl
  · intro k
    exact load_rows _ _ _ _ (trip0 i k) _
  · intro k
    dsimp only
    rw [pay2_eq]
    exact load_rows _ _ _ _ (trip0 i k) _

/-- The rest loop of query block 0 writes nothing. -/
theorem still0 (𝒱 : Variants) (c : Dev nD) (bd : Option 𝒱.V) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole) (v3 : IVec S128x128 1) (v6 : IVec S128x128 1) (v16 : FVec Ideal S128x256 .bf16) (v17 : BitVec 32) (v21 : FVec Ideal S128x128 .bf16) (v23 : FVec Ideal S128x128 .bf16) (v71 : FVec Ideal S128x128 .bf16) (v72 : FVec Ideal S128x128 .f32) (v74 : FVec Ideal S128x128 .f32) (v78 : FVec Ideal S128x128 .f32) (v79 : FVec Ideal S128x128 .f32) (v108 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (init : BitVec 32) :
    st_k0_t2 (F := Ideal) 𝒱 c bd i arg3 harg3 arg4 harg4 arg5 harg5 arg6 harg6 arg7 harg7 arg8 harg8 v3 v6 v16 v17 v21 v23 v71 v72 v74 v78 v79 v108 X_arg4 X_arg5 G_arg7 G_arg8 init (k0_t2_loop i).trips = (init, [], []) := by
  rw [rest0 i]
  rfl

/-- After the loop of query block 1 the scratch contents stand at key 0. -/
theorem swept1 {𝒱 : Variants} {c : Dev nD} {bd : Option 𝒱.V} {i : grid0.Coords} {arg3 : Memref sig .tc .vmem S512x128 .bf16} {harg3 : arg3.IsWhole} {arg4 : Memref sig .tc .vmem S16384x128 .bf16} {harg4 : arg4.IsWhole} {arg5 : Memref sig .tc .vmem S16384x128 .bf16} {harg5 : arg5.IsWhole} {arg6 : Memref sig .tc .vmem S512x128 .bf16} {harg6 : arg6.IsWhole} {arg7 : Memref sig .tc .vmem S2x128x128 .f32} {harg7 : arg7.IsWhole} {arg8 : Memref sig .tc .vmem S2x128x128 .f32} {harg8 : arg8.IsWhole} {v0 : BitVec 32} {v3 : IVec S128x128 1} {v16 : FVec Ideal S128x256 .bf16} {v118 : BitVec 32} {v122 : FVec Ideal S128x128 .bf16} {v124 : FVec Ideal S128x128 .bf16} {v172 : FVec Ideal S128x128 .bf16} {v195 : FVec Ideal S128x128 .f32} {v196 : FVec Ideal S128x128 .f32} {X_arg4 : BufTy.Contents (Elt Ideal) arg4.view.ty} {X_arg5 : BufTy.Contents (Elt Ideal) arg5.view.ty} {G_arg7 : BufTy.Contents (Elt Ideal) arg7.view.ty} {G_arg8 : BufTy.Contents (Elt Ideal) arg8.view.ty} {init : BitVec 32}
    (h0 : ∀ a, (![0, 0, 0] : Fin 3 → ℕ) a + S1x128x128.size a ≤ S2x128x128.size a)
    (h1 : ∀ a, (![1, 0, 0] : Fin 3 → ℕ) a + S1x128x128.size a ≤ S2x128x128.size a)
    (h16 : v16 = k0_pay100)
    (H : Holds v122 v124 (arg4.view.read (Elt Ideal) X_arg4) (arg5.view.read (Elt Ideal) X_arg5) ((4 * (i 2).val + 1) * 128)
      ((4 * (i 2).val + 1) * 128) (arg7.view.read (Elt Ideal) G_arg7) (arg8.view.read (Elt Ideal) G_arg8)) :
    Holds v122 v124 (arg4.view.read (Elt Ideal) X_arg4) (arg5.view.read (Elt Ideal) X_arg5) ((4 * (i 2).val + 1) * 128)
      0 (arg7.view.read (Elt Ideal) (arg7.view.writes (Elt Ideal) G_arg7 (st_k0_t3 (F := Ideal) 𝒱 c bd i arg3 harg3 arg4 harg4 arg5 harg5 arg6 harg6 arg7 harg7 arg8 harg8 v0 v3 v16 v118 v122 v124 v172 v195 v196 X_arg4 X_arg5 G_arg7 G_arg8 init (k0_t3_loop i).trips).2.1))
        (arg8.view.read (Elt Ideal) (arg8.view.writes (Elt Ideal) G_arg8 (st_k0_t3 (F := Ideal) 𝒱 c bd i arg3 harg3 arg4 harg4 arg5 harg5 arg6 harg6 arg7 harg7 arg8 harg8 v0 v3 v16 v118 v122 v124 v172 v195 v196 X_arg4 X_arg5 G_arg7 G_arg8 init (k0_t3_loop i).trips).2.2)) := by
  subst h16
  have hi : (i 2).val < 32 := (i 2).isLt
  refine holds_loop arg7 arg8 h0 h1 v122 v124 _ _ (k0_t3_loop i).trips (fun k => st_k0_t3 (F := Ideal) 𝒱 c bd i arg3 harg3 arg4 harg4 arg5 harg5 arg6 harg6 arg7 harg7 arg8 harg8 v0 v3 k0_pay100 v118 v122 v124 v172 v195 v196 X_arg4 X_arg5 G_arg7 G_arg8 init k) G_arg7 G_arg8 _ _ rfl (by unfold N; omega) (trips1 i)
    (fun k => arg4.view.readAt (Elt Ideal) (Rect.unit (s := S16384x128) (k0_off4 i k) S128x128.size (k0_off4_inb i k)).toLoadRect X_arg4)
    (fun k => k0_pay2 (arg5.view.readAt (Elt Ideal) (Rect.unit (s := S16384x128) (k0_off4 i k) S128x128.size (k0_off4_inb i k)).toLoadRect X_arg5))
    rfl rfl ?_ ?_ ?_ ?_ H
  · intro k
    dsimp only
    rw [st_k0_t3_succ]
    dsimp only [tripL_k0_t3]
    unfold trip_k0_t3
    rfl
  · intro k
    dsimp only
    rw [st_k0_t3_succ]
    dsimp only [tripL_k0_t3]
    unfold trip_k0_t3
    rfl
  · intro k
    exact load_rows _ _ _ _ (trip1 i k) _
  · intro k
    dsimp only
    rw [pay2_eq]
    exact load_rows _ _ _ _ (trip1 i k) _

/-- The rest loop of query block 1 writes nothing. -/
theorem still1 (𝒱 : Variants) (c : Dev nD) (bd : Option 𝒱.V) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole) (v0 : BitVec 32) (v3 : IVec S128x128 1) (v16 : FVec Ideal S128x256 .bf16) (v118 : BitVec 32) (v122 : FVec Ideal S128x128 .bf16) (v124 : FVec Ideal S128x128 .bf16) (v172 : FVec Ideal S128x128 .bf16) (v195 : FVec Ideal S128x128 .f32) (v196 : FVec Ideal S128x128 .f32) (v209 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (init : BitVec 32) :
    st_k0_t4 (F := Ideal) 𝒱 c bd i arg3 harg3 arg4 harg4 arg5 harg5 arg6 harg6 arg7 harg7 arg8 harg8 v0 v3 v16 v118 v122 v124 v172 v195 v196 v209 X_arg4 X_arg5 G_arg7 G_arg8 init (k0_t4_loop i).trips = (init, [], []) := by
  rw [rest1 i]
  rfl

/-- After the loop of query block 2 the scratch contents stand at key 0. -/
theorem swept2 {𝒱 : Variants} {c : Dev nD} {bd : Option 𝒱.V} {i : grid0.Coords} {arg3 : Memref sig .tc .vmem S512x128 .bf16} {harg3 : arg3.IsWhole} {arg4 : Memref sig .tc .vmem S16384x128 .bf16} {harg4 : arg4.IsWhole} {arg5 : Memref sig .tc .vmem S16384x128 .bf16} {harg5 : arg5.IsWhole} {arg6 : Memref sig .tc .vmem S512x128 .bf16} {harg6 : arg6.IsWhole} {arg7 : Memref sig .tc .vmem S2x128x128 .f32} {harg7 : arg7.IsWhole} {arg8 : Memref sig .tc .vmem S2x128x128 .f32} {harg8 : arg8.IsWhole} {v0 : BitVec 32} {v3 : IVec S128x128 1} {v16 : FVec Ideal S128x256 .bf16} {v219 : BitVec 32} {v223 : FVec Ideal S128x128 .bf16} {v225 : FVec Ideal S128x128 .bf16} {c0_i32_143 : BitVec 32} {c0_i32_144 : BitVec 32} {v306 : BitVec 32} {X_arg4 : BufTy.Contents (Elt Ideal) arg4.view.ty} {X_arg5 : BufTy.Contents (Elt Ideal) arg5.view.ty} {G_arg7 : BufTy.Contents (Elt Ideal) arg7.view.ty} {G_arg8 : BufTy.Contents (Elt Ideal) arg8.view.ty} {init : BitVec 32}
    (h0 : ∀ a, (![0, 0, 0] : Fin 3 → ℕ) a + S1x128x128.size a ≤ S2x128x128.size a)
    (h1 : ∀ a, (![1, 0, 0] : Fin 3 → ℕ) a + S1x128x128.size a ≤ S2x128x128.size a)
    (h16 : v16 = k0_pay100)
    (H : Holds v223 v225 (arg4.view.read (Elt Ideal) X_arg4) (arg5.view.read (Elt Ideal) X_arg5) ((4 * (i 2).val + 2) * 128)
      ((4 * (i 2).val + 2) * 128) (arg7.view.read (Elt Ideal) G_arg7) (arg8.view.read (Elt Ideal) G_arg8)) :
    Holds v223 v225 (arg4.view.read (Elt Ideal) X_arg4) (arg5.view.read (Elt Ideal) X_arg5) ((4 * (i 2).val + 2) * 128)
      0 (arg7.view.read (Elt Ideal) (arg7.view.writes (Elt Ideal) G_arg7 (st_k0_t5 (F := Ideal) 𝒱 c bd i arg3 harg3 arg4 harg4 arg5 harg5 arg6 harg6 arg7 harg7 arg8 harg8 v0 v3 v16 v219 v223 v225 c0_i32_143 c0_i32_144 v306 X_arg4 X_arg5 G_arg7 G_arg8 init (k0_t5_loop i).trips).2.1))
        (arg8.view.read (Elt Ideal) (arg8.view.writes (Elt Ideal) G_arg8 (st_k0_t5 (F := Ideal) 𝒱 c bd i arg3 harg3 arg4 harg4 arg5 harg5 arg6 harg6 arg7 harg7 arg8 harg8 v0 v3 v16 v219 v223 v225 c0_i32_143 c0_i32_144 v306 X_arg4 X_arg5 G_arg7 G_arg8 init (k0_t5_loop i).trips).2.2)) := by
  subst h16
  have hi : (i 2).val < 32 := (i 2).isLt
  refine holds_loop arg7 arg8 h0 h1 v223 v225 _ _ (k0_t5_loop i).trips (fun k => st_k0_t5 (F := Ideal) 𝒱 c bd i arg3 harg3 arg4 harg4 arg5 harg5 arg6 harg6 arg7 harg7 arg8 harg8 v0 v3 k0_pay100 v219 v223 v225 c0_i32_143 c0_i32_144 v306 X_arg4 X_arg5 G_arg7 G_arg8 init k) G_arg7 G_arg8 _ _ rfl (by unfold N; omega) (trips2 i)
    (fun k => arg4.view.readAt (Elt Ideal) (Rect.unit (s := S16384x128) (k0_off6 i k) S128x128.size (k0_off6_inb i k)).toLoadRect X_arg4)
    (fun k => k0_pay2 (arg5.view.readAt (Elt Ideal) (Rect.unit (s := S16384x128) (k0_off6 i k) S128x128.size (k0_off6_inb i k)).toLoadRect X_arg5))
    rfl rfl ?_ ?_ ?_ ?_ H
  · intro k
    dsimp only
    rw [st_k0_t5_succ]
    dsimp only [tripL_k0_t5]
    unfold trip_k0_t5
    rfl
  · intro k
    dsimp only
    rw [st_k0_t5_succ]
    dsimp only [tripL_k0_t5]
    unfold trip_k0_t5
    rfl
  · intro k
    exact load_rows _ _ _ _ (trip2 i k) _
  · intro k
    dsimp only
    rw [pay2_eq]
    exact load_rows _ _ _ _ (trip2 i k) _

/-- The rest loop of query block 2 writes nothing. -/
theorem still2 (𝒱 : Variants) (c : Dev nD) (bd : Option 𝒱.V) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole) (v0 : BitVec 32) (v3 : IVec S128x128 1) (v16 : FVec Ideal S128x256 .bf16) (v219 : BitVec 32) (v223 : FVec Ideal S128x128 .bf16) (v225 : FVec Ideal S128x128 .bf16) (c0_i32_143 : BitVec 32) (c0_i32_144 : BitVec 32) (v306 : BitVec 32) (v310 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (init : BitVec 32) :
    st_k0_t6 (F := Ideal) 𝒱 c bd i arg3 harg3 arg4 harg4 arg5 harg5 arg6 harg6 arg7 harg7 arg8 harg8 v0 v3 v16 v219 v223 v225 c0_i32_143 c0_i32_144 v306 v310 X_arg4 X_arg5 G_arg7 G_arg8 init (k0_t6_loop i).trips = (init, [], []) := by
  rw [rest2 i]
  rfl

/-- After the loop of query block 3 the scratch contents stand at key 0. -/
theorem swept3 {𝒱 : Variants} {c : Dev nD} {bd : Option 𝒱.V} {i : grid0.Coords} {arg3 : Memref sig .tc .vmem S512x128 .bf16} {harg3 : arg3.IsWhole} {arg4 : Memref sig .tc .vmem S16384x128 .bf16} {harg4 : arg4.IsWhole} {arg5 : Memref sig .tc .vmem S16384x128 .bf16} {harg5 : arg5.IsWhole} {arg6 : Memref sig .tc .vmem S512x128 .bf16} {harg6 : arg6.IsWhole} {arg7 : Memref sig .tc .vmem S2x128x128 .f32} {harg7 : arg7.IsWhole} {arg8 : Memref sig .tc .vmem S2x128x128 .f32} {harg8 : arg8.IsWhole} {v3 : IVec S128x128 1} {v6 : IVec S128x128 1} {v16 : FVec Ideal S128x256 .bf16} {v320 : BitVec 32} {v324 : FVec Ideal S128x128 .bf16} {v326 : FVec Ideal S128x128 .bf16} {v374 : FVec Ideal S128x128 .bf16} {v375 : FVec Ideal S128x128 .f32} {v377 : FVec Ideal S128x128 .f32} {v381 : FVec Ideal S128x128 .f32} {v382 : FVec Ideal S128x128 .f32} {X_arg4 : BufTy.Contents (Elt Ideal) arg4.view.ty} {X_arg5 : BufTy.Contents (Elt Ideal) arg5.view.ty} {G_arg7 : BufTy.Contents (Elt Ideal) arg7.view.ty} {G_arg8 : BufTy.Contents (Elt Ideal) arg8.view.ty} {init : BitVec 32}
    (h0 : ∀ a, (![0, 0, 0] : Fin 3 → ℕ) a + S1x128x128.size a ≤ S2x128x128.size a)
    (h1 : ∀ a, (![1, 0, 0] : Fin 3 → ℕ) a + S1x128x128.size a ≤ S2x128x128.size a)
    (h16 : v16 = k0_pay100)
    (H : Holds v324 v326 (arg4.view.read (Elt Ideal) X_arg4) (arg5.view.read (Elt Ideal) X_arg5) ((4 * (i 2).val + 3) * 128)
      ((4 * (i 2).val + 3) * 128) (arg7.view.read (Elt Ideal) G_arg7) (arg8.view.read (Elt Ideal) G_arg8)) :
    Holds v324 v326 (arg4.view.read (Elt Ideal) X_arg4) (arg5.view.read (Elt Ideal) X_arg5) ((4 * (i 2).val + 3) * 128)
      0 (arg7.view.read (Elt Ideal) (arg7.view.writes (Elt Ideal) G_arg7 (st_k0_t7 (F := Ideal) 𝒱 c bd i arg3 harg3 arg4 harg4 arg5 harg5 arg6 harg6 arg7 harg7 arg8 harg8 v3 v6 v16 v320 v324 v326 v374 v375 v377 v381 v382 X_arg4 X_arg5 G_arg7 G_arg8 init (k0_t7_loop i).trips).2.1))
        (arg8.view.read (Elt Ideal) (arg8.view.writes (Elt Ideal) G_arg8 (st_k0_t7 (F := Ideal) 𝒱 c bd i arg3 harg3 arg4 harg4 arg5 harg5 arg6 harg6 arg7 harg7 arg8 harg8 v3 v6 v16 v320 v324 v326 v374 v375 v377 v381 v382 X_arg4 X_arg5 G_arg7 G_arg8 init (k0_t7_loop i).trips).2.2)) := by
  subst h16
  have hi : (i 2).val < 32 := (i 2).isLt
  refine holds_loop arg7 arg8 h0 h1 v324 v326 _ _ (k0_t7_loop i).trips (fun k => st_k0_t7 (F := Ideal) 𝒱 c bd i arg3 harg3 arg4 harg4 arg5 harg5 arg6 harg6 arg7 harg7 arg8 harg8 v3 v6 k0_pay100 v320 v324 v326 v374 v375 v377 v381 v382 X_arg4 X_arg5 G_arg7 G_arg8 init k) G_arg7 G_arg8 _ _ rfl (by unfold N; omega) (trips3 i)
    (fun k => arg4.view.readAt (Elt Ideal) (Rect.unit (s := S16384x128) (k0_off8 i k) S128x128.size (k0_off8_inb i k)).toLoadRect X_arg4)
    (fun k => k0_pay2 (arg5.view.readAt (Elt Ideal) (Rect.unit (s := S16384x128) (k0_off8 i k) S128x128.size (k0_off8_inb i k)).toLoadRect X_arg5))
    rfl rfl ?_ ?_ ?_ ?_ H
  · intro k
    dsimp only
    rw [st_k0_t7_succ]
    dsimp only [tripL_k0_t7]
    unfold trip_k0_t7
    rfl
  · intro k
    dsimp only
    rw [st_k0_t7_succ]
    dsimp only [tripL_k0_t7]
    unfold trip_k0_t7
    rfl
  · intro k
    exact load_rows _ _ _ _ (trip3 i k) _
  · intro k
    dsimp only
    rw [pay2_eq]
    exact load_rows _ _ _ _ (trip3 i k) _

/-- The rest loop of query block 3 writes nothing. -/
theorem still3 (𝒱 : Variants) (c : Dev nD) (bd : Option 𝒱.V) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole) (v3 : IVec S128x128 1) (v6 : IVec S128x128 1) (v16 : FVec Ideal S128x256 .bf16) (v320 : BitVec 32) (v324 : FVec Ideal S128x128 .bf16) (v326 : FVec Ideal S128x128 .bf16) (v374 : FVec Ideal S128x128 .bf16) (v375 : FVec Ideal S128x128 .f32) (v377 : FVec Ideal S128x128 .f32) (v381 : FVec Ideal S128x128 .f32) (v382 : FVec Ideal S128x128 .f32) (v411 : BitVec 32) (X_arg4 : BufTy.Contents (Elt Ideal) arg4.view.ty) (X_arg5 : BufTy.Contents (Elt Ideal) arg5.view.ty) (G_arg7 : BufTy.Contents (Elt Ideal) arg7.view.ty) (G_arg8 : BufTy.Contents (Elt Ideal) arg8.view.ty) (init : BitVec 32) :
    st_k0_t8 (F := Ideal) 𝒱 c bd i arg3 harg3 arg4 harg4 arg5 harg5 arg6 harg6 arg7 harg7 arg8 harg8 v3 v6 v16 v320 v324 v326 v374 v375 v377 v381 v382 v411 X_arg4 X_arg5 G_arg7 G_arg8 init (k0_t8_loop i).trips = (init, [], []) := by
  rw [rest3 i]
  rfl

end Cert.AttnIdeal.Hand
end
-- ==== Proof.Blocks.lean ====
module
public import proofs.«01_k».proof.Proof.Gen.AttnIdeal.Frame
public import proofs.«01_k».proof.Proof.Swept
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

/-- A block of 128 rows of the queries, masked to one head's lanes. -/
def qHead (h : Fin 2) (x : Vec Ideal S512x128 .bf16) (b : Fin 4) : FVec Ideal S128x128 .bf16 :=
  fun j => if ((j 1).val < 64 ↔ h = 0) then x (ix2 ⟨b.val * 128 + (j 0).val, by have := (j 0).isLt; have := b.isLt; change (j 0).val < 128 at *; omega⟩ (j 1)) else 0

/-- The first head's queries of a block are the lower lanes of its rows. -/
theorem qHead0_eq (A : Memref sig .tc .vmem S512x128 .bf16) (hA : A.IsWhole) (x : Vec Ideal S512x128 .bf16) (b : Fin 4)
    (off : Fin 2 → ℕ) (ho : off = ![b.val * 128, 0]) (h : ∀ a, off a + S128x128.size a ≤ S512x128.size a) :
    k0_pay153 k0_pay98 (A.view.readAt (Elt Ideal) (Rect.unit (s := S512x128) off S128x128.size h).toLoadRect (hA.unread x))
      = qHead 0 x b := by
  subst ho
  funext j
  obtain ⟨r, d, rfl⟩ : ∃ r d, j = ix2 r d := ⟨j 0, j 1, by funext a; fin_cases a <;> rfl⟩
  rw [head0_apply, View.readAt_apply, hA.read_unread]
  unfold qHead
  have e : (Rect.unit (s := S512x128) ![b.val * 128, 0] S128x128.size h).toLoadRect.idx (ix2 r d)
      = ix2 ⟨b.val * 128 + r.val, by have := b.isLt; have := r.isLt; omega⟩ d := by
    funext a
    apply Fin.ext
    fin_cases a <;> simp [LoadRect.idx, Rect.toLoadRect, Rect.unit]
  rw [e]
  by_cases hd : d.val < 64
  · rw [if_pos hd, if_pos (by simpa using hd)]
    rfl
  · rw [if_neg hd, if_neg (by simpa using hd)]

/-- The second head's queries of a block are the upper lanes of its rows. -/
theorem qHead1_eq (A : Memref sig .tc .vmem S512x128 .bf16) (hA : A.IsWhole) (x : Vec Ideal S512x128 .bf16) (b : Fin 4)
    (off : Fin 2 → ℕ) (ho : off = ![b.val * 128, 0]) (h : ∀ a, off a + S128x128.size a ≤ S512x128.size a) :
    k0_pay154 k0_pay98 (A.view.readAt (Elt Ideal) (Rect.unit (s := S512x128) off S128x128.size h).toLoadRect (hA.unread x))
      = qHead 1 x b := by
  subst ho
  funext j
  obtain ⟨r, d, rfl⟩ : ∃ r d, j = ix2 r d := ⟨j 0, j 1, by funext a; fin_cases a <;> rfl⟩
  rw [head1_apply, View.readAt_apply, hA.read_unread]
  unfold qHead
  have e : (Rect.unit (s := S512x128) ![b.val * 128, 0] S128x128.size h).toLoadRect.idx (ix2 r d)
      = ix2 ⟨b.val * 128 + r.val, by have := b.isLt; have := r.isLt; omega⟩ d := by
    funext a
    apply Fin.ext
    fin_cases a <;> simp [LoadRect.idx, Rect.toLoadRect, Rect.unit]
  rw [e]
  by_cases hd : d.val < 64
  · rw [if_pos hd, if_neg (by simpa using hd)]
  · rw [if_neg hd, if_pos (by simpa using hd)]
    rfl

/-- The output block 0 of one grid point. -/
theorem blk0 (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole)
    (x0 : Vec Ideal S512x128 .bf16) (x1 x2 : Vec Ideal S16384x128 .bf16) (r l : Fin 128) :
    VO0_3.read (Elt Ideal) (VO0_3.writes (Elt Ideal) VO0_3.junk (kernelRun0_A c i arg3 harg3 arg4 harg4 arg5 harg5 arg6 harg6 arg7 harg7 arg8 harg8 x0 x1 x2).1) (ix2 ⟨0 * 128 + r.val, by omega⟩ l)
      = if l.val < 64 then accum (score (qHead 0 x0 0) x1 r) (value x2 l) ((4 * (i 2).val + 0) * 128 + r.val) 0
        else accum (score (qHead 1 x0 0) x1 r) (value x2 l) ((4 * (i 2).val + 0) * 128 + r.val) 0 := by
  unfold kernelRun0_A
  dsimp only
  rw [View.read_writes_cons_miss_of_axis _ _ _ _ _ (0 : Fin 2) 384 128 rfl rfl rfl (Or.inl (by show 0*128 + r.val < 384; have := r.isLt; omega))]
  rw [View.read_writes_cons_miss_of_axis _ _ _ _ _ (0 : Fin 2) 256 128 rfl rfl rfl (Or.inl (by show 0*128 + r.val < 256; have := r.isLt; omega))]
  rw [View.read_writes_cons_miss_of_axis _ _ _ _ _ (0 : Fin 2) 128 128 rfl rfl rfl (Or.inl (by show 0*128 + r.val < 128; have := r.isLt; omega))]
  have hx : ∀ a : Fin 2, ((ix2 ⟨0 * 128 + r.val, by omega⟩ l : S512x128.Idx) a).val
      = (![0, 0] : Fin 2 → ℕ) a + 1 * ((ix2 r l : S128x128.Idx) a).val := by
    intro a
    fin_cases a <;> simp
  refine (View.read_writes_cons_hit_of_coords _ _ (Rect.unit (s := S512x128) ![0, 0] ![128, 128] _) _ _
    (ix2 r l : S128x128.Idx) _ hx).trans ?_
  unfold kernelRun0_A.sl.r_10
  refine (merge_apply (kernelRun0_A.sl.v111 c i arg3 harg3 arg4 harg4 arg5 harg5 arg6 harg6 arg7 harg7 arg8 harg8 x0 x1 x2) (kernelRun0_A.sl.v113 c i arg3 harg3 arg4 harg4 arg5 harg5 arg6 harg6 arg7 harg7 arg8 harg8 x0 x1 x2) r l).trans ?_
  have hi : (i 2).val < 32 := (i 2).isLt
  have hN : (4 * (i 2).val + 0) * 128 + 128 ≤ N := by unfold N; omega
  have hk := load_rows arg4 (harg4.unread x1) _ _ (diag0 i) (k0_off1_inb i 0)
  have hv := load_rows arg5 (harg5.unread x2) _ _ (diag0 i) (k0_off1_inb i 0)
  have e0 : kernelRun0_A.sl.v111 c i arg3 harg3 arg4 harg4 arg5 harg5 arg6 harg6 arg7 harg7 arg8 harg8 x0 x1 x2 (ix3 0 r l) = accum (score (qHead 0 x0 0) x1 r) (value x2 l) ((4 * (i 2).val + 0) * 128 + r.val) 0 := by
    unfold kernelRun0_A.sl.v111
    rw [still0]
    rw [List.nil_append, View.readCov, View.writes_append]
    rw [load0]
    refine ((swept0 inb_S2x128x128_S1x128x128_0_0_0 inb_S2x128x128_S1x128x128_1_0_0 rfl ?_).acc0 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 0) * 128 + r.val) 0) (qHead0_eq arg3 harg3 x0 0 _ rfl inb_S512x128_S128x128_0_0)
  have e1 : kernelRun0_A.sl.v113 c i arg3 harg3 arg4 harg4 arg5 harg5 arg6 harg6 arg7 harg7 arg8 harg8 x0 x1 x2 (ix3 0 r l) = accum (score (qHead 1 x0 0) x1 r) (value x2 l) ((4 * (i 2).val + 0) * 128 + r.val) 0 := by
    unfold kernelRun0_A.sl.v113
    rw [still0]
    rw [List.nil_append, View.readCov, View.writes_append]
    rw [load1]
    refine ((swept0 inb_S2x128x128_S1x128x128_0_0_0 inb_S2x128x128_S1x128x128_1_0_0 rfl ?_).acc1 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 0) * 128 + r.val) 0) (qHead1_eq arg3 harg3 x0 0 _ rfl inb_S512x128_S128x128_0_0)
  rw [e0, e1]

/-- The output block 1 of one grid point. -/
theorem blk1 (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole)
    (x0 : Vec Ideal S512x128 .bf16) (x1 x2 : Vec Ideal S16384x128 .bf16) (r l : Fin 128) :
    VO0_3.read (Elt Ideal) (VO0_3.writes (Elt Ideal) VO0_3.junk (kernelRun0_A c i arg3 harg3 arg4 harg4 arg5 harg5 arg6 harg6 arg7 harg7 arg8 harg8 x0 x1 x2).1) (ix2 ⟨1 * 128 + r.val, by omega⟩ l)
      = if l.val < 64 then accum (score (qHead 0 x0 1) x1 r) (value x2 l) ((4 * (i 2).val + 1) * 128 + r.val) 0
        else accum (score (qHead 1 x0 1) x1 r) (value x2 l) ((4 * (i 2).val + 1) * 128 + r.val) 0 := by
  unfold kernelRun0_A
  dsimp only
  rw [View.read_writes_cons_miss_of_axis _ _ _ _ _ (0 : Fin 2) 384 128 rfl rfl rfl (Or.inl (by show 1*128 + r.val < 384; have := r.isLt; omega))]
  rw [View.read_writes_cons_miss_of_axis _ _ _ _ _ (0 : Fin 2) 256 128 rfl rfl rfl (Or.inl (by show 1*128 + r.val < 256; have := r.isLt; omega))]
  have hx : ∀ a : Fin 2, ((ix2 ⟨1 * 128 + r.val, by omega⟩ l : S512x128.Idx) a).val
      = (![128, 0] : Fin 2 → ℕ) a + 1 * ((ix2 r l : S128x128.Idx) a).val := by
    intro a
    fin_cases a <;> simp
  refine (View.read_writes_cons_hit_of_coords _ _ (Rect.unit (s := S512x128) ![128, 0] ![128, 128] _) _ _
    (ix2 r l : S128x128.Idx) _ hx).trans ?_
  refine (merge_apply (kernelRun0_A.sl.v212 c i arg3 harg3 arg4 harg4 arg5 harg5 arg6 harg6 arg7 harg7 arg8 harg8 x0 x1 x2) (kernelRun0_A.sl.v214 c i arg3 harg3 arg4 harg4 arg5 harg5 arg6 harg6 arg7 harg7 arg8 harg8 x0 x1 x2) r l).trans ?_
  have hi : (i 2).val < 32 := (i 2).isLt
  have hN : (4 * (i 2).val + 1) * 128 + 128 ≤ N := by unfold N; omega
  have hk := load_rows arg4 (harg4.unread x1) _ _ (diag1 i) (k0_off1_inb i 1)
  have hv := load_rows arg5 (harg5.unread x2) _ _ (diag1 i) (k0_off1_inb i 1)
  have e0 : kernelRun0_A.sl.v212 c i arg3 harg3 arg4 harg4 arg5 harg5 arg6 harg6 arg7 harg7 arg8 harg8 x0 x1 x2 (ix3 0 r l) = accum (score (qHead 0 x0 1) x1 r) (value x2 l) ((4 * (i 2).val + 1) * 128 + r.val) 0 := by
    unfold kernelRun0_A.sl.v212
    rw [still1]
    rw [List.nil_append, View.readCov, View.writes_append]
    rw [load0]
    refine ((swept1 inb_S2x128x128_S1x128x128_0_0_0 inb_S2x128x128_S1x128x128_1_0_0 rfl ?_).acc0 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 1) * 128 + r.val) 0) (qHead0_eq arg3 harg3 x0 1 _ rfl inb_S512x128_S128x128_128_0)
  have e1 : kernelRun0_A.sl.v214 c i arg3 harg3 arg4 harg4 arg5 harg5 arg6 harg6 arg7 harg7 arg8 harg8 x0 x1 x2 (ix3 0 r l) = accum (score (qHead 1 x0 1) x1 r) (value x2 l) ((4 * (i 2).val + 1) * 128 + r.val) 0 := by
    unfold kernelRun0_A.sl.v214
    rw [still1]
    rw [List.nil_append, View.readCov, View.writes_append]
    rw [load1]
    refine ((swept1 inb_S2x128x128_S1x128x128_0_0_0 inb_S2x128x128_S1x128x128_1_0_0 rfl ?_).acc1 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 1) * 128 + r.val) 0) (qHead1_eq arg3 harg3 x0 1 _ rfl inb_S512x128_S128x128_128_0)
  rw [e0, e1]

/-- The output block 2 of one grid point. -/
theorem blk2 (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole)
    (x0 : Vec Ideal S512x128 .bf16) (x1 x2 : Vec Ideal S16384x128 .bf16) (r l : Fin 128) :
    VO0_3.read (Elt Ideal) (VO0_3.writes (Elt Ideal) VO0_3.junk (kernelRun0_A c i arg3 harg3 arg4 harg4 arg5 harg5 arg6 harg6 arg7 harg7 arg8 harg8 x0 x1 x2).1) (ix2 ⟨2 * 128 + r.val, by omega⟩ l)
      = if l.val < 64 then accum (score (qHead 0 x0 2) x1 r) (value x2 l) ((4 * (i 2).val + 2) * 128 + r.val) 0
        else accum (score (qHead 1 x0 2) x1 r) (value x2 l) ((4 * (i 2).val + 2) * 128 + r.val) 0 := by
  unfold kernelRun0_A
  dsimp only
  rw [View.read_writes_cons_miss_of_axis _ _ _ _ _ (0 : Fin 2) 384 128 rfl rfl rfl (Or.inl (by show 2*128 + r.val < 384; have := r.isLt; omega))]
  have hx : ∀ a : Fin 2, ((ix2 ⟨2 * 128 + r.val, by omega⟩ l : S512x128.Idx) a).val
      = (![256, 0] : Fin 2 → ℕ) a + 1 * ((ix2 r l : S128x128.Idx) a).val := by
    intro a
    fin_cases a <;> simp
  refine (View.read_writes_cons_hit_of_coords _ _ (Rect.unit (s := S512x128) ![256, 0] ![128, 128] _) _ _
    (ix2 r l : S128x128.Idx) _ hx).trans ?_
  refine (merge_apply (kernelRun0_A.sl.v313 c i arg3 harg3 arg4 harg4 arg5 harg5 arg6 harg6 arg7 harg7 arg8 harg8 x0 x1 x2) (kernelRun0_A.sl.v315 c i arg3 harg3 arg4 harg4 arg5 harg5 arg6 harg6 arg7 harg7 arg8 harg8 x0 x1 x2) r l).trans ?_
  have hi : (i 2).val < 32 := (i 2).isLt
  have hN : (4 * (i 2).val + 2) * 128 + 128 ≤ N := by unfold N; omega
  have hk := load_rows arg4 (harg4.unread x1) _ _ (diag2 i) (k0_off1_inb i 2)
  have hv := load_rows arg5 (harg5.unread x2) _ _ (diag2 i) (k0_off1_inb i 2)
  have e0 : kernelRun0_A.sl.v313 c i arg3 harg3 arg4 harg4 arg5 harg5 arg6 harg6 arg7 harg7 arg8 harg8 x0 x1 x2 (ix3 0 r l) = accum (score (qHead 0 x0 2) x1 r) (value x2 l) ((4 * (i 2).val + 2) * 128 + r.val) 0 := by
    unfold kernelRun0_A.sl.v313
    rw [still2]
    rw [List.nil_append, View.readCov, View.writes_append]
    rw [load0]
    refine ((swept2 inb_S2x128x128_S1x128x128_0_0_0 inb_S2x128x128_S1x128x128_1_0_0 rfl ?_).acc0 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 2) * 128 + r.val) 0) (qHead0_eq arg3 harg3 x0 2 _ rfl inb_S512x128_S128x128_256_0)
  have e1 : kernelRun0_A.sl.v315 c i arg3 harg3 arg4 harg4 arg5 harg5 arg6 harg6 arg7 harg7 arg8 harg8 x0 x1 x2 (ix3 0 r l) = accum (score (qHead 1 x0 2) x1 r) (value x2 l) ((4 * (i 2).val + 2) * 128 + r.val) 0 := by
    unfold kernelRun0_A.sl.v315
    rw [still2]
    rw [List.nil_append, View.readCov, View.writes_append]
    rw [load1]
    refine ((swept2 inb_S2x128x128_S1x128x128_0_0_0 inb_S2x128x128_S1x128x128_1_0_0 rfl ?_).acc1 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 2) * 128 + r.val) 0) (qHead1_eq arg3 harg3 x0 2 _ rfl inb_S512x128_S128x128_256_0)
  rw [e0, e1]

/-- The output block 3 of one grid point. -/
theorem blk3 (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole)
    (x0 : Vec Ideal S512x128 .bf16) (x1 x2 : Vec Ideal S16384x128 .bf16) (r l : Fin 128) :
    VO0_3.read (Elt Ideal) (VO0_3.writes (Elt Ideal) VO0_3.junk (kernelRun0_A c i arg3 harg3 arg4 harg4 arg5 harg5 arg6 harg6 arg7 harg7 arg8 harg8 x0 x1 x2).1) (ix2 ⟨3 * 128 + r.val, by omega⟩ l)
      = if l.val < 64 then accum (score (qHead 0 x0 3) x1 r) (value x2 l) ((4 * (i 2).val + 3) * 128 + r.val) 0
        else accum (score (qHead 1 x0 3) x1 r) (value x2 l) ((4 * (i 2).val + 3) * 128 + r.val) 0 := by
  unfold kernelRun0_A
  dsimp only
  have hx : ∀ a : Fin 2, ((ix2 ⟨3 * 128 + r.val, by omega⟩ l : S512x128.Idx) a).val
      = (![384, 0] : Fin 2 → ℕ) a + 1 * ((ix2 r l : S128x128.Idx) a).val := by
    intro a
    fin_cases a <;> simp
  refine (View.read_writes_cons_hit_of_coords _ _ (Rect.unit (s := S512x128) ![384, 0] ![128, 128] _) _ _
    (ix2 r l : S128x128.Idx) _ hx).trans ?_
  unfold kernelRun0_A.sl.r_31
  refine (merge_apply (kernelRun0_A.sl.v414 c i arg3 harg3 arg4 harg4 arg5 harg5 arg6 harg6 arg7 harg7 arg8 harg8 x0 x1 x2) (kernelRun0_A.sl.v416 c i arg3 harg3 arg4 harg4 arg5 harg5 arg6 harg6 arg7 harg7 arg8 harg8 x0 x1 x2) r l).trans ?_
  have hi : (i 2).val < 32 := (i 2).isLt
  have hN : (4 * (i 2).val + 3) * 128 + 128 ≤ N := by unfold N; omega
  have hk := load_rows arg4 (harg4.unread x1) _ _ (diag3 i) (k0_off1_inb i 3)
  have hv := load_rows arg5 (harg5.unread x2) _ _ (diag3 i) (k0_off1_inb i 3)
  have e0 : kernelRun0_A.sl.v414 c i arg3 harg3 arg4 harg4 arg5 harg5 arg6 harg6 arg7 harg7 arg8 harg8 x0 x1 x2 (ix3 0 r l) = accum (score (qHead 0 x0 3) x1 r) (value x2 l) ((4 * (i 2).val + 3) * 128 + r.val) 0 := by
    unfold kernelRun0_A.sl.v414
    rw [still3]
    rw [List.nil_append, View.readCov, View.writes_append]
    rw [load0]
    refine ((swept3 inb_S2x128x128_S1x128x128_0_0_0 inb_S2x128x128_S1x128x128_1_0_0 rfl ?_).acc0 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 3) * 128 + r.val) 0) (qHead0_eq arg3 harg3 x0 3 _ rfl inb_S512x128_S128x128_384_0)
  have e1 : kernelRun0_A.sl.v416 c i arg3 harg3 arg4 harg4 arg5 harg5 arg6 harg6 arg7 harg7 arg8 harg8 x0 x1 x2 (ix3 0 r l) = accum (score (qHead 1 x0 3) x1 r) (value x2 l) ((4 * (i 2).val + 3) * 128 + r.val) 0 := by
    unfold kernelRun0_A.sl.v416
    rw [still3]
    rw [List.nil_append, View.readCov, View.writes_append]
    rw [load1]
    refine ((swept3 inb_S2x128x128_S1x128x128_0_0_0 inb_S2x128x128_S1x128x128_1_0_0 rfl ?_).acc1 r l).trans ?_
    · exact holds_diag arg7 arg8 _ _ _ _ _ _ arg7.view.junk arg8.view.junk _ _ _ hk hv hN _ _
    · rw [harg4.read_unread, harg5.read_unread]
      exact congrArg (fun q => accum (score q x1 r) (value x2 l) ((4 * (i 2).val + 3) * 128 + r.val) 0) (qHead1_eq arg3 harg3 x0 3 _ rfl inb_S512x128_S128x128_384_0)
  rw [e0, e1]

end Cert.AttnIdeal.Hand
end
-- ==== Proof.Entry.lean ====
module
public import proofs.«01_k».proof.Proof.Gen.AttnIdeal.Frame
public import Idealize.ShloMosaic.Lib.Pipeline.ValueKit
public import Idealize.ShloMosaic.Lib.Pointwise
@[expose] public section
set_option maxRecDepth 16384
noncomputable section
namespace Cert.AttnIdeal.Hand
open Cert.AttnIdeal Cert.AttnIdeal.Gen Idealize.ShloMosaic Idealize.ShloMosaic.TcCoe Idealize.SL.Sem

/-- One argument of the program, as extended reals. -/
abbrev Arr := (⟨S2x16384x256, .f32⟩ : BufTy).Contents (Elt Ideal)

/-- The constant the queries are scaled by. -/
def eighth : EReal := Ideal.ofBits .f32 0x3E000000#32

/-- Three arrays side by side, the batches one under the other. -/
def beside (a b d : Arr) : (⟨S32768x768, .bf16⟩ : BufTy).Contents (Elt Ideal) :=
  shapeCast S32768x768 (truncf (F := Ideal) .bf16 (concatenate S2x16384x768 2 [⟨S2x16384x256, a⟩, ⟨S2x16384x256, b⟩,
      ⟨S2x16384x256, d⟩] concatenates_S2x16384x256_S2x16384x256_S2x16384x256_S2x16384x768_d2)
    bitsLt_bf16_f32) shapeCasts_S2x16384x768_S32768x768

/-- The scaled queries. -/
def scaled (x0 : Arr) : Arr :=
  mulf (F := Ideal) (s := S2x16384x256) (φ := .f32) x0
    (broadcastInDim S2x16384x256 ![] bcast_S_S2x16384x256 (constant (F := Ideal) S_ .f32 0x3E000000#32))

/-- The array the kernel reads: the scaled queries, the keys and the values. -/
def packed (x0 x1 x2 : Arr) : (⟨S32768x768, .bf16⟩ : BufTy).Contents (Elt Ideal) := beside (scaled x0) x1 x2

variable (m : (ℓ : Loc nD τ sig) → Buf (Elt Ideal) ℓ) (c : Dev nD)

/-- What the first three host operations leave where the scaled queries are kept. -/
theorem entry_scaled :
    StableHlo.after (hostOps0.take 3) (fun b => m (c, b)) (Proc.devRef .tc main_v1) = scaled (m ((c : Thread nD τ).loc main_arg0)) := by
  unfold hostOps0
  simp only [List.take_succ_cons, List.take_zero]
  after_results
  all_goals rfl

/-- What the first three host operations leave in the keys. -/
theorem entry_keys :
    StableHlo.after (hostOps0.take 3) (fun b => m (c, b)) (Proc.devRef .tc main_arg1) = m ((c : Thread nD τ).loc main_arg1) := by
  unfold hostOps0
  simp only [List.take_succ_cons, List.take_zero]
  after_results
  all_goals rfl

/-- What the first three host operations leave in the values. -/
theorem entry_values :
    StableHlo.after (hostOps0.take 3) (fun b => m (c, b)) (Proc.devRef .tc main_arg2) = m ((c : Thread nD τ).loc main_arg2) := by
  unfold hostOps0
  simp only [List.take_succ_cons, List.take_zero]
  after_results
  all_goals rfl

/-- What the host operations leave in the array the kernel reads. -/
theorem entry :
    V m c main_v4 = packed (m ((c : Thread nD τ).loc main_arg0)) (m ((c : Thread nD τ).loc main_arg1)) (m ((c : Thread nD τ).loc main_arg2)) := by
  rw [packed, ← entry_scaled m c, ← entry_keys m c, ← entry_values m c]
  unfold V hostOps0
  simp only [List.take_succ_cons, List.take_zero]
  simp only [StableHlo.after_cons, StableHlo.after_nil]
  generalize (StableHlo.binary (τ := τ) main_arg0 main_v0 main_v1 _ _ _ _).result _ = W
  rw [StableHlo.reshape_result, StableHlo.unary_result, StableHlo.nary_result]
  rfl

/-- The array the kernel reads, at a query. -/
theorem packed_q (x0 x1 x2 : Arr) (b : Fin 2) (T : Fin 16384) (C : Fin 256) (R : Fin 32768) (D : Fin 768)
    (hR : R.val = b.val * 16384 + T.val) (hD : D.val = C.val) :
    packed x0 x1 x2 (ix2 R D) = (x0 (ix3 b T C) : EReal) * eighth := by
  pointwise [packed, beside, scaled]
  have e1 : (⟨R.val / 16384, by omega⟩ : Fin 2) = b := Fin.ext (by show R.val / 16384 = b.val; omega)
  have e2 : (⟨R.val % 16384, by omega⟩ : Fin 16384) = T := Fin.ext (by show R.val % 16384 = T.val; omega)
  have e3 : (⟨D.val, by omega⟩ : Fin 256) = C := Fin.ext hD
  rw [dif_pos (by omega), e1, e2, e3]
  rfl

/-- The array the kernel reads, at a key. -/
theorem packed_k (x0 x1 x2 : Arr) (b : Fin 2) (T : Fin 16384) (C : Fin 256) (R : Fin 32768) (D : Fin 768)
    (hR : R.val = b.val * 16384 + T.val) (hD : D.val = C.val + 256) :
    packed x0 x1 x2 (ix2 R D) = (x1 (ix3 b T C) : EReal) := by
  pointwise [packed, beside, scaled]
  have e1 : (⟨R.val / 16384, by omega⟩ : Fin 2) = b := Fin.ext (by show R.val / 16384 = b.val; omega)
  have e2 : (⟨R.val % 16384, by omega⟩ : Fin 16384) = T := Fin.ext (by show R.val % 16384 = T.val; omega)
  have e3 : (⟨D.val - 256, by omega⟩ : Fin 256) = C := Fin.ext (by show D.val - 256 = C.val; omega)
  rw [dif_neg (by omega), dif_pos (by omega), e1, e2, e3]

/-- The array the kernel reads, at a value. -/
theorem packed_v (x0 x1 x2 : Arr) (b : Fin 2) (T : Fin 16384) (C : Fin 256) (R : Fin 32768) (D : Fin 768)
    (hR : R.val = b.val * 16384 + T.val) (hD : D.val = C.val + 512) :
    packed x0 x1 x2 (ix2 R D) = (x2 (ix3 b T C) : EReal) := by
  pointwise [packed, beside, scaled]
  have e1 : (⟨R.val / 16384, by omega⟩ : Fin 2) = b := Fin.ext (by show R.val / 16384 = b.val; omega)
  have e2 : (⟨R.val % 16384, by omega⟩ : Fin 16384) = T := Fin.ext (by show R.val % 16384 = T.val; omega)
  have e3 : (⟨D.val - 256 - 256, by omega⟩ : Fin 256) = C := Fin.ext (by show D.val - 256 - 256 = C.val; omega)
  rw [dif_neg (by omega), dif_neg (by omega), e1, e2, e3]

end Cert.AttnIdeal.Hand
end
-- ==== Proof.Refer.lean ====
module
public import proofs.«01_k».proof.Proof.Gen.AttnRefIdeal.Read
public import proofs.«01_k».proof.Proof.Stick
public import Idealize.ShloMosaic.Lib.Pointwise
public import Idealize.ShloMosaic.Lib.WordCmp
public import Idealize.ShloMosaic.Lib.IdealHost
@[expose] public section
set_option maxRecDepth 16384
noncomputable section
namespace Cert.AttnRefIdeal.Hand
open Cert.AttnRefIdeal Cert.AttnRefIdeal.Gen Cert.AttnRefIdeal.Read Idealize.ShloMosaic Idealize.ShloMosaic.TcCoe Idealize.SL.Sem
open Cert.Stick

/-- The contents of one of the three arguments. -/
abbrev Arr := (⟨S2x16384x256, .f32⟩ : BufTy).Contents (Elt Ideal)

/-- The scale of the scores. -/
def eighth : EReal := Ideal.ofBits .f32 0x3E000000#32

/-- The score of row `T` with the key at place `s`. -/
def zr (x0 x1 : Arr) (b : Fin 2) (h : Fin 4) (T : Fin 16384) (s : ℕ) : EReal :=
  if hs : s < 16384 then (∑ d : Fin 64, x0 (ix3 b T ⟨h.val * 64 + d.val, by omega⟩) * x1 (ix3 b ⟨s, hs⟩ ⟨h.val * 64 + d.val, by omega⟩)) * eighth else 0

/-- A lane of the value at place `s`. -/
def vr (x2 : Arr) (b : Fin 2) (C : Fin 256) (s : ℕ) : EReal :=
  if hs : s < 16384 then x2 (ix3 b ⟨s, hs⟩ C) else 0

/-- The place of a head's lane in the row of all heads. -/
theorem place (b : Fin 2) (h : Fin 4) (T : Fin 16384) (d : Fin 64) :
    idx_main_v0 (idx_main_v1 (ix4 b h T d)) = ix3 b T ⟨h.val * 64 + d.val, by omega⟩ := by
  funext a
  apply Fin.ext
  have hb := b.isLt; have hh := h.isLt; have hT := T.isLt; have hd := d.isLt
  fin_cases a
  · show (((b.val * 16384 + T.val) * 4 + h.val) * 64 + d.val) / 4194304 = b.val
    omega
  · show (((b.val * 16384 + T.val) * 4 + h.val) * 64 + d.val) / 256 % 16384 = T.val
    omega
  · show (((b.val * 16384 + T.val) * 4 + h.val) * 64 + d.val) % 256 = h.val * 64 + d.val
    omega

/-- The queries per head. -/
theorem q_apply (x : Arr) (b : Fin 2) (h : Fin 4) (T : Fin 16384) (d : Fin 64) :
    val_main_v1 (F := Ideal) x (ix4 b h T d) = x (ix3 b T ⟨h.val * 64 + d.val, by omega⟩) := by
  rw [val_main_v1_apply, val_main_v0_apply, place]

/-- The keys per head. -/
theorem k_apply (x : Arr) (b : Fin 2) (h : Fin 4) (T : Fin 16384) (d : Fin 64) :
    val_main_v3 (F := Ideal) x (ix4 b h T d) = x (ix3 b T ⟨h.val * 64 + d.val, by omega⟩) := by
  rw [val_main_v3_apply, val_main_v2_apply]
  exact congrArg x (place b h T d)

/-- The values per head. -/
theorem v_apply (x : Arr) (b : Fin 2) (h : Fin 4) (T : Fin 16384) (d : Fin 64) :
    val_main_v5 (F := Ideal) x (ix4 b h T d) = x (ix3 b T ⟨h.val * 64 + d.val, by omega⟩) := by
  rw [val_main_v5_apply, val_main_v4_apply]
  exact congrArg x (place b h T d)

/-- The scores. -/
theorem z_apply (x0 x1 : Arr) (b : Fin 2) (h : Fin 4) (T s : Fin 16384) :
    val_main_v8 (F := Ideal) x0 x1 (ix4 b h T s) = zr x0 x1 b h T s.val := by
  rw [val_main_v8_apply, val_main_v6_apply, val_main_v7_apply, zr, dif_pos s.isLt]
  show (∑ k : Fin 64, _) * eighth = _
  congr 1
  refine Finset.sum_congr rfl fun d _ => ?_
  have e0 : lidx_main_v6 (ix4 b h T s) d = ix4 b h T d := by funext a; fin_cases a <;> rfl
  have e1 : ridx_main_v6 (ix4 b h T s) d = ix4 b h s d := by funext a; fin_cases a <;> rfl
  rw [e0, e1, q_apply, k_apply]

/-- A number differs from itself nowhere. -/
theorem une_self (x : EReal) : (FloatOps.cmpf (F := Ideal) (φ := .f32) .une x x) = 0#1 := by
  show Ideal.cmp .une x x = 0#1
  simp [Ideal.cmp]

/-- The logarithm of one minus the gate, as the reference computes it. -/
theorem soft_apply (x0 x1 : Arr) (i : S2x4x16384x16384.Idx) :
    val_main_v13 (F := Ideal) x0 x1 i = lk (val_main_v8 (F := Ideal) x0 x1 i) := by
  have hz : FloatOps.ofBits (F := Ideal) .f32 0x00000000#32 = (0 : EReal) := Ideal.ofBits_zero_f32
  rw [val_main_v13_apply, val_main_call0_v1_apply, val_main_call0_call0_v4_apply, une_self, val_main_call0_call0_v11_apply,
    val_main_call0_call0_v1_apply, val_main_call0_call0_v10_apply, val_main_call0_call0_v9_apply,
    val_main_call0_call0_v8_apply, val_main_call0_call0_v7_apply, val_main_call0_call0_v3_apply, val_main_call0_v0_apply,
    val_main_v12_apply, val_main_call0_call0_v0_apply, val_main_call0_call0_v2_apply, val_main_call0_call0_cst_apply, hz]
  generalize val_main_v8 (F := Ideal) x0 x1 i = z
  show -(max (- -z) (0 : EReal) + Ideal.log (1 + Ideal.exp (-(max (- -z - 0) (-(- -z - 0)))))) = lk z
  unfold lk
  rw [neg_neg, sub_zero, zero_sub, zero_sub]

/-- Whether a key lies before a row. -/
theorem before_apply (T s : Fin 16384) :
    IntOp.cmpi .slt (BitVec.ofNat 32 s.val) (BitVec.ofNat 32 T.val) = BitVec.ofBool (decide (s.val < T.val)) :=
  WordCmp.cmpi_slt_ofNat (by have := s.isLt; omega) (by have := T.isLt; omega)

/-- The masked logarithms. -/
theorem keep_apply (x0 x1 : Arr) (b : Fin 2) (h : Fin 4) (T s : Fin 16384) :
    val_main_v14 (F := Ideal) x0 x1 (ix4 b h T s) = keep (zr x0 x1 b h T) T.val s.val := by
  have hz : FloatOps.ofBits (F := Ideal) .f32 0x00000000#32 = (0 : EReal) := Ideal.ofBits_zero_f32
  rw [val_main_v14_apply, soft_apply, z_apply, val_main_call1_v1_apply, val_main_v11_apply, val_main_v10_apply, val_main_v9_apply,
    val_main_call1_v2_apply, val_main_call1_v0_apply, val_main_cst_0_apply, hz]
  show Scalar.select (IntOp.cmpi .slt (BitVec.ofNat 32 s.val) (BitVec.ofNat 32 T.val)) (lk (zr x0 x1 b h T s.val)) (0 : EReal) = _
  rw [before_apply]
  unfold keep
  by_cases hc : s.val < T.val <;> simp [hc, Scalar.select]

/-- The strict triangle. -/
theorem strict_apply (j s : Fin 16384) :
    val_main_v16 (F := Ideal) (ix2 j s) = if s.val < j.val then 1 else 0 := by
  rw [val_main_v16_apply, val_main_v15_apply, val_main_v9_apply, val_main_v10_apply]
  show (((IntOp.cmpi .sgt (BitVec.ofNat 32 j.val) (BitVec.ofNat 32 s.val)).toNat : ℝ) : EReal) = _
  rw [WordCmp.cmpi_sgt_ofNat (by have := j.isLt; omega) (by have := s.isLt; omega)]
  by_cases hc : s.val < j.val <;> simp [hc]

/-- The sum of the logarithms of the later keys. -/
theorem later_apply (x0 x1 : Arr) (b : Fin 2) (h : Fin 4) (T s : Fin 16384) :
    val_main_v17 (F := Ideal) x0 x1 (ix4 b h T s) = later (zr x0 x1 b h T) T.val (s.val + 1) := by
  rw [val_main_v17_apply, later_mask _ _ (s : Fin N)]
  refine Finset.sum_congr rfl fun j _ => ?_
  have e0 : lidx_main_v17 (ix4 b h T s) j = ix4 b h T j := by funext a; fin_cases a <;> rfl
  have e1 : ridx_main_v17 (ix4 b h T s) j = ix2 j s := by funext a; fin_cases a <;> rfl
  rw [e0, e1, keep_apply, strict_apply]

/-- The weights. -/
theorem att_apply (x0 x1 : Arr) (b : Fin 2) (h : Fin 4) (T s : Fin 16384) :
    val_main_v21 (F := Ideal) x0 x1 (ix4 b h T s) = att (zr x0 x1 b h T) T.val s.val := by
  have hz : FloatOps.ofBits (F := Ideal) .f32 0xFF800000#32 = (⊥ : EReal) := by
    show Ideal.ofBits .f32 0xFF800000#32 = ⊥
    simp [Ideal.ofBits, Ideal.ieee]
  rw [val_main_v21_apply, val_main_v20_apply, val_main_v19_apply, val_main_v18_apply, z_apply, keep_apply, later_apply,
    val_main_call2_v1_apply, val_main_v11_apply, val_main_v10_apply, val_main_v9_apply,
    val_main_call2_v2_apply, val_main_call2_v0_apply, val_main_cst_1_apply, hz]
  show Ideal.exp (Scalar.select (IntOp.cmpi .slt (BitVec.ofNat 32 s.val) (BitVec.ofNat 32 T.val))
    (zr x0 x1 b h T s.val + keep (zr x0 x1 b h T) T.val s.val + later (zr x0 x1 b h T) T.val (s.val + 1)) (⊥ : EReal)) = _
  rw [before_apply]
  unfold att
  by_cases hc : s.val < T.val
  · simp [hc, Scalar.select]
  · simp [hc, Scalar.select]

/-- The heads' outputs. -/
theorem out_apply (x0 x1 x2 : Arr) (b : Fin 2) (h : Fin 4) (T : Fin 16384) (d : Fin 64) :
    val_main_v22 (F := Ideal) x0 x1 x2 (ix4 b h T d)
      = accum (zr x0 x1 b h T) (vr x2 b ⟨h.val * 64 + d.val, by omega⟩) T.val 0 := by
  rw [val_main_v22_apply, accum_zero]
  refine Finset.sum_congr rfl fun s _ => ?_
  have e0 : lidx_main_v22 (ix4 b h T d) s = ix4 b h T s := by funext a; fin_cases a <;> rfl
  have e1 : ridx_main_v22 (ix4 b h T d) s = ix4 b h s d := by funext a; fin_cases a <;> rfl
  rw [e0, e1, att_apply, v_apply, vr, dif_pos s.isLt]

/-- The reference's result, at a row and a lane. -/
theorem ref_apply (x0 x1 x2 : Arr) (b : Fin 2) (h : Fin 4) (T : Fin 16384) (d : Fin 64) (R : Fin 32768) (C : Fin 256)
    (hR : R.val = b.val * 16384 + T.val) (hC : C.val = h.val * 64 + d.val) :
    val_main_v25 (F := Ideal) x0 x1 x2 (ix2 R C) = accum (zr x0 x1 b h T) (vr x2 b C) T.val 0 := by
  have e : idx_main_v23 (idx_main_v24 (ix2 R C)) = ix4 b h T d := by
    funext a
    apply Fin.ext
    have hb := b.isLt; have hh := h.isLt; have hT := T.isLt; have hd := d.isLt
    fin_cases a
    · show (R.val * 256 + C.val) / 4194304 = b.val
      omega
    · show (R.val * 256 + C.val) / 64 % 4 = h.val
      omega
    · show (R.val * 256 + C.val) / 256 % 16384 = T.val
      omega
    · show (R.val * 256 + C.val) % 64 = d.val
      omega
  have eC : (⟨h.val * 64 + d.val, by omega⟩ : Fin 256) = C := Fin.ext hC.symm
  show val_main_v24 (F := Ideal) x0 x1 x2 (ix2 R C) = _
  rw [val_main_v24_apply, val_main_v23_apply, e, out_apply, eC]

end Cert.AttnRefIdeal.Hand
end
-- ==== Proof.Lanes.lean ====
module
public import proofs.«01_k».proof.Proof.Stick
public import proofs.«01_k».proof.Proof.Blocks
public import proofs.«01_k».proof.Proof.Entry
public import proofs.«01_k».proof.Proof.Refer
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

/-- The scale is the real number one eighth. -/
theorem eighth_eq : eighth = ((1 / 8 : ℝ) : EReal) := by
  simp [eighth, Ideal.ofBits, Ideal.ieee]
  rw [← EReal.coe_mul]
  norm_num

/-- Scaling by one eighth distributes over a sum, infinite terms included. -/
theorem add_eighth (a b : EReal) : (a + b) * eighth = a * eighth + b * eighth := by
  have h0 : (0 : EReal) ≤ eighth := by rw [eighth_eq]; exact_mod_cast (by norm_num : (0 : ℝ) ≤ 1 / 8)
  have h1 : eighth ≠ ⊤ := by rw [eighth_eq]; exact EReal.coe_ne_top _
  rw [mul_comm, mul_comm a, mul_comm b]
  exact EReal.left_distrib_of_nonneg_of_ne_top h0 h1 a b

/-- Scaling by one eighth goes inside a finite sum. -/
theorem sum_eighth {ι : Type} (S : Finset ι) (f : ι → EReal) : (∑ i ∈ S, f i) * eighth = ∑ i ∈ S, f i * eighth := by
  classical
  induction S using Finset.induction_on with
  | empty => simp
  | insert a S ha ih => rw [Finset.sum_insert ha, Finset.sum_insert ha, add_eighth, ih]

/-- A sum over the lanes of a pair of heads in which one head is masked and the queries are scaled is the other head's sum, scaled. -/
theorem half_sum (h : Fin 2) (q k : Fin 128 → EReal) :
    ∑ d : Fin 128, (if (d.val < 64 ↔ h = 0) then q d * eighth else 0) * k d
      = (∑ d : Fin 64, q ⟨h.val * 64 + d.val, by omega⟩ * k ⟨h.val * 64 + d.val, by omega⟩) * eighth := by
  rw [sum_eighth]
  have hs := Fin.sum_univ_add (a := 64) (b := 64) fun d : Fin 128 => (if (d.val < 64 ↔ h = 0) then q d * eighth else 0) * k d
  refine hs.trans ?_
  have two : h = 0 ∨ h = 1 := by omega
  rcases two with rfl | rfl
  · rw [Finset.sum_eq_zero (s := Finset.univ) (f := fun i : Fin 64 => (if ((Fin.natAdd 64 i).val < 64 ↔ (0 : Fin 2) = 0) then q (Fin.natAdd 64 i) * eighth else 0) * k (Fin.natAdd 64 i)), add_zero]
    · refine Finset.sum_congr rfl fun d _ => ?_
      rw [if_pos (by simp)]
      have e : (⟨(0 : Fin 2).val * 64 + d.val, by omega⟩ : Fin 128) = Fin.castAdd 64 d := Fin.ext (by simp)
      rw [e, mul_right_comm]
    · intro d _
      rw [if_neg (by simp), zero_mul]
  · rw [Finset.sum_eq_zero (s := Finset.univ) (f := fun i : Fin 64 => (if ((Fin.castAdd 64 i).val < 64 ↔ (1 : Fin 2) = 0) then q (Fin.castAdd 64 i) * eighth else 0) * k (Fin.castAdd 64 i)), zero_add]
    · refine Finset.sum_congr rfl fun d _ => ?_
      rw [if_pos (by simp)]
      have e : (⟨(1 : Fin 2).val * 64 + d.val, by omega⟩ : Fin 128) = Fin.natAdd 64 d := Fin.ext (by simp; omega)
      rw [e, mul_right_comm]
    · intro d _
      rw [if_neg (by simp), zero_mul]

/-- The kernel's scores of a row, from the blocks it reads, are the reference's scores of that row. -/
theorem score_eq (x0 x1 : Arr) (X : Vec Ideal S512x128 .bf16) (K : Vec Ideal S16384x128 .bf16) (b : Fin 2) (p h : Fin 2) (H : Fin 4)
    (T : Fin 16384) (bb : Fin 4) (r : Fin 128) (R : Fin 512) (hR : R.val = bb.val * 128 + r.val) (hH : H.val = 2 * p.val + h.val)
    (hX : ∀ d : Fin 128, X (ix2 R d) = (x0 (ix3 b T ⟨p.val * 128 + d.val, by omega⟩) : EReal) * eighth)
    (hK : ∀ (s : Fin 16384) (d : Fin 128), K (ix2 s d) = (x1 (ix3 b s ⟨p.val * 128 + d.val, by omega⟩) : EReal)) :
    score (qHead h X bb) K r = Cert.AttnRefIdeal.Hand.zr x0 x1 b H T := by
  funext s
  unfold score Cert.AttnRefIdeal.Hand.zr
  split
  · rename_i hs
    have hh := half_sum h (fun d => (x0 (ix3 b T ⟨p.val * 128 + d.val, by omega⟩) : EReal)) (fun d => (x1 (ix3 b ⟨s, hs⟩ ⟨p.val * 128 + d.val, by omega⟩) : EReal))
    refine (Finset.sum_congr rfl fun d _ => ?_).trans (hh.trans ?_)
    · rw [hK]
      unfold qHead
      have e : (⟨bb.val * 128 + ((ix2 r d : S128x128.Idx) 0).val, by have := r.isLt; show bb.val * 128 + r.val < 512; omega⟩ : Fin 512) = R :=
        Fin.ext (by show bb.val * 128 + r.val = R.val; omega)
      show (if (d.val < 64 ↔ h = 0) then X (ix2 (⟨bb.val * 128 + ((ix2 r d : S128x128.Idx) 0).val, _⟩ : Fin 512) d) else 0) * _ = _
      rw [e, hX]
    · show _ * eighth = _ * eighth
      congr 1
      refine Finset.sum_congr rfl fun d _ => ?_
      have e : (⟨p.val * 128 + (h.val * 64 + d.val), by omega⟩ : Fin 256) = ⟨H.val * 64 + d.val, by omega⟩ := Fin.ext (by show p.val * 128 + (h.val * 64 + d.val) = H.val * 64 + d.val; omega)
      show x0 (ix3 b T (⟨p.val * 128 + (h.val * 64 + d.val), _⟩ : Fin 256)) * x1 (ix3 b ⟨s, hs⟩ (⟨p.val * 128 + (h.val * 64 + d.val), _⟩ : Fin 256)) = _
      rw [e]
  · rfl

/-- The kernel's values on a lane, from the block it reads, are the reference's. -/
theorem value_eq (x2 : Arr) (V : Vec Ideal S16384x128 .bf16) (b : Fin 2) (p : Fin 2) (l : Fin 128) (C : Fin 256)
    (hC : C.val = p.val * 128 + l.val)
    (hV : ∀ (s : Fin 16384) (d : Fin 128), V (ix2 s d) = (x2 (ix3 b s ⟨p.val * 128 + d.val, by omega⟩) : EReal)) :
    value V l = Cert.AttnRefIdeal.Hand.vr x2 b C := by
  funext s
  unfold value Cert.AttnRefIdeal.Hand.vr
  split
  · rw [hV]
    have e : (⟨p.val * 128 + l.val, by omega⟩ : Fin 256) = C := Fin.ext hC.symm
    rw [e]
  · rfl

end Cert.AttnIdeal.Hand
end
-- ==== Proof.Final.lean ====
module
public import proofs.«01_k».proof.Proof.Gen.AttnIdeal.Value
public import proofs.«01_k».proof.Proof.Lanes
@[expose] public section
set_option maxRecDepth 16384
noncomputable section
namespace Cert.AttnIdeal.Hand
open Cert.AttnIdeal Cert.AttnIdeal.Gen Idealize.ShloMosaic Idealize.ShloMosaic.TcCoe Idealize.SL.Sem
open Cert.Stick

variable (m : (ℓ : Loc nD τ sig) → Buf (Elt Ideal) ℓ)

/-- Which block each window takes at a grid point. -/
theorem idx : ∀ t : Fin cfg0.N,
    win0_0.index t = ![(grid0.coords t 0).val * 32 + (grid0.coords t 2).val, (grid0.coords t 1).val]
    ∧ win0_1.index t = ![(grid0.coords t 0).val, 2 + (grid0.coords t 1).val]
    ∧ win0_2.index t = ![(grid0.coords t 0).val, 4 + (grid0.coords t 1).val]
    ∧ win0_3.index t = ![(grid0.coords t 0).val * 32 + (grid0.coords t 2).val, (grid0.coords t 1).val] :=
  (by decide +kernel : ∀ t : Fin grid0.N, _)

/-- A query block's entry in the array the kernel reads. -/
theorem iblk_q (c : Dev nD) (t : Fin cfg0.N) (R : Fin 512) (d : Fin 128) (RR : Fin 32768) (D : Fin 768)
    (hR : RR.val = ((grid0.coords t 0).val * 32 + (grid0.coords t 2).val) * 512 + R.val) (hD : D.val = (grid0.coords t 1).val * 128 + d.val) :
    iblk m c 0 t (ix2 R d) = V m c main_v4 (ix2 RR D) := by
  blk_simp [iblk]
  congr 1
  blk_ext [idx t]

/-- A key's entry in the array the kernel reads. -/
theorem iblk_k (c : Dev nD) (t : Fin cfg0.N) (s : Fin 16384) (d : Fin 128) (RR : Fin 32768) (D : Fin 768)
    (hR : RR.val = (grid0.coords t 0).val * 16384 + s.val) (hD : D.val = (2 + (grid0.coords t 1).val) * 128 + d.val) :
    iblk m c 1 t (ix2 s d) = V m c main_v4 (ix2 RR D) := by
  blk_simp [iblk]
  congr 1
  blk_ext [idx t]

/-- A value's entry in the array the kernel reads. -/
theorem iblk_v (c : Dev nD) (t : Fin cfg0.N) (s : Fin 16384) (d : Fin 128) (RR : Fin 32768) (D : Fin 768)
    (hR : RR.val = (grid0.coords t 0).val * 16384 + s.val) (hD : D.val = (4 + (grid0.coords t 1).val) * 128 + d.val) :
    iblk m c 2 t (ix2 s d) = V m c main_v4 (ix2 RR D) := by
  blk_simp [iblk]
  congr 1
  blk_ext [idx t]

/-- What the kernel leaves in an entry of its output block, in the reference's words. -/
theorem out_eq (a0 a1 a2 : Arr) (c : Dev nD) (i : grid0.Coords) (arg3 : Memref sig .tc .vmem S512x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S512x128 .bf16) (harg6 : arg6.IsWhole) (arg7 : Memref sig .tc .vmem S2x128x128 .f32) (harg7 : arg7.IsWhole) (arg8 : Memref sig .tc .vmem S2x128x128 .f32) (harg8 : arg8.IsWhole)
    (x0 : Vec Ideal S512x128 .bf16) (x1 x2 : Vec Ideal S16384x128 .bf16) (R : Fin 512) (l : Fin 128)
    (b p : Fin 2) (T : Fin 16384) (h0 h1 : Fin 4) (C : Fin 256)
    (hT : T.val = (i 2).val * 512 + R.val) (hh0 : h0.val = 2 * p.val + (0 : Fin 2).val) (hh1 : h1.val = 2 * p.val + (1 : Fin 2).val)
    (hC : C.val = p.val * 128 + l.val)
    (hX : ∀ d : Fin 128, x0 (ix2 R d) = (a0 (ix3 b T ⟨p.val * 128 + d.val, by omega⟩) : EReal) * eighth)
    (hK : ∀ (s : Fin 16384) (d : Fin 128), x1 (ix2 s d) = (a1 (ix3 b s ⟨p.val * 128 + d.val, by omega⟩) : EReal))
    (hV : ∀ (s : Fin 16384) (d : Fin 128), x2 (ix2 s d) = (a2 (ix3 b s ⟨p.val * 128 + d.val, by omega⟩) : EReal)) :
    out0_A_3 c i arg3 harg3 arg4 harg4 arg5 harg5 arg6 harg6 arg7 harg7 arg8 harg8 x0 x1 x2 (ix2 R l)
      = if l.val < 64 then accum (Cert.AttnRefIdeal.Hand.zr a0 a1 b h0 T) (Cert.AttnRefIdeal.Hand.vr a2 b C) T.val 0
        else accum (Cert.AttnRefIdeal.Hand.zr a0 a1 b h1 T) (Cert.AttnRefIdeal.Hand.vr a2 b C) T.val 0 := by
  have hz : (i 2).val * 512 + R.val = T.val := hT.symm
  have four : R.val < 128 ∨ (128 ≤ R.val ∧ R.val < 256) ∨ (256 ≤ R.val ∧ R.val < 384) ∨ 384 ≤ R.val := by omega
  rcases four with hr | ⟨hr, hr'⟩ | ⟨hr, hr'⟩ | hr
  · have e : (⟨R.val, R.isLt⟩ : Fin 512) = ⟨0 * 128 + (R.val - 0 * 128), by omega⟩ := Fin.ext (by show R.val = 0 * 128 + (R.val - 0 * 128); omega)
    have hb := blk0 c i arg3 harg3 arg4 harg4 arg5 harg5 arg6 harg6 arg7 harg7 arg8 harg8 x0 x1 x2 ⟨R.val - 0 * 128, by omega⟩ l
    have eT : (4 * (i 2).val + 0) * 128 + (R.val - 0 * 128) = (i 2).val * 512 + R.val := by omega
    refine ((congrArg (fun z : Fin 512 => out0_A_3 c i arg3 harg3 arg4 harg4 arg5 harg5 arg6 harg6 arg7 harg7 arg8 harg8 x0 x1 x2 (ix2 z l)) e).trans hb).trans ?_
    show (if l.val < 64 then accum (score (qHead 0 x0 0) x1 ⟨R.val - 0 * 128, by omega⟩) (value x2 l) ((4 * (i 2).val + 0) * 128 + (R.val - 0 * 128)) 0
        else accum (score (qHead 1 x0 0) x1 ⟨R.val - 0 * 128, by omega⟩) (value x2 l) ((4 * (i 2).val + 0) * 128 + (R.val - 0 * 128)) 0) = _
    rw [eT, hz, score_eq a0 a1 x0 x1 b p 0 h0 T 0 ⟨R.val - 0 * 128, by omega⟩ R (by show R.val = 0 * 128 + (R.val - 0 * 128); omega) hh0 hX hK,
      score_eq a0 a1 x0 x1 b p 1 h1 T 0 ⟨R.val - 0 * 128, by omega⟩ R (by show R.val = 0 * 128 + (R.val - 0 * 128); omega) hh1 hX hK,
      value_eq a2 x2 b p l C hC hV]
  · have e : (⟨R.val, R.isLt⟩ : Fin 512) = ⟨1 * 128 + (R.val - 1 * 128), by omega⟩ := Fin.ext (by show R.val = 1 * 128 + (R.val - 1 * 128); omega)
    have hb := blk1 c i arg3 harg3 arg4 harg4 arg5 harg5 arg6 harg6 arg7 harg7 arg8 harg8 x0 x1 x2 ⟨R.val - 1 * 128, by omega⟩ l
    have eT : (4 * (i 2).val + 1) * 128 + (R.val - 1 * 128) = (i 2).val * 512 + R.val := by omega
    refine ((congrArg (fun z : Fin 512 => out0_A_3 c i arg3 harg3 arg4 harg4 arg5 harg5 arg6 harg6 arg7 harg7 arg8 harg8 x0 x1 x2 (ix2 z l)) e).trans hb).trans ?_
    show (if l.val < 64 then accum (score (qHead 0 x0 1) x1 ⟨R.val - 1 * 128, by omega⟩) (value x2 l) ((4 * (i 2).val + 1) * 128 + (R.val - 1 * 128)) 0
        else accum (score (qHead 1 x0 1) x1 ⟨R.val - 1 * 128, by omega⟩) (value x2 l) ((4 * (i 2).val + 1) * 128 + (R.val - 1 * 128)) 0) = _
    rw [eT, hz, score_eq a0 a1 x0 x1 b p 0 h0 T 1 ⟨R.val - 1 * 128, by omega⟩ R (by show R.val = 1 * 128 + (R.val - 1 * 128); omega) hh0 hX hK,
      score_eq a0 a1 x0 x1 b p 1 h1 T 1 ⟨R.val - 1 * 128, by omega⟩ R (by show R.val = 1 * 128 + (R.val - 1 * 128); omega) hh1 hX hK,
      value_eq a2 x2 b p l C hC hV]
  · have e : (⟨R.val, R.isLt⟩ : Fin 512) = ⟨2 * 128 + (R.val - 2 * 128), by omega⟩ := Fin.ext (by show R.val = 2 * 128 + (R.val - 2 * 128); omega)
    have hb := blk2 c i arg3 harg3 arg4 harg4 arg5 harg5 arg6 harg6 arg7 harg7 arg8 harg8 x0 x1 x2 ⟨R.val - 2 * 128, by omega⟩ l
    have eT : (4 * (i 2).val + 2) * 128 + (R.val - 2 * 128) = (i 2).val * 512 + R.val := by omega
    refine ((congrArg (fun z : Fin 512 => out0_A_3 c i arg3 harg3 arg4 harg4 arg5 harg5 arg6 harg6 arg7 harg7 arg8 harg8 x0 x1 x2 (ix2 z l)) e).trans hb).trans ?_
    show (if l.val < 64 then accum (score (qHead 0 x0 2) x1 ⟨R.val - 2 * 128, by omega⟩) (value x2 l) ((4 * (i 2).val + 2) * 128 + (R.val - 2 * 128)) 0
        else accum (score (qHead 1 x0 2) x1 ⟨R.val - 2 * 128, by omega⟩) (value x2 l) ((4 * (i 2).val + 2) * 128 + (R.val - 2 * 128)) 0) = _
    rw [eT, hz, score_eq a0 a1 x0 x1 b p 0 h0 T 2 ⟨R.val - 2 * 128, by omega⟩ R (by show R.val = 2 * 128 + (R.val - 2 * 128); omega) hh0 hX hK,
      score_eq a0 a1 x0 x1 b p 1 h1 T 2 ⟨R.val - 2 * 128, by omega⟩ R (by show R.val = 2 * 128 + (R.val - 2 * 128); omega) hh1 hX hK,
      value_eq a2 x2 b p l C hC hV]
  · have e : (⟨R.val, R.isLt⟩ : Fin 512) = ⟨3 * 128 + (R.val - 3 * 128), by omega⟩ := Fin.ext (by show R.val = 3 * 128 + (R.val - 3 * 128); omega)
    have hb := blk3 c i arg3 harg3 arg4 harg4 arg5 harg5 arg6 harg6 arg7 harg7 arg8 harg8 x0 x1 x2 ⟨R.val - 3 * 128, by omega⟩ l
    have eT : (4 * (i 2).val + 3) * 128 + (R.val - 3 * 128) = (i 2).val * 512 + R.val := by omega
    refine ((congrArg (fun z : Fin 512 => out0_A_3 c i arg3 harg3 arg4 harg4 arg5 harg5 arg6 harg6 arg7 harg7 arg8 harg8 x0 x1 x2 (ix2 z l)) e).trans hb).trans ?_
    show (if l.val < 64 then accum (score (qHead 0 x0 3) x1 ⟨R.val - 3 * 128, by omega⟩) (value x2 l) ((4 * (i 2).val + 3) * 128 + (R.val - 3 * 128)) 0
        else accum (score (qHead 1 x0 3) x1 ⟨R.val - 3 * 128, by omega⟩) (value x2 l) ((4 * (i 2).val + 3) * 128 + (R.val - 3 * 128)) 0) = _
    rw [eT, hz, score_eq a0 a1 x0 x1 b p 0 h0 T 3 ⟨R.val - 3 * 128, by omega⟩ R (by show R.val = 3 * 128 + (R.val - 3 * 128); omega) hh0 hX hK,
      score_eq a0 a1 x0 x1 b p 1 h1 T 3 ⟨R.val - 3 * 128, by omega⟩ R (by show R.val = 3 * 128 + (R.val - 3 * 128); omega) hh1 hX hK,
      value_eq a2 x2 b p l C hC hV]

/-- The attention as the reference computes it, from the program's arguments. -/
abbrev goal (a0 a1 a2 : Arr) : (⟨S32768x256, .f32⟩ : BufTy).Contents (Elt Ideal) :=
  Cert.AttnRefIdeal.Read.val_main_v25 (F := Ideal) a0 a1 a2

/-- The kernel's output array is the reference's. -/
theorem final (c : Dev nD) : (dats m 0 c).arrAt 3 cfg0.N
    = goal (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨R, l, rfl⟩ : ∃ (R : Fin 512) (l : Fin 128), y = ix2 R l := ⟨y 0, y 1, by funext a; fin_cases a <;> rfl⟩
  have c0 : (grid0.coords t 0).val < 2 := (grid0.coords t 0).isLt
  have c1 : (grid0.coords t 1).val < 2 := (grid0.coords t 1).isLt
  have c2 : (grid0.coords t 2).val < 32 := (grid0.coords t 2).isLt
  have hR := R.isLt
  have hl := l.isLt
  have e3 : ((cfg0.win 3).blk t).view.emb (ix2 R l)
      = ix2 (⟨((grid0.coords t 0).val * 32 + (grid0.coords t 2).val) * 512 + R.val, by omega⟩ : Fin 32768) (⟨(grid0.coords t 1).val * 128 + l.val, by omega⟩ : Fin 256) := by
    blk_ext [idx t]
  rw [e3]
  refine (out_eq (m ((c : Thread nD τ).loc main_arg0)) (m ((c : Thread nD τ).loc main_arg1)) (m ((c : Thread nD τ).loc main_arg2))
    c (grid0.coords t) (ms0_0 t) (hs0_0 t) (ms0_1 t) (hs0_1 t) (ms0_2 t) (hs0_2 t) (ms0_3 t) (hs0_3 t) scM0_0 (Memref.isWhole_whole _) scM0_1 (Memref.isWhole_whole _)
    (iblk m c 0 t) (iblk m c 1 t) (iblk m c 2 t) R l ⟨(grid0.coords t 0).val, c0⟩ ⟨(grid0.coords t 1).val, c1⟩
    ⟨(grid0.coords t 2).val * 512 + R.val, by omega⟩ ⟨2 * (grid0.coords t 1).val, by omega⟩ ⟨2 * (grid0.coords t 1).val + 1, by omega⟩
    ⟨(grid0.coords t 1).val * 128 + l.val, by omega⟩ rfl rfl rfl rfl ?_ ?_ ?_).trans ?_
  · intro d
    have hd := d.isLt
    rw [iblk_q m c t R d ⟨((grid0.coords t 0).val * 32 + (grid0.coords t 2).val) * 512 + R.val, by omega⟩ ⟨(grid0.coords t 1).val * 128 + d.val, by omega⟩ rfl rfl, entry]
    exact packed_q _ _ _ _ _ _ _ _ (by show _ = (grid0.coords t 0).val * 16384 + ((grid0.coords t 2).val * 512 + R.val); dsimp only; omega) rfl
  · intro s d
    have hd := d.isLt
    have hs := s.isLt
    rw [iblk_k m c t s d ⟨(grid0.coords t 0).val * 16384 + s.val, by omega⟩ ⟨(2 + (grid0.coords t 1).val) * 128 + d.val, by omega⟩ rfl rfl, entry]
    exact packed_k _ _ _ _ _ _ _ _ rfl (by show _ = (grid0.coords t 1).val * 128 + d.val + 256; dsimp only; omega)
  · intro s d
    have hd := d.isLt
    have hs := s.isLt
    rw [iblk_v m c t s d ⟨(grid0.coords t 0).val * 16384 + s.val, by omega⟩ ⟨(4 + (grid0.coords t 1).val) * 128 + d.val, by omega⟩ rfl rfl, entry]
    exact packed_v _ _ _ _ _ _ _ _ rfl (by show _ = (grid0.coords t 1).val * 128 + d.val + 512; dsimp only; omega)
  · split
    · rename_i h64
      exact (Cert.AttnRefIdeal.Hand.ref_apply _ _ _ ⟨(grid0.coords t 0).val, c0⟩ ⟨2 * (grid0.coords t 1).val, by omega⟩ ⟨(grid0.coords t 2).val * 512 + R.val, by omega⟩ ⟨l.val, h64⟩ _ _
        (by show _ = (grid0.coords t 0).val * 16384 + ((grid0.coords t 2).val * 512 + R.val); dsimp only; omega)
        (by show _ = (2 * (grid0.coords t 1).val) * 64 + l.val; dsimp only; omega)).symm
    · rename_i h64
      exact (Cert.AttnRefIdeal.Hand.ref_apply _ _ _ ⟨(grid0.coords t 0).val, c0⟩ ⟨2 * (grid0.coords t 1).val + 1, by omega⟩ ⟨(grid0.coords t 2).val * 512 + R.val, by omega⟩ ⟨l.val - 64, by omega⟩ _ _
        (by show _ = (grid0.coords t 0).val * 16384 + ((grid0.coords t 2).val * 512 + R.val); dsimp only; omega)
        (by show _ = (2 * (grid0.coords t 1).val + 1) * 64 + (l.val - 64); dsimp only; omega)).symm

end Cert.AttnIdeal.Hand
end
-- ==== Proof.Rows.lean ====
module
public import Idealize.ShloMosaic.Lib.Pointwise
@[expose] public section
noncomputable section
/-! What the layer's parts compute of one row, in the reference's order of operations. -/
namespace Cert.Rows
open Idealize.ShloMosaic

/-- The reciprocal root of a row's mean square. -/
def rms (f : Fin 1024 → EReal) : EReal :=
  Ideal.rsqrt (Ideal.div (∑ k, f k * f k) (Ideal.ofBits .f32 0x44800000#32) + Ideal.ofBits .f32 0x358637BD#32)

/-- A row normalised, scaled by a gain and a modulation, and shifted. -/
def pre (x g sc sh : Fin 1024 → EReal) (k : Fin 1024) : EReal := x k * rms x * g k * (1 + sc k) + sh k

/-- The logistic function. -/
def logistic (z : EReal) : EReal := Ideal.div 1 (1 + Ideal.exp (-z))

/-- A row with the gated, normalised row `f` added. -/
def post (x f g gate : Fin 1024 → EReal) (k : Fin 1024) : EReal := x k + gate k * (f k * rms f * g k)

/-- A row times a matrix. -/
def times {a b : ℕ} (h : Fin a → EReal) (W : Fin a → Fin b → EReal) (j : Fin b) : EReal := ∑ i, h i * W i j

/-- The feed-forward part of the layer, on one row. -/
def ffn (x g sc sh gate gp : Fin 1024 → EReal) (Wg Wu : Fin 1024 → Fin 2816 → EReal) (Wo : Fin 2816 → Fin 1024 → EReal) : Fin 1024 → EReal :=
  post x (times (fun j => times (pre x g sc sh) Wg j * logistic (times (pre x g sc sh) Wg j) * times (pre x g sc sh) Wu j) Wo) gp gate

/-- The three gated branch rows, added. -/
def mixed (ga gb gc pa pb pc : Fin 1024 → EReal) (j : Fin 1024) : EReal :=
  logistic (ga j) * pa j + logistic (gb j) * pb j + logistic (gc j) * pc j

/-- The gating, merging and output projection of the three branches, on one row: `f` are the branch rows, `G` the gates'
    weights, `P` the branches' projections, `Wo` the output projection. -/
def merge (x g sc sh gate gp : Fin 1024 → EReal) (fa fb : Fin 256 → EReal) (fc : Fin 512 → EReal) (Ga Gb Gc : Fin 1024 → Fin 1024 → EReal)
    (Pa Pb : Fin 256 → Fin 1024 → EReal) (Pc : Fin 512 → Fin 1024 → EReal) (Wo : Fin 1024 → Fin 1024 → EReal) : Fin 1024 → EReal :=
  post x (times (mixed (times (pre x g sc sh) Ga) (times (pre x g sc sh) Gb) (times (pre x g sc sh) Gc) (times fa Pa) (times fb Pb) (times fc Pc)) Wo) gp gate

/-- The kernel's order of the two scalings of a row gives the same. -/
theorem pre_eq (x g sc sh : Fin 1024 → EReal) (k : Fin 1024) : x k * rms x * (g k * (1 + sc k)) + sh k = pre x g sc sh k := by
  unfold pre
  rw [mul_assoc (x k * rms x)]

end Cert.Rows
end
-- ==== Proof.FfnRefer.lean ====
module
public import proofs.«01_k».proof.Proof.Gen.FfnRefIdeal.Read
public import proofs.«01_k».proof.Proof.Rows
public import Idealize.ShloMosaic.Lib.Pointwise
@[expose] public section
set_option maxRecDepth 16384
noncomputable section
/-! The feed-forward reference, entry by entry: every row is the feed-forward part of the layer on that row. -/
namespace Cert.FfnRefIdeal.Hand
open Cert.FfnRefIdeal Cert.FfnRefIdeal.Gen Cert.FfnRefIdeal.Read Idealize.ShloMosaic Idealize.ShloMosaic.TcCoe Idealize.SL.Sem
open Cert.Rows

variable (x0 : (⟨S2x16384x1024, .f32⟩ : BufTy).Contents (Elt Ideal)) (x1 : (⟨S2x6x1024, .f32⟩ : BufTy).Contents (Elt Ideal))
  (x2 x3 : (⟨S1024, .f32⟩ : BufTy).Contents (Elt Ideal)) (x4 : (⟨S1024x5632, .f32⟩ : BufTy).Contents (Elt Ideal)) (x5 : (⟨S2816x1024, .f32⟩ : BufTy).Contents (Elt Ideal))

/-- The modulated normalised row that enters the two projections. -/
def entering (b : Fin 2) (T : Fin 16384) : Fin 1024 → EReal :=
  pre (fun k => x0 (ix3 b T k)) (fun k => x2 (ix1 k)) (fun k => x1 (ix3 b 4 k)) (fun k => x1 (ix3 b 3 k))

/-- Row `T` of batch `b` after the feed-forward part. -/
def row (b : Fin 2) (T : Fin 16384) : Fin 1024 → EReal :=
  ffn (fun k => x0 (ix3 b T k)) (fun k => x2 (ix1 k)) (fun k => x1 (ix3 b 4 k)) (fun k => x1 (ix3 b 3 k)) (fun k => x1 (ix3 b 5 k)) (fun k => x3 (ix1 k))
    (fun i j => x4 (ix2 i ⟨j.val, by omega⟩)) (fun i j => x4 (ix2 i ⟨2816 + j.val, by omega⟩)) (fun j k => x5 (ix2 j k))

/-- The reference's modulated rows. -/
theorem pre_apply (b : Fin 2) (T : Fin 16384) (k : Fin 1024) :
    val_main_v21 (F := Ideal) x0 x1 x2 (ix3 b T k) = entering x0 x1 x2 b T k := by
  pointwise [val_main_v21, val_main_v20, val_main_v19, val_main_v18, val_main_v17, val_main_v16, val_main_cst_2, val_main_v15, val_main_v14, val_main_v13, val_main_v12, val_main_v11, val_main_v10, val_main_v9, val_main_v8, val_main_cst_1, val_main_v7, val_main_v6, val_main_cst_0, val_main_v5, val_main_v4, val_main_cst, val_main_v3, val_main_v1, val_main_v0]
  rfl

/-- The reference's first product. -/
theorem dot_apply (b : Fin 2) (T : Fin 16384) (j : Fin 5632) :
    val_main_v22 (F := Ideal) x0 x1 x2 x4 (ix3 b T j) = times (entering x0 x1 x2 b T) (fun i j => x4 (ix2 i j)) j := by
  pointwise [val_main_v22]
  simp only [pre_apply]
  rfl

/-- The reference's second product. -/
theorem down_apply (b : Fin 2) (T : Fin 16384) (k : Fin 1024) :
    val_main_v27 (F := Ideal) x0 x1 x2 x4 x5 (ix3 b T k)
      = times (fun j : Fin 2816 => times (entering x0 x1 x2 b T) (fun i j => x4 (ix2 i j)) ⟨j.val, by omega⟩
          * logistic (times (entering x0 x1 x2 b T) (fun i j => x4 (ix2 i j)) ⟨j.val, by omega⟩)
          * times (entering x0 x1 x2 b T) (fun i j => x4 (ix2 i j)) ⟨2816 + j.val, by omega⟩) (fun j k => x5 (ix2 j k)) k := by
  pointwise [val_main_v27, val_main_v26, val_main_v25, val_main_v24, val_main_v23, val_main_call0_v5, val_main_call0_v4, val_main_call0_v3, val_main_call0_v2, val_main_call0_v1, val_main_call0_v0, val_main_call0_cst, val_main_call0_cst_0]
  simp only [dot_apply]
  rfl

/-- The reference's result, row by row. -/
theorem result_apply (R : Fin 32768) (k : Fin 1024) :
    val_main_v44 (F := Ideal) x0 x1 x2 x3 x4 x5 (ix2 R k)
      = row x0 x1 x2 x3 x4 x5 ⟨R.val / 16384, by omega⟩ ⟨R.val % 16384, by omega⟩ k := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_3, val_main_cst_4, val_main_cst_5, val_main_v2]
  simp only [down_apply]
  rfl

end Cert.FfnRefIdeal.Hand
end
-- ==== Proof.FfnFinal.lean ====
module
public import proofs.«01_k».proof.Proof.Gen.FfnIdeal.Value
public import proofs.«01_k».proof.Proof.FfnRefer
public import Idealize.ShloMosaic.Lib.Pipeline.ValueKit
@[expose] public section
set_option maxRecDepth 16384
noncomputable section
/-! The feed-forward kernel's output array is the reference's result. -/
namespace Cert.FfnIdeal.Hand
open Cert.FfnIdeal Cert.FfnIdeal.Gen Idealize.ShloMosaic Idealize.ShloMosaic.TcCoe Idealize.SL.Sem
open Cert.Rows

section block
variable (x0 : Vec Ideal S512x1024 .f32) (x1 : Vec Ideal S1x6x1024 .f32) (x2 x3 : Vec Ideal S1x1024 .f32) (x4 : Vec Ideal S1024x5632 .bf16) (x5 : Vec Ideal S2816x1024 .bf16)

/-- The kernel's modulated normalised row. -/
theorem pay_pre (sh sc : Vec Ideal S1x1x1024 .f32) (r : Fin 512) (k : Fin 1024) :
    k0_pay4 (F := Ideal) x0 sh sc x2 (ix2 r k)
      = pre (fun k => x0 (ix2 r k)) (fun k => x2 (ix2 0 k)) (fun k => sc (ix3 0 0 k)) (fun k => sh (ix3 0 0 k)) k := by
  pointwise [k0_pay4, k0_pay2]
  exact pre_eq (fun k => x0 (ix2 r k)) (fun k => x2 (ix2 0 k)) (fun k => sc (ix3 0 0 k)) (fun k => sh (ix3 0 0 k)) k

/-- A row of a block after the kernel's body. -/
def row (r : Fin 512) : Fin 1024 → EReal :=
  ffn (fun k => x0 (ix2 r k)) (fun k => x2 (ix2 0 k)) (fun k => x1 (ix3 0 4 k)) (fun k => x1 (ix3 0 3 k)) (fun k => x1 (ix3 0 5 k)) (fun k => x3 (ix2 0 k))
    (fun i j => x4 (ix2 i ⟨j.val, by omega⟩)) (fun i j => x4 (ix2 i ⟨2816 + j.val, by omega⟩)) (fun j k => x5 (ix2 j k))

/-- The block that the kernel stores holds, row by row, the row function. -/
theorem out_eq (r : Fin 512) (k : Fin 1024) : out0_6 (F := Ideal) x0 x1 x2 x3 x4 x5 (ix2 r k) = row x0 x1 x2 x3 x4 x5 r k := by
  frame_out
  pointwise [k0_pay1, k0_pay2, k0_pay3, k0_pay5, k0_pay6, k0_pay7]
  have h3 : ∀ k : Fin 1024, View.ld x1 r0_1 (ix3 (0 : Fin 1) (0 : Fin 1) k) = x1 (ix3 0 3 k) := fun k => by pointwise []
  have h4 : ∀ k : Fin 1024, View.ld x1 r0_2 (ix3 (0 : Fin 1) (0 : Fin 1) k) = x1 (ix3 0 4 k) := fun k => by pointwise []
  simp only [pay_pre, zero_sub, h3, h4]
  rfl

end block

variable (m : (ℓ : Loc nD τ sig) → Buf (Elt Ideal) ℓ) (c : Dev nD)

/-- The kernel's first argument is the residual stream with batch and time merged. -/
theorem entry_x : V m c main_v0 = shapeCast S32768x1024 (m ((c : Thread nD τ).loc main_arg0)) shapeCasts_S2x16384x1024_S32768x1024 := by
  unfold V hostOps0
  after_results
  all_goals rfl

/-- The gain of the first norm enters as one row. -/
theorem entry_gain : V m c main_v1 = shapeCast S1x1024 (m ((c : Thread nD τ).loc main_arg2)) shapeCasts_S1024_S1x1024 := by
  unfold V hostOps0
  after_results
  all_goals rfl

/-- The gain of the second norm enters as one row. -/
theorem entry_gainp : V m c main_v2 = shapeCast S1x1024 (m ((c : Thread nD τ).loc main_arg3)) shapeCasts_S1024_S1x1024 := by
  unfold V hostOps0
  after_results
  all_goals rfl

/-- The first weights enter cast. -/
theorem entry_in : V m c main_v3 = truncf (F := Ideal) .bf16 (m ((c : Thread nD τ).loc main_arg4)) bitsLt_bf16_f32 := by
  unfold V hostOps0
  after_results
  all_goals rfl

/-- The second weights enter cast. -/
theorem entry_out : V m c main_v4 = truncf (F := Ideal) .bf16 (m ((c : Thread nD τ).loc main_arg5)) bitsLt_bf16_f32 := by
  unfold V hostOps0
  after_results
  all_goals rfl

/-- Which block each window takes at a grid point. -/
theorem idx : ∀ t : Fin cfg0.N,
    win0_0.index t = ![t.val, 0] ∧ win0_1.index t = ![t.val / 32, 0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The batches one under the other, at an entry. -/
theorem under_apply (x : (⟨S2x16384x1024, .f32⟩ : BufTy).Contents (Elt Ideal)) (R : Fin 32768) (k : Fin 1024) :
    shapeCast S32768x1024 x shapeCasts_S2x16384x1024_S32768x1024 (ix2 R k) = x (ix3 (⟨R.val / 16384, by omega⟩ : Fin 2) (⟨R.val % 16384, by omega⟩ : Fin 16384) k) := by
  pointwise []

/-- A row of the block of the residual stream. -/
theorem blk_x (t : Fin cfg0.N) (r : Fin 512) (k : Fin 1024) (R : Fin 32768) (h : R.val = t.val * 512 + r.val) :
    iblk m c 0 t (ix2 r k) = m ((c : Thread nD τ).loc main_arg0) (ix3 (⟨R.val / 16384, by omega⟩ : Fin 2) (⟨R.val % 16384, by omega⟩ : Fin 16384) k) := by
  have e : iblk m c 0 t (ix2 r k) = V m c main_v0 (ix2 R k) := by
    blk_simp [iblk]
    congr 1
    blk_ext [idx t]
  rw [e, entry_x]
  exact under_apply _ R k

/-- The modulation of the block's batch. -/
theorem blk_mod (t : Fin cfg0.N) (j : Fin 6) (k : Fin 1024) (b : Fin 2) (h : b.val = t.val / 32) :
    iblk m c 1 t (ix3 0 j k) = m ((c : Thread nD τ).loc main_arg1) (ix3 b j k) := by
  have e : iblk m c 1 t (ix3 0 j k) = V m c main_arg1 (ix3 b j k) := by
    blk_simp [iblk]
    congr 1
    blk_ext [idx t]
  rw [e, V_main_arg1]

/-- The first gain is the same in every block. -/
theorem blk_gain (t : Fin cfg0.N) (k : Fin 1024) : iblk m c 2 t (ix2 0 k) = m ((c : Thread nD τ).loc main_arg2) (ix1 k) := by
  have e : iblk m c 2 t (ix2 0 k) = V m c main_v1 (ix2 0 k) := by
    blk_simp [iblk]
    congr 1
    blk_ext [idx t]
  rw [e, entry_gain]
  pointwise []

/-- The second gain is the same in every block. -/
theorem blk_gainp (t : Fin cfg0.N) (k : Fin 1024) : iblk m c 3 t (ix2 0 k) = m ((c : Thread nD τ).loc main_arg3) (ix1 k) := by
  have e : iblk m c 3 t (ix2 0 k) = V m c main_v2 (ix2 0 k) := by
    blk_simp [iblk]
    congr 1
    blk_ext [idx t]
  rw [e, entry_gainp]
  pointwise []

/-- The first weights are the same in every block. -/
theorem blk_in (t : Fin cfg0.N) (i : Fin 1024) (j : Fin 5632) : iblk m c 4 t (ix2 i j) = m ((c : Thread nD τ).loc main_arg4) (ix2 i j) := by
  have e : iblk m c 4 t (ix2 i j) = V m c main_v3 (ix2 i j) := by
    blk_simp [iblk]
    congr 1
    blk_ext [idx t]
  rw [e, entry_in]
  pointwise []

/-- The second weights are the same in every block. -/
theorem blk_out (t : Fin cfg0.N) (i : Fin 2816) (j : Fin 1024) : iblk m c 5 t (ix2 i j) = m ((c : Thread nD τ).loc main_arg5) (ix2 i j) := by
  have e : iblk m c 5 t (ix2 i j) = V m c main_v4 (ix2 i j) := by
    blk_simp [iblk]
    congr 1
    blk_ext [idx t]
  rw [e, entry_out]
  pointwise []

/-- The reference's result, from the program's arguments. -/
abbrev goal : (⟨S32768x1024, .f32⟩ : BufTy).Contents (Elt Ideal) :=
  Cert.FfnRefIdeal.Read.val_main_v44 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The kernel's output array is the reference's. -/
theorem final : (dats m 0 c).arrAt 6 cfg0.N = goal m c := by
  refine (dats m 0 c).arrAt_eq_of_covers 6 _ (by decide +kernel) fun t hf y => ?_
  blk_simp
  rw [after0_6]
  obtain ⟨r, k, rfl⟩ : ∃ (r : Fin 512) (k : Fin 1024), y = ix2 r k := ⟨y 0, y 1, by funext a; fin_cases a <;> rfl⟩
  have ht : t.val < 64 := t.isLt.trans_eq N_0
  have e : ((cfg0.win 6).blk t).view.emb (ix2 r k) = ix2 (⟨t.val * 512 + r.val, by omega⟩ : Fin 32768) k := by
    blk_ext [idx t]
  rw [e, out_eq]
  refine Eq.trans ?_ (Cert.FfnRefIdeal.Hand.result_apply _ _ _ _ _ _ _ _).symm
  unfold row Cert.FfnRefIdeal.Hand.row
  have hb : (t.val * 512 + r.val) / 16384 = t.val / 32 := by omega
  simp only [blk_gain, blk_gainp, blk_in, blk_out, blk_x m c t r _ ⟨t.val * 512 + r.val, by omega⟩ rfl,
    blk_mod m c t _ _ ⟨(t.val * 512 + r.val) / 16384, by omega⟩ hb]

end Cert.FfnIdeal.Hand
end
-- ==== Proof.MergeRefer.lean ====
module
public import proofs.«01_k».proof.Proof.Gen.MergeRefIdeal.Read
public import proofs.«01_k».proof.Proof.Rows
public import Idealize.ShloMosaic.Lib.Pointwise
@[expose] public section
set_option maxRecDepth 16384
noncomputable section
/-! The reference of the merge of the branches, entry by entry. -/
namespace Cert.MergeRefIdeal.Hand
open Cert.MergeRefIdeal Cert.MergeRefIdeal.Gen Cert.MergeRefIdeal.Read Idealize.ShloMosaic Idealize.ShloMosaic.TcCoe Idealize.SL.Sem
open Cert.Rows

variable (x0 : (⟨S2x16384x1024, .f32⟩ : BufTy).Contents (Elt Ideal)) (x1 : (⟨S2x6x1024, .f32⟩ : BufTy).Contents (Elt Ideal))
  (x2 x3 : (⟨S1024, .f32⟩ : BufTy).Contents (Elt Ideal)) (x4 x5 : (⟨S32768x256, .bf16⟩ : BufTy).Contents (Elt Ideal)) (x6 : (⟨S32768x512, .bf16⟩ : BufTy).Contents (Elt Ideal))
  (x7 : (⟨S1024x5896, .f32⟩ : BufTy).Contents (Elt Ideal)) (x8 x9 : (⟨S256x1024, .f32⟩ : BufTy).Contents (Elt Ideal)) (x10 : (⟨S512x1024, .f32⟩ : BufTy).Contents (Elt Ideal))
  (x11 : (⟨S1024x1024, .f32⟩ : BufTy).Contents (Elt Ideal))

/-- The modulated normalised row that enters the gates. -/
def entering (b : Fin 2) (T : Fin 16384) : Fin 1024 → EReal :=
  pre (fun k => x0 (ix3 b T k)) (fun k => x2 (ix1 k)) (fun k => x1 (ix3 b 1 k)) (fun k => x1 (ix3 b 0 k))

/-- Row `T` of batch `b`, which is row `R` of the branches, after the merge. -/
def row (b : Fin 2) (T : Fin 16384) (R : Fin 32768) : Fin 1024 → EReal :=
  merge (fun k => x0 (ix3 b T k)) (fun k => x2 (ix1 k)) (fun k => x1 (ix3 b 1 k)) (fun k => x1 (ix3 b 0 k)) (fun k => x1 (ix3 b 2 k)) (fun k => x3 (ix1 k))
    (fun i => x4 (ix2 R i)) (fun i => x5 (ix2 R i)) (fun i => x6 (ix2 R i))
    (fun i j => x7 (ix2 i ⟨2824 + j.val, by omega⟩)) (fun i j => x7 (ix2 i ⟨2824 + (1024 + j.val), by omega⟩)) (fun i j => x7 (ix2 i ⟨2824 + (2048 + j.val), by omega⟩))
    (fun i j => x8 (ix2 i j)) (fun i j => x9 (ix2 i j)) (fun i j => x10 (ix2 i j)) (fun i j => x11 (ix2 i j))

/-- The reference's modulated rows. -/
theorem pre_apply (b : Fin 2) (T : Fin 16384) (k : Fin 1024) :
    val_main_v21 (F := Ideal) x0 x1 x2 (ix3 b T k) = entering x0 x1 x2 b T k := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2]
  rfl

/-- The reference's combined projection. -/
theorem dot_apply (b : Fin 2) (T : Fin 16384) (j : Fin 5896) :
    val_main_v22 (F := Ideal) x0 x1 x2 x7 (ix3 b T j) = times (entering x0 x1 x2 b T) (fun i j => x7 (ix2 i j)) j := by
  pointwise [val_main_v22]
  simp only [pre_apply]
  rfl

/-- The reference's output projection. -/
theorem down_apply (b : Fin 2) (T : Fin 16384) (k : Fin 1024) (R : Fin 32768) (hR : R.val = b.val * 16384 + T.val) :
    val_main_v59 (F := Ideal) x0 x1 x2 x4 x5 x6 x7 x8 x9 x10 x11 (ix3 b T k)
      = times (mixed (fun j => times (entering x0 x1 x2 b T) (fun i j => x7 (ix2 i j)) ⟨2824 + j.val, by omega⟩)
          (fun j => times (entering x0 x1 x2 b T) (fun i j => x7 (ix2 i j)) ⟨2824 + (1024 + j.val), by omega⟩)
          (fun j => times (entering x0 x1 x2 b T) (fun i j => x7 (ix2 i j)) ⟨2824 + (2048 + j.val), by omega⟩)
          (times (fun i => x4 (ix2 R i)) (fun i j => x8 (ix2 i j))) (times (fun i => x5 (ix2 R i)) (fun i j => x9 (ix2 i j)))
          (times (fun i => x6 (ix2 R i)) (fun i j => x10 (ix2 i j)))) (fun i j => x11 (ix2 i j)) k := by
  have e : (⟨b.val * 16384 + T.val, by omega⟩ : Fin 32768) = R := Fin.ext hR.symm
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_3, val_main_cst_4, val_main_cst_5, val_main_cst_6, val_main_cst_7, val_main_cst_8]
  simp only [dot_apply, e]
  rfl

/-- The reference's result, row by row. -/
theorem result_apply (R : Fin 32768) (k : Fin 1024) :
    val_main_v76 (F := Ideal) x0 x1 x2 x3 x4 x5 x6 x7 x8 x9 x10 x11 (ix2 R k)
      = row x0 x1 x2 x3 x4 x5 x6 x7 x8 x9 x10 x11 ⟨R.val / 16384, by omega⟩ ⟨R.val % 16384, by omega⟩ R k := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_cst_9, val_main_cst_10, val_main_cst_11, val_main_v2]
  have h := fun j => down_apply x0 x1 x2 x4 x5 x6 x7 x8 x9 x10 x11 ⟨R.val / 16384, by omega⟩ ⟨R.val % 16384, by omega⟩ j R (by dsimp only; omega)
  simp only [h]
  rfl

end Cert.MergeRefIdeal.Hand
end
-- ==== Proof.MergeFinal.lean ====
module
public import proofs.«01_k».proof.Proof.Gen.MergeIdeal.Value
public import proofs.«01_k».proof.Proof.MergeRefer
public import Idealize.ShloMosaic.Lib.Pipeline.ValueKit
@[expose] public section
set_option maxRecDepth 16384
noncomputable section
/-! The merge kernel's output array is the reference's result. -/
namespace Cert.MergeIdeal.Hand
open Cert.MergeIdeal Cert.MergeIdeal.Gen Idealize.ShloMosaic Idealize.ShloMosaic.TcCoe Idealize.SL.Sem
open Cert.Rows

section block
variable (x0 : Vec Ideal S512x1024 .f32) (x1 : Vec Ideal S1x6x1024 .f32) (x2 x3 : Vec Ideal S1x1024 .f32) (x4 x5 : Vec Ideal S512x256 .bf16) (x6 : Vec Ideal S512x512 .bf16)
  (x7 : Vec Ideal S1024x3072 .bf16) (x8 x9 : Vec Ideal S256x1024 .bf16) (x10 : Vec Ideal S512x1024 .bf16) (x11 : Vec Ideal S1024x1024 .bf16)

/-- The kernel's modulated normalised row. -/
theorem pay_pre (sh sc : Vec Ideal S1x1x1024 .f32) (r : Fin 512) (k : Fin 1024) :
    k0_pay4 (F := Ideal) x0 sh sc x2 (ix2 r k)
      = pre (fun k => x0 (ix2 r k)) (fun k => x2 (ix2 0 k)) (fun k => sc (ix3 0 0 k)) (fun k => sh (ix3 0 0 k)) k := by
  pointwise [k0_pay4, k0_pay2]
  exact pre_eq (fun k => x0 (ix2 r k)) (fun k => x2 (ix2 0 k)) (fun k => sc (ix3 0 0 k)) (fun k => sh (ix3 0 0 k)) k

/-- A row of a block after the kernel's body. -/
def row (r : Fin 512) : Fin 1024 → EReal :=
  merge (fun k => x0 (ix2 r k)) (fun k => x2 (ix2 0 k)) (fun k => x1 (ix3 0 1 k)) (fun k => x1 (ix3 0 0 k)) (fun k => x1 (ix3 0 2 k)) (fun k => x3 (ix2 0 k))
    (fun i => x4 (ix2 r i)) (fun i => x5 (ix2 r i)) (fun i => x6 (ix2 r i))
    (fun i j => x7 (ix2 i ⟨j.val, by omega⟩)) (fun i j => x7 (ix2 i ⟨1024 + j.val, by omega⟩)) (fun i j => x7 (ix2 i ⟨2048 + j.val, by omega⟩))
    (fun i j => x8 (ix2 i j)) (fun i j => x9 (ix2 i j)) (fun i j => x10 (ix2 i j)) (fun i j => x11 (ix2 i j))

/-- What the kernel leaves in an entry of its output block. -/
theorem out_eq (r : Fin 512) (k : Fin 1024) : out0_12 (F := Ideal) x0 x1 x2 x3 x4 x5 x6 x7 x8 x9 x10 x11 (ix2 r k) = row x0 x1 x2 x3 x4 x5 x6 x7 x8 x9 x10 x11 r k := by
  frame_out
  pointwise [k0_pay1, k0_pay2, k0_pay3, k0_pay5, k0_pay6, k0_pay7, k0_pay8, k0_pay9, k0_pay10, k0_pay11]
  have h0 : ∀ k : Fin 1024, View.ld x1 r0_1 (ix3 (0 : Fin 1) (0 : Fin 1) k) = x1 (ix3 0 0 k) := fun k => by pointwise []
  have h1 : ∀ k : Fin 1024, View.ld x1 r0_2 (ix3 (0 : Fin 1) (0 : Fin 1) k) = x1 (ix3 0 1 k) := fun k => by pointwise []
  have h2 : ∀ k : Fin 1024, View.ld x0 r0_0 (ix2 r k) = x0 (ix2 r k) := fun k => by pointwise []
  have h3 : ∀ k : Fin 1024, View.ld x2 r0_4 (ix2 (0 : Fin 1) k) = x2 (ix2 0 k) := fun k => by pointwise []
  simp only [pay_pre, zero_sub, h0, h1, h2, h3]
  rfl

end block

variable (m : (ℓ : Loc nD τ sig) → Buf (Elt Ideal) ℓ) (c : Dev nD)

/-- The rows, the batches one under the other. -/
theorem entry_x : V m c main_v2 = shapeCast S32768x1024 (m ((c : Thread nD τ).loc main_arg0)) shapeCasts_S2x16384x1024_S32768x1024 := by
  unfold V hostOps0
  after_results
  all_goals rfl

/-- The first gain. -/
theorem entry_gain : V m c main_v3 = shapeCast S1x1024 (m ((c : Thread nD τ).loc main_arg2)) shapeCasts_S1024_S1x1024 := by
  unfold V hostOps0
  after_results
  all_goals rfl

/-- The second gain. -/
theorem entry_gainp : V m c main_v4 = shapeCast S1x1024 (m ((c : Thread nD τ).loc main_arg3)) shapeCasts_S1024_S1x1024 := by
  unfold V hostOps0
  after_results
  all_goals rfl

/-- The gates' weights. -/
theorem entry_gates : V m c main_v1 = truncf (F := Ideal) .bf16 (extractStridedSlice S1024x3072 ![0, 2824] (m ((c : Thread nD τ).loc main_arg7)) slices_S1024x5896_S1024x3072_0_2824) bitsLt_bf16_f32 := by
  unfold V hostOps0
  after_results
  all_goals rfl

/-- The first branch's projection. -/
theorem entry_pa : V m c main_v5 = truncf (F := Ideal) .bf16 (m ((c : Thread nD τ).loc main_arg8)) bitsLt_bf16_f32 := by
  unfold V hostOps0
  after_results
  all_goals rfl

/-- The second branch's projection. -/
theorem entry_pb : V m c main_v6 = truncf (F := Ideal) .bf16 (m ((c : Thread nD τ).loc main_arg9)) bitsLt_bf16_f32 := by
  unfold V hostOps0
  after_results
  all_goals rfl

/-- The third branch's projection. -/
theorem entry_pc : V m c main_v7 = truncf (F := Ideal) .bf16 (m ((c : Thread nD τ).loc main_arg10)) bitsLt_bf16_f32 := by
  unfold V hostOps0
  after_results
  all_goals rfl

/-- The output projection. -/
theorem entry_out : V m c main_v8 = truncf (F := Ideal) .bf16 (m ((c : Thread nD τ).loc main_arg11)) bitsLt_bf16_f32 := by
  unfold V hostOps0
  after_results
  all_goals rfl

/-- Which block each window takes at a grid point. -/
theorem idx : ∀ t : Fin cfg0.N,
    win0_0.index t = ![t.val, 0] ∧ win0_1.index t = ![t.val / 32, 0, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![0, 0] ∧ win0_9.index t = ![0, 0] ∧ win0_10.index t = ![0, 0] ∧ win0_11.index t = ![0, 0] ∧ win0_12.index t = ![t.val, 0] :=
  (by decide +kernel : ∀ t : Fin grid0.N, _)

/-- The batches one under the other, at an entry. -/
theorem under_apply (x : (⟨S2x16384x1024, .f32⟩ : BufTy).Contents (Elt Ideal)) (R : Fin 32768) (k : Fin 1024) :
    shapeCast S32768x1024 x shapeCasts_S2x16384x1024_S32768x1024 (ix2 R k) = x (ix3 (⟨R.val / 16384, by omega⟩ : Fin 2) (⟨R.val % 16384, by omega⟩ : Fin 16384) k) := by
  pointwise []

/-- The rows of a block. -/
theorem blk_x (t : Fin cfg0.N) (r : Fin 512) (k : Fin 1024) (R : Fin 32768) (h : R.val = t.val * 512 + r.val) :
    iblk m c 0 t (ix2 r k) = m ((c : Thread nD τ).loc main_arg0) (ix3 (⟨R.val / 16384, by omega⟩ : Fin 2) (⟨R.val % 16384, by omega⟩ : Fin 16384) k) := by
  have e : iblk m c 0 t (ix2 r k) = V m c main_v2 (ix2 R k) := by
    blk_simp [iblk]
    congr 1
    blk_ext [idx t]
  rw [e, entry_x]
  exact under_apply _ R k

/-- The modulation of a block's batch. -/
theorem blk_mod (t : Fin cfg0.N) (j : Fin 6) (k : Fin 1024) (b : Fin 2) (h : b.val = t.val / 32) :
    iblk m c 1 t (ix3 0 j k) = m ((c : Thread nD τ).loc main_arg1) (ix3 b j k) := by
  have e : iblk m c 1 t (ix3 0 j k) = V m c main_arg1 (ix3 b j k) := by
    blk_simp [iblk]
    congr 1
    blk_ext [idx t]
  rw [e, V_main_arg1]

/-- The first branch's rows. -/
theorem blk_a (t : Fin cfg0.N) (r : Fin 512) (i : Fin 256) (R : Fin 32768) (h : R.val = t.val * 512 + r.val) :
    iblk m c 4 t (ix2 r i) = m ((c : Thread nD τ).loc main_arg4) (ix2 R i) := by
  have e : iblk m c 4 t (ix2 r i) = V m c main_arg4 (ix2 R i) := by
    blk_simp [iblk]
    congr 1
    blk_ext [idx t]
  rw [e, V_main_arg4]

/-- The second branch's rows. -/
theorem blk_b (t : Fin cfg0.N) (r : Fin 512) (i : Fin 256) (R : Fin 32768) (h : R.val = t.val * 512 + r.val) :
    iblk m c 5 t (ix2 r i) = m ((c : Thread nD τ).loc main_arg5) (ix2 R i) := by
  have e : iblk m c 5 t (ix2 r i) = V m c main_arg5 (ix2 R i) := by
    blk_simp [iblk]
    congr 1
    blk_ext [idx t]
  rw [e, V_main_arg5]

/-- The third branch's rows. -/
theorem blk_c (t : Fin cfg0.N) (r : Fin 512) (i : Fin 512) (R : Fin 32768) (h : R.val = t.val * 512 + r.val) :
    iblk m c 6 t (ix2 r i) = m ((c : Thread nD τ).loc main_arg6) (ix2 R i) := by
  have e : iblk m c 6 t (ix2 r i) = V m c main_arg6 (ix2 R i) := by
    blk_simp [iblk]
    congr 1
    blk_ext [idx t]
  rw [e, V_main_arg6]

/-- The first gain. -/
theorem blk_gain (t : Fin cfg0.N) (k : Fin 1024) : iblk m c 2 t (ix2 0 k) = m ((c : Thread nD τ).loc main_arg2) (ix1 k) := by
  have e : iblk m c 2 t (ix2 0 k) = V m c main_v3 (ix2 0 k) := by
    blk_simp [iblk]
    congr 1
    blk_ext [idx t]
  rw [e, entry_gain]
  pointwise []

/-- The second gain. -/
theorem blk_gainp (t : Fin cfg0.N) (k : Fin 1024) : iblk m c 3 t (ix2 0 k) = m ((c : Thread nD τ).loc main_arg3) (ix1 k) := by
  have e : iblk m c 3 t (ix2 0 k) = V m c main_v4 (ix2 0 k) := by
    blk_simp [iblk]
    congr 1
    blk_ext [idx t]
  rw [e, entry_gainp]
  pointwise []

/-- The gates' weights. -/
theorem blk_gates (t : Fin cfg0.N) (i : Fin 1024) (j : Fin 3072) : iblk m c 7 t (ix2 i j) = m ((c : Thread nD τ).loc main_arg7) (ix2 i ⟨2824 + j.val, by omega⟩) := by
  have e : iblk m c 7 t (ix2 i j) = V m c main_v1 (ix2 i j) := by
    blk_simp [iblk]
    congr 1
    blk_ext [idx t]
  rw [e, entry_gates]
  pointwise []

/-- The first branch's projection. -/
theorem blk_pa (t : Fin cfg0.N) (i : Fin 256) (j : Fin 1024) : iblk m c 8 t (ix2 i j) = m ((c : Thread nD τ).loc main_arg8) (ix2 i j) := by
  have e : iblk m c 8 t (ix2 i j) = V m c main_v5 (ix2 i j) := by
    blk_simp [iblk]
    congr 1
    blk_ext [idx t]
  rw [e, entry_pa]
  pointwise []

/-- The second branch's projection. -/
theorem blk_pb (t : Fin cfg0.N) (i : Fin 256) (j : Fin 1024) : iblk m c 9 t (ix2 i j) = m ((c : Thread nD τ).loc main_arg9) (ix2 i j) := by
  have e : iblk m c 9 t (ix2 i j) = V m c main_v6 (ix2 i j) := by
    blk_simp [iblk]
    congr 1
    blk_ext [idx t]
  rw [e, entry_pb]
  pointwise []

/-- The third branch's projection. -/
theorem blk_pc (t : Fin cfg0.N) (i : Fin 512) (j : Fin 1024) : iblk m c 10 t (ix2 i j) = m ((c : Thread nD τ).loc main_arg10) (ix2 i j) := by
  have e : iblk m c 10 t (ix2 i j) = V m c main_v7 (ix2 i j) := by
    blk_simp [iblk]
    congr 1
    blk_ext [idx t]
  rw [e, entry_pc]
  pointwise []

/-- The output projection. -/
theorem blk_out (t : Fin cfg0.N) (i : Fin 1024) (j : Fin 1024) : iblk m c 11 t (ix2 i j) = m ((c : Thread nD τ).loc main_arg11) (ix2 i j) := by
  have e : iblk m c 11 t (ix2 i j) = V m c main_v8 (ix2 i j) := by
    blk_simp [iblk]
    congr 1
    blk_ext [idx t]
  rw [e, entry_out]
  pointwise []

/-- The reference's result, from the program's arguments. -/
abbrev goal : (⟨S32768x1024, .f32⟩ : BufTy).Contents (Elt Ideal) :=
  Cert.MergeRefIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The kernel's output array is the reference's. -/
theorem final : (dats m 0 c).arrAt 12 cfg0.N = goal m c := by
  refine (dats m 0 c).arrAt_eq_of_covers 12 _ (by decide +kernel) fun t hf y => ?_
  blk_simp
  rw [after0_12]
  obtain ⟨r, k, rfl⟩ : ∃ (r : Fin 512) (k : Fin 1024), y = ix2 r k := ⟨y 0, y 1, by funext a; fin_cases a <;> rfl⟩
  have ht : t.val < 64 := t.isLt.trans_eq N_0
  have e : ((cfg0.win 12).blk t).view.emb (ix2 r k) = ix2 (⟨t.val * 512 + r.val, by omega⟩ : Fin 32768) k := by
    blk_ext [idx t]
  rw [e, out_eq]
  refine Eq.trans ?_ (Cert.MergeRefIdeal.Hand.result_apply _ _ _ _ _ _ _ _ _ _ _ _ _ _).symm
  unfold row Cert.MergeRefIdeal.Hand.row
  have hb : (t.val * 512 + r.val) / 16384 = t.val / 32 := by omega
  simp only [blk_gain, blk_gainp, blk_gates, blk_pa, blk_pb, blk_pc, blk_out, blk_x m c t r _ ⟨t.val * 512 + r.val, by omega⟩ rfl,
    blk_a m c t r _ ⟨t.val * 512 + r.val, by omega⟩ rfl, blk_b m c t r _ ⟨t.val * 512 + r.val, by omega⟩ rfl, blk_c m c t r _ ⟨t.val * 512 + r.val, by omega⟩ rfl,
    blk_mod m c t _ _ ⟨(t.val * 512 + r.val) / 16384, by omega⟩ hb]

end Cert.MergeIdeal.Hand
end
-- ==== Proof.InprojRefer.lean ====
module
public import proofs.«01_k».proof.Proof.Gen.InprojRefIdeal.Read
public import proofs.«01_k».proof.Proof.Rows
public import Idealize.ShloMosaic.Lib.Pointwise
@[expose] public section
set_option maxRecDepth 16384
noncomputable section
/-! The reference of the input projection, entry by entry. -/
namespace Cert.InprojRefIdeal.Hand
open Cert.InprojRefIdeal Cert.InprojRefIdeal.Gen Cert.InprojRefIdeal.Read Idealize.ShloMosaic Idealize.ShloMosaic.TcCoe Idealize.SL.Sem
open Cert.Rows

variable (x0 : (⟨S2x16384x1024, .f32⟩ : BufTy).Contents (Elt Ideal)) (x1 : (⟨S2x6x1024, .f32⟩ : BufTy).Contents (Elt Ideal))
  (x2 : (⟨S1024, .f32⟩ : BufTy).Contents (Elt Ideal)) (x3 : (⟨S1024x5896, .f32⟩ : BufTy).Contents (Elt Ideal)) (x4 : (⟨S3x256, .f32⟩ : BufTy).Contents (Elt Ideal))

/-- The modulated normalised row that enters the projection. -/
def entering (b : Fin 2) (T : Fin 16384) : Fin 1024 → EReal :=
  pre (fun k => x0 (ix3 b T k)) (fun k => x2 (ix1 k)) (fun k => x1 (ix3 b 1 k)) (fun k => x1 (ix3 b 0 k))

/-- A column of the projection. -/
def col (b : Fin 2) (T : Fin 16384) (j : Fin 5896) : EReal := times (entering x0 x1 x2 b T) (fun i j => x3 (ix2 i j)) j

/-- The reference's modulated rows. -/
theorem pre_apply (b : Fin 2) (T : Fin 16384) (k : Fin 1024) :
    val_main_v20 (F := Ideal) x0 x1 x2 (ix3 b T k) = entering x0 x1 x2 b T k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- The reference's combined projection. -/
theorem dot_apply (b : Fin 2) (T : Fin 16384) (j : Fin 5896) :
    val_main_v21 (F := Ideal) x0 x1 x2 x3 (ix3 b T j) = col x0 x1 x2 x3 b T j := by
  pointwise [val_main_v21]
  simp only [pre_apply]
  rfl

/-- The gated product the short convolution reads. -/
def inner (b : Fin 2) (T : Fin 16384) (d : Fin 256) : EReal :=
  col x0 x1 x2 x3 b T ⟨256 + d.val, by omega⟩ * col x0 x1 x2 x3 b T ⟨512 + d.val, by omega⟩

/-- The gated product `n` tokens back, zero before the sequence. -/
def back (n : ℕ) (b : Fin 2) (T : Fin 16384) (d : Fin 256) : EReal :=
  if n ≤ T.val then inner x0 x1 x2 x3 b ⟨T.val - n, by omega⟩ d else 0

/-- The short convolution's result. -/
def short (b : Fin 2) (T : Fin 16384) (d : Fin 256) : EReal :=
  col x0 x1 x2 x3 b T ⟨d.val, by omega⟩
    * (x4 (ix2 0 d) * back x0 x1 x2 x3 2 b T d + x4 (ix2 1 d) * back x0 x1 x2 x3 1 b T d + x4 (ix2 2 d) * inner x0 x1 x2 x3 b T d)

/-- Queries, scaled, keys and values. -/
def qkv (b : Fin 2) (T : Fin 16384) (k : Fin 768) : EReal :=
  if k.val < 256 then col x0 x1 x2 x3 b T ⟨768 + k.val, by omega⟩ * Ideal.ofBits .f32 0x3E000000#32 else col x0 x1 x2 x3 b T ⟨768 + k.val, by omega⟩

/-- The step sizes, padded with zeros. -/
def step (b : Fin 2) (T : Fin 16384) (k : Fin 128) : EReal :=
  if h : k.val < 8 then col x0 x1 x2 x3 b T ⟨2816 + k.val, by omega⟩ else 0

/-- The padding is zero. -/
theorem pad_zero : (FloatOps.sitofp .f32 0#32 : Ideal .f32) = (0 : EReal) := by
  simp [FloatOps.sitofp]

/-- The reference's gate of the scan. -/
theorem z_apply (R : Fin 32768) (k : Fin 512) :
    val_main_v66 (F := Ideal) x0 x1 x2 x3 (ix2 R k) = col x0 x1 x2 x3 ⟨R.val / 16384, by omega⟩ ⟨R.val % 16384, by omega⟩ ⟨1536 + k.val, by omega⟩ := by
  pointwise [val_main_v66, val_main_v65, val_main_v28]
  simp only [dot_apply]

/-- The reference's input of the scan. -/
theorem xbc_apply (R : Fin 32768) (k : Fin 768) :
    val_main_v68 (F := Ideal) x0 x1 x2 x3 (ix2 R k) = col x0 x1 x2 x3 ⟨R.val / 16384, by omega⟩ ⟨R.val % 16384, by omega⟩ ⟨2048 + k.val, by omega⟩ := by
  pointwise [val_main_v68, val_main_v67, val_main_v29]
  simp only [dot_apply]

/-- The reference's step sizes. -/
theorem dt_apply (R : Fin 32768) (k : Fin 128) :
    val_main_v69 (F := Ideal) x0 x1 x2 x3 (ix2 R k) = step x0 x1 x2 x3 ⟨R.val / 16384, by omega⟩ ⟨R.val % 16384, by omega⟩ k := by
  pointwise [val_main_v69, val_main_v59, val_main_call1_v0, val_main_c_5, val_main_v30]
  simp only [dot_apply]
  by_cases h : k.val < 8
  · refine Eq.trans ?_ (dif_pos h : step x0 x1 x2 x3 ⟨R.val / 16384, by omega⟩ ⟨R.val % 16384, by omega⟩ k = _).symm
    exact dif_pos (And.intro (by omega) (And.intro (by omega) h))
  · refine Eq.trans ?_ (dif_neg h : step x0 x1 x2 x3 ⟨R.val / 16384, by omega⟩ ⟨R.val % 16384, by omega⟩ k = _).symm
    exact (dif_neg fun hh => h hh.2.2).trans pad_zero

/-- The reference's queries, keys and values. -/
theorem qkv_apply (R : Fin 32768) (k : Fin 768) :
    val_main_v64 (F := Ideal) x0 x1 x2 x3 (ix2 R k) = qkv x0 x1 x2 x3 ⟨R.val / 16384, by omega⟩ ⟨R.val % 16384, by omega⟩ k := by
  pointwise [val_main_v64, val_main_v63, val_main_v58, val_main_v57, val_main_v56, val_main_cst_4, val_main_v25, val_main_v26, val_main_v27]
  simp only [dot_apply]
  unfold qkv
  by_cases h : k.val < 256
  · rw [dif_pos h, if_pos h]
  · rw [dif_neg h, if_neg h]
    by_cases h2 : k.val - 256 < 256
    · rw [dif_pos h2]
      congr 2
      omega
    · rw [dif_neg h2]
      congr 2
      omega

/-- The gated product with two zero rows in front, read `n` tokens back. -/
theorem u_apply (b : Fin 2) (T : Fin 16384) (n : ℕ) (S : Fin 16386) (hS : S.val + n = T.val + 2) (d : Fin 256) :
    val_main_v33 (F := Ideal) x0 x1 x2 x3 (ix3 b S d) = back x0 x1 x2 x3 n b T d := by
  pointwise [val_main_v33, val_main_call0_v0, val_main_c, val_main_v32, val_main_v23, val_main_v24]
  simp only [dot_apply]
  unfold back inner
  by_cases h : n ≤ T.val
  · have e : S.val - 2 = T.val - n := by omega
    rw [if_pos h, dif_pos]
    · simp only [e]
    · omega
  · rw [if_neg h, dif_neg]
    · exact pad_zero
    · omega

/-- The reference's short convolution. -/
theorem fa_apply (R : Fin 32768) (k : Fin 256) :
    val_main_v62 (F := Ideal) x0 x1 x2 x3 x4 (ix2 R k) = short x0 x1 x2 x3 x4 ⟨R.val / 16384, by omega⟩ ⟨R.val % 16384, by omega⟩ k := by
  pointwise [val_main_v62, val_main_v61, val_main_v60, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_3, val_main_v22]
  simp only [dot_apply]
  have u := u_apply x0 x1 x2 x3 ⟨R.val / 16384, by omega⟩ ⟨R.val % 16384, by omega⟩
  rw [u 2 ⟨R.val % 16384, by omega⟩ rfl k, u 1 ⟨1 + R.val % 16384, by omega⟩ (by dsimp only; omega) k, u 0 ⟨2 + R.val % 16384, by omega⟩ (by dsimp only; omega) k]
  unfold short
  rw [show back x0 x1 x2 x3 0 ⟨R.val / 16384, by omega⟩ ⟨R.val % 16384, by omega⟩ k = inner x0 x1 x2 x3 ⟨R.val / 16384, by omega⟩ ⟨R.val % 16384, by omega⟩ k from rfl]

end Cert.InprojRefIdeal.Hand
end
-- ==== Proof.InprojBlock.lean ====
module
public import proofs.«01_k».proof.Proof.Gen.InprojIdeal.Frame
public import proofs.«01_k».proof.Proof.Rows
public import Idealize.ShloMosaic.Lib.Pipeline.ValueKit
public import Idealize.ShloMosaic.Lib.Pipeline.ReadBack
public import Idealize.ShloMosaic.Lib.Pointwise
@[expose] public section
set_option maxRecDepth 16384
noncomputable section
/-! What one grid point of the input projection writes. -/
namespace Cert.InprojIdeal.Hand
open Cert.InprojIdeal Cert.InprojIdeal.Gen Idealize.ShloMosaic Idealize.ShloMosaic.TcCoe Idealize.SL.Sem
open Cert.Rows

/-- The scratch after its two stores: eight rows from the block before, then this block's rows. -/
theorem stored (w : S512x256.Idx → Elt Ideal .f32) (w' : S8x256.Idx → Elt Ideal .f32) (R : Fin 520) (d : Fin 256) :
    View.canon (Val := Elt Ideal) (e := .f32) [⟨Rect.unit (s := S520x256) ![8, 0] ![512, 256] inb_S520x256_S512x256_8_0, w⟩,
        ⟨Rect.unit (s := S520x256) ![0, 0] ![8, 256] inb_S520x256_S8x256_0_0, w'⟩] (ix2 R d)
      = if h : R.val < 8 then w' (ix2 (⟨R.val, h⟩ : Fin 8) d) else w (ix2 (⟨R.val - 8, by omega⟩ : Fin 512) d) := by
  by_cases h : R.val < 8
  · rw [dif_pos h, View.canon_cons_of_not_mem]
    · have e : (ix2 R d : S520x256.Idx) = (Rect.unit (s := S520x256) ![0, 0] ![8, 256] inb_S520x256_S8x256_0_0).emb (ix2 (⟨R.val, h⟩ : Fin 8) d) := by
        funext a
        apply Fin.ext
        rw [Rect.emb_apply]
        fin_cases a
        · show R.val = 0 + 1 * R.val
          omega
        · show d.val = 0 + 1 * d.val
          omega
      rw [e, View.canon_cons_emb]
    · rw [Rect.mem_set_unit]
      intro hh
      have := (hh 0).1
      have h8 : 8 ≤ R.val := this
      omega
  · rw [dif_neg h]
    have e : (ix2 R d : S520x256.Idx) = (Rect.unit (s := S520x256) ![8, 0] ![512, 256] inb_S520x256_S512x256_8_0).emb (ix2 (⟨R.val - 8, by omega⟩ : Fin 512) d) := by
      funext a
      apply Fin.ext
      rw [Rect.emb_apply]
      fin_cases a
      · show R.val = 8 + 1 * (R.val - 8)
        omega
      · show d.val = 0 + 1 * d.val
        omega
    rw [e, View.canon_cons_emb]

section block
variable (x0 : Vec Ideal S512x1024 .f32) (x1 : Vec Ideal S1x6x1024 .f32) (x2 : Vec Ideal S1x1024 .f32) (x3 : Vec Ideal S1024x2944 .bf16) (x4 : Vec Ideal S3x256 .f32)

/-- A row of a block, normalised and modulated. -/
def entering (r : Fin 512) : Fin 1024 → EReal :=
  pre (fun k => x0 (ix2 r k)) (fun k => x2 (ix2 0 k)) (fun k => x1 (ix3 0 1 k)) (fun k => x1 (ix3 0 0 k))

/-- A row of a block times one column of the weights. -/
def col (r : Fin 512) (j : Fin 2944) : EReal := times (entering x0 x1 x2 r) (fun i j => x3 (ix2 i j)) j

/-- The gated product at a row of a block. -/
def inner (r : Fin 512) (d : Fin 256) : EReal :=
  col x0 x1 x2 x3 r ⟨256 + d.val, by omega⟩ * col x0 x1 x2 x3 r ⟨512 + d.val, by omega⟩

/-- The modulated rows as the kernel computes them. -/
abbrev rows : FVec Ideal S512x1024 .bf16 :=
  k0_pay4 (View.ld x1 (Rect.unit ![0, 0, 0] ![1, 1, 1024] inb_S1x6x1024_S1x1x1024_0_0_0))
    (View.ld x1 (Rect.unit ![0, 1, 0] ![1, 1, 1024] inb_S1x6x1024_S1x1x1024_0_1_0)) x0 x2

/-- The rows that enter the product are the modulated ones. -/
theorem rows_apply (r : Fin 512) (k : Fin 1024) : rows x0 x1 x2 (ix2 r k) = entering x0 x1 x2 r k := by
  pointwise [rows, k0_pay4]
  exact pre_eq (fun k => x0 (ix2 r k)) (fun k => x2 (ix2 0 k)) (fun k => x1 (ix3 0 1 k)) (fun k => x1 (ix3 0 0 k)) k

/-- What is stored for queries, keys and values. -/
theorem qkv_pay (r : Fin 512) (k : Fin 768) :
    k0_pay5 (View.ld x1 (Rect.unit ![0, 0, 0] ![1, 1, 1024] inb_S1x6x1024_S1x1x1024_0_0_0))
      (View.ld x1 (Rect.unit ![0, 1, 0] ![1, 1, 1024] inb_S1x6x1024_S1x1x1024_0_1_0)) x0 x2
      (View.ld x3 (Rect.unit ![0, 768] ![1024, 768] inb_S1024x2944_S1024x768_0_768)) (ix2 r k)
    = col x0 x1 x2 x3 r ⟨768 + k.val, by omega⟩ := by
  pointwise [k0_pay5]
  simp only [rows_apply]
  rfl

/-- What is stored for the gate of the scan. -/
theorem z_pay (r : Fin 512) (k : Fin 512) :
    k0_pay6 (View.ld x1 (Rect.unit ![0, 0, 0] ![1, 1, 1024] inb_S1x6x1024_S1x1x1024_0_0_0))
      (View.ld x1 (Rect.unit ![0, 1, 0] ![1, 1, 1024] inb_S1x6x1024_S1x1x1024_0_1_0)) x0 x2
      (View.ld x3 (Rect.unit ![0, 1536] ![1024, 512] inb_S1024x2944_S1024x512_0_1536)) (ix2 r k)
    = col x0 x1 x2 x3 r ⟨1536 + k.val, by omega⟩ := by
  pointwise [k0_pay6]
  simp only [rows_apply]
  rfl

/-- What is stored for the input of the scan. -/
theorem xbc_pay (r : Fin 512) (k : Fin 768) :
    k0_pay7 (rows x0 x1 x2) (View.ld x3 (Rect.unit ![0, 2048] ![1024, 768] inb_S1024x2944_S1024x768_0_2048)) (ix2 r k)
    = col x0 x1 x2 x3 r ⟨2048 + k.val, by omega⟩ := by
  pointwise [k0_pay7]
  simp only [rows_apply]
  rfl

/-- What is stored for the step sizes. -/
theorem dt_pay (r : Fin 512) (k : Fin 128) :
    k0_pay8 (rows x0 x1 x2) (View.ld x3 (Rect.unit ![0, 2816] ![1024, 128] inb_S1024x2944_S1024x128_0_2816)) (ix2 r k)
    = col x0 x1 x2 x3 r ⟨2816 + k.val, by omega⟩ := by
  pointwise [k0_pay8]
  simp only [rows_apply]
  rfl

/-- The first three groups of columns. -/
abbrev first : FVec Ideal S512x768 .f32 :=
  k0_pay9 (rows x0 x1 x2) (View.ld x3 (Rect.unit ![0, 0] ![1024, 768] inb_S1024x2944_S1024x768_0_0))

/-- The first columns of the product. -/
theorem first_apply (r : Fin 512) (k : Fin 768) : first x0 x1 x2 x3 (ix2 r k) = col x0 x1 x2 x3 r ⟨k.val, by omega⟩ := by
  pointwise [first, k0_pay9]
  simp only [rows_apply]
  rfl

/-- What goes to the scratch: the gated product. -/
theorem inner_pay (r : Fin 512) (d : Fin 256) :
    k0_pay10 (rows x0 x1 x2) (View.ld x3 (Rect.unit ![0, 0] ![1024, 768] inb_S1024x2944_S1024x768_0_0)) (ix2 r d)
    = inner x0 x1 x2 x3 r d := by
  pointwise [k0_pay10]
  simp only [first_apply]
  rfl

end block

variable (m : (ℓ : Loc nD τ sig) → Buf (Elt Ideal) ℓ) (c : Dev nD)

/-- What the scratch keeps of a block: the rows of its gated product. -/
theorem kept (t : Fin cfg0.N) (R : Fin 520) (hR : 8 ≤ R.val) (d : Fin 256) :
    (outsAt0 m c t.val t.isLt).2.2.2.2.2 (ix2 R d) = inner (iblk m c 0 t) (iblk m c 1 t) (iblk m c 2 t) (iblk m c 3 t) ⟨R.val - 8, by omega⟩ d := by
  by_cases h0 : t.val % 32 = 0
  · rw [outsAt0_A m c t h0 (not_not.mpr h0)]
    frame_out
    rw [stored, dif_neg (by omega)]
    pointwise [k0_pay2]
    exact inner_pay _ _ _ _ _ _
  · rw [outsAt0_B m c t h0 h0]
    frame_out
    rw [stored, dif_neg (by omega)]
    pointwise [k0_pay2]
    exact inner_pay _ _ _ _ _ _

/-- Queries, keys and values after a grid point. -/
theorem point_qkv (t : Fin cfg0.N) (r : Fin 512) (k : Fin 768) :
    (outsAt0 m c t.val t.isLt).2.1 (ix2 r k) = col (iblk m c 0 t) (iblk m c 1 t) (iblk m c 2 t) (iblk m c 3 t) r ⟨768 + k.val, by omega⟩ := by
  by_cases h0 : t.val % 32 = 0
  · rw [outsAt0_A m c t h0 (not_not.mpr h0)]
    frame_out
    exact qkv_pay _ _ _ _ _ _
  · rw [outsAt0_B m c t h0 h0]
    frame_out
    exact qkv_pay _ _ _ _ _ _

/-- The gate of the scan after a grid point. -/
theorem point_z (t : Fin cfg0.N) (r : Fin 512) (k : Fin 512) :
    (outsAt0 m c t.val t.isLt).2.2.1 (ix2 r k) = col (iblk m c 0 t) (iblk m c 1 t) (iblk m c 2 t) (iblk m c 3 t) r ⟨1536 + k.val, by omega⟩ := by
  by_cases h0 : t.val % 32 = 0
  · rw [outsAt0_A m c t h0 (not_not.mpr h0)]
    frame_out
    exact z_pay _ _ _ _ _ _
  · rw [outsAt0_B m c t h0 h0]
    frame_out
    exact z_pay _ _ _ _ _ _

/-- The input of the scan after a grid point. -/
theorem point_xbc (t : Fin cfg0.N) (r : Fin 512) (k : Fin 768) :
    (outsAt0 m c t.val t.isLt).2.2.2.1 (ix2 r k) = col (iblk m c 0 t) (iblk m c 1 t) (iblk m c 2 t) (iblk m c 3 t) r ⟨2048 + k.val, by omega⟩ := by
  by_cases h0 : t.val % 32 = 0
  · rw [outsAt0_A m c t h0 (not_not.mpr h0)]
    frame_out
    exact xbc_pay _ _ _ _ _ _
  · rw [outsAt0_B m c t h0 h0]
    frame_out
    exact xbc_pay _ _ _ _ _ _

/-- The step sizes after a grid point. -/
theorem point_dt (t : Fin cfg0.N) (r : Fin 512) (k : Fin 128) :
    (outsAt0 m c t.val t.isLt).2.2.2.2.1 (ix2 r k) = col (iblk m c 0 t) (iblk m c 1 t) (iblk m c 2 t) (iblk m c 3 t) r ⟨2816 + k.val, by omega⟩ := by
  by_cases h0 : t.val % 32 = 0
  · rw [outsAt0_A m c t h0 (not_not.mpr h0)]
    frame_out
    exact dt_pay _ _ _ _ _ _
  · rw [outsAt0_B m c t h0 h0]
    frame_out
    exact dt_pay _ _ _ _ _ _

/-- The grid point before. -/
def before (t : Fin cfg0.N) : Fin cfg0.N := ⟨t.val - 1, Nat.lt_of_le_of_lt (Nat.sub_le _ _) t.isLt⟩

/-- The gated product `n` rows back: in this block, in the block before, or zero before the sequence. -/
def earlier (t : Fin cfg0.N) (n : ℕ) (r : Fin 512) (d : Fin 256) : EReal :=
  if n ≤ r.val then inner (iblk m c 0 t) (iblk m c 1 t) (iblk m c 2 t) (iblk m c 3 t) ⟨r.val - n, by omega⟩ d
  else if t.val % 32 = 0 then 0
  else inner (iblk m c 0 (before t)) (iblk m c 1 (before t)) (iblk m c 2 (before t)) (iblk m c 3 (before t))
    ⟨(512 + r.val - n) % 512, Nat.mod_lt _ (by decide)⟩ d

/-- The scratch, at a row that the convolution reads in a sequence's first block. -/
theorem read_first (t : Fin cfg0.N) (h0 : t.val % 32 = 0) (n : ℕ) (r : Fin 512) (d : Fin 256) (R : Fin 520) (hR : R.val + n = 8 + r.val) :
    View.canon (Val := Elt Ideal) (e := .f32) [⟨Rect.unit (s := S520x256) ![8, 0] ![512, 256] inb_S520x256_S512x256_8_0,
          k0_pay2 (k0_pay10 (rows (iblk m c 0 t) (iblk m c 1 t) (iblk m c 2 t))
            (View.ld (iblk m c 3 t) (Rect.unit ![0, 0] ![1024, 768] inb_S1024x2944_S1024x768_0_0)))⟩,
        ⟨Rect.unit (s := S520x256) ![0, 0] ![8, 256] inb_S520x256_S8x256_0_0, k0_pay11 (F := Ideal)⟩] (ix2 R d)
      = earlier m c t n r d := by
  rw [stored]
  unfold earlier
  by_cases h : R.val < 8
  · rw [dif_pos h, if_neg (by omega), if_pos h0]
    pointwise [k0_pay11]
  · rw [dif_neg h, if_pos (by omega)]
    have e : R.val - 8 = r.val - n := by omega
    simp only [e]
    pointwise [k0_pay2]
    exact inner_pay _ _ _ _ _ _

/-- The scratch, at a row that the convolution reads in a later block. -/
theorem read_later (t : Fin cfg0.N) (h0 : ¬t.val % 32 = 0) (n : ℕ) (hn : n ≤ 8) (r : Fin 512) (d : Fin 256) (R : Fin 520) (hR : R.val + n = 8 + r.val) :
    View.canon (Val := Elt Ideal) (e := .f32) [⟨Rect.unit (s := S520x256) ![8, 0] ![512, 256] inb_S520x256_S512x256_8_0,
          k0_pay2 (k0_pay10 (rows (iblk m c 0 t) (iblk m c 1 t) (iblk m c 2 t))
            (View.ld (iblk m c 3 t) (Rect.unit ![0, 0] ![1024, 768] inb_S1024x2944_S1024x768_0_0)))⟩,
        ⟨Rect.unit (s := S520x256) ![0, 0] ![8, 256] inb_S520x256_S8x256_0_0,
          k0_pay1 (View.ld (outsAt0 m c (before t).val (before t).isLt).2.2.2.2.2
            (Rect.unit ![512, 0] ![8, 256] inb_S520x256_S8x256_512_0))⟩] (ix2 R d)
      = earlier m c t n r d := by
  rw [stored]
  unfold earlier
  by_cases h : R.val < 8
  · rw [dif_pos h, if_neg (by omega), if_neg h0]
    pointwise [k0_pay1]
    refine (kept m c (before t) ⟨512 + R.val, by omega⟩ (by show 8 ≤ 512 + R.val; omega) d).trans ?_
    congr 1
    apply Fin.ext
    show 512 + R.val - 8 = (512 + r.val - n) % 512
    omega
  · rw [dif_neg h, if_pos (by omega)]
    have e : R.val - 8 = r.val - n := by omega
    simp only [e]
    pointwise [k0_pay2]
    exact inner_pay _ _ _ _ _ _

/-- The short convolution from its weights, the gated products at the row and before it, and the gate. -/
def short (g w0 w1 w2 u0 u1 u2 : EReal) : EReal := g * (w2 * u2 + w0 * u0 + w1 * u1)

/-- The short convolution's result at a point. -/
theorem point_short (t : Fin cfg0.N) (r : Fin 512) (k : Fin 256) :
    (outsAt0 m c t.val t.isLt).1 (ix2 r k)
      = short (col (iblk m c 0 t) (iblk m c 1 t) (iblk m c 2 t) (iblk m c 3 t) r ⟨k.val, by omega⟩)
        (iblk m c 4 t (ix2 0 k)) (iblk m c 4 t (ix2 1 k)) (iblk m c 4 t (ix2 2 k))
        (earlier m c t 2 r k) (earlier m c t 1 r k) (inner (iblk m c 0 t) (iblk m c 1 t) (iblk m c 2 t) (iblk m c 3 t) r k) := by
  rw [short, ← first_apply _ _ _ _ r ⟨k.val, by omega⟩, ← inner_pay]
  by_cases h0 : t.val % 32 = 0
  · rw [← read_first m c t h0 2 r k ⟨6 + r.val, by omega⟩ (by dsimp only; omega), ← read_first m c t h0 1 r k ⟨7 + r.val, by omega⟩ (by dsimp only; omega)]
    rw [outsAt0_A m c t h0 (not_not.mpr h0)]
    frame_out
    simp only [View.readCov_eq_canon']
    pointwise [k0_pay3]
    rfl
  · rw [← read_later m c t h0 2 (by decide) r k ⟨6 + r.val, by omega⟩ (by dsimp only; omega), ← read_later m c t h0 1 (by decide) r k ⟨7 + r.val, by omega⟩ (by dsimp only; omega)]
    rw [outsAt0_B m c t h0 h0]
    frame_out
    simp only [read_unread_whole, View.readCov_eq_canon']
    pointwise [k0_pay3]
    rfl

end Cert.InprojIdeal.Hand
end
-- ==== Proof.InprojEntry.lean ====
module
public import proofs.«01_k».proof.Proof.Gen.InprojIdeal.Frame
public import Idealize.ShloMosaic.Lib.Pipeline.ValueKit
public import Idealize.ShloMosaic.Lib.Pointwise
public import Idealize.ShloMosaic.Lib.KernelVsHost
@[expose] public section
set_option maxRecDepth 16384
noncomputable section
/-! The arrays that the input projection's kernel reads, from the program's arguments. -/
namespace Cert.InprojIdeal.Hand
open Cert.InprojIdeal Cert.InprojIdeal.Gen Idealize.ShloMosaic Idealize.ShloMosaic.TcCoe Idealize.SL.Sem

variable (m : (ℓ : Loc nD τ sig) → Buf (Elt Ideal) ℓ) (c : Dev nD)

/-- The combined weights. -/
abbrev Wt := (⟨S1024x5896, .f32⟩ : BufTy).Contents (Elt Ideal)

/-- The weights of the queries, scaled. -/
def scaled (w : Wt) : (⟨S1024x256, .f32⟩ : BufTy).Contents (Elt Ideal) :=
  mulf (F := Ideal) (s := S1024x256) (φ := .f32) (extractStridedSlice S1024x256 ![0, 768] w slices_S1024x5896_S1024x256_0_768)
    (broadcastInDim S1024x256 ![] bcast_S_S1024x256 (constant (F := Ideal) S_ .f32 0x3E000000#32))

/-- The weights of the step sizes, with columns of zeros beside them. -/
def padded (w : Wt) : (⟨S1024x128, .f32⟩ : BufTy).Contents (Elt Ideal) :=
  pad S1024x128 ![0, 0] ![0, 120] ![0, 0] (extractStridedSlice S1024x8 ![0, 2816] w slices_S1024x5896_S1024x8_0_2816)
    (sitofp (F := Ideal) .f32 (constantI S_ 32 0#32)) pads_S1024x8_S1024x128_000_01200 h_S_

/-- The weights the kernel reads. -/
def packed (w : Wt) : (⟨S1024x2944, .bf16⟩ : BufTy).Contents (Elt Ideal) :=
  truncf (F := Ideal) .bf16 (concatenate S1024x2944 1 [⟨S1024x768, extractStridedSlice S1024x768 ![0, 0] w slices_S1024x5896_S1024x768_0_0⟩,
      ⟨S1024x256, scaled w⟩, ⟨S1024x1792, extractStridedSlice S1024x1792 ![0, 1024] w slices_S1024x5896_S1024x1792_0_1024⟩, ⟨S1024x128, padded w⟩]
      concatenates_S1024x768_S1024x256_S1024x1792_S1024x128_S1024x2944_d1) bitsLt_bf16_f32

/-- What the buffers hold after the padding. -/
abbrev mid := StableHlo.after hostOps0_1 (StableHlo.after hostOps0 fun b => m (c, b))

/-- The first columns of the weights are sliced out. -/
theorem mid_first : mid m c (Proc.devRef .tc main_v0) = extractStridedSlice S1024x768 ![0, 0] (m ((c : Thread nD τ).loc main_arg3)) slices_S1024x5896_S1024x768_0_0 := by
  unfold mid hostOps0 hostOps0_1
  after_results
  all_goals rfl

/-- The columns of the queries are scaled. -/
theorem mid_scaled : mid m c (Proc.devRef .tc main_v3) = scaled (m ((c : Thread nD τ).loc main_arg3)) := by
  unfold mid hostOps0 hostOps0_1
  after_results
  all_goals rfl

/-- The columns after the queries are sliced out. -/
theorem mid_rest : mid m c (Proc.devRef .tc main_v4) = extractStridedSlice S1024x1792 ![0, 1024] (m ((c : Thread nD τ).loc main_arg3)) slices_S1024x5896_S1024x1792_0_1024 := by
  unfold mid hostOps0 hostOps0_1
  after_results
  all_goals rfl

/-- The columns of the step sizes are padded with zeros. -/
theorem mid_padded : mid m c (Proc.devRef .tc main_v6) = padded (m ((c : Thread nD τ).loc main_arg3)) := by
  unfold mid hostOps0 hostOps0_1
  after_results
  all_goals rfl

/-- The weights the kernel reads, from the argument. -/
theorem entry_w : V m c main_v8 = packed (m ((c : Thread nD τ).loc main_arg3)) := by
  rw [packed, ← mid_first m c, ← mid_scaled m c, ← mid_rest m c, ← mid_padded m c]
  have e : V m c main_v8 = StableHlo.after hostOps0_2 (mid m c) (Proc.devRef .tc main_v8) := rfl
  rw [e]
  generalize mid m c = W
  unfold hostOps0_2
  after_results
  all_goals rfl

/-- The kernel's first argument is the residual stream with batch and time merged. -/
theorem entry_x : V m c main_v9 = shapeCast S32768x1024 (m ((c : Thread nD τ).loc main_arg0)) shapeCasts_S2x16384x1024_S32768x1024 := by
  unfold V hostOps0 hostOps0_1 hostOps0_2
  after_results
  all_goals rfl

/-- The gain enters as one row. -/
theorem entry_gain : V m c main_v10 = shapeCast S1x1024 (m ((c : Thread nD τ).loc main_arg2)) shapeCasts_S1024_S1x1024 := by
  unfold V hostOps0 hostOps0_1 hostOps0_2
  after_results
  all_goals rfl

/-- The packed weights at an entry, part by part. -/
theorem packed_apply (w : Wt) (i : Fin 1024) (j : Fin 2944) :
    packed w (ix2 i j) = (if h : j.val < 768 then w (ix2 i ⟨j.val, by omega⟩)
      else if h : j.val - 768 < 256 then (w (ix2 i ⟨768 + (j.val - 768), by omega⟩) * Ideal.ofBits .f32 0x3E000000#32 : EReal)
      else if h : j.val - 768 - 256 < 1792 then w (ix2 i ⟨1024 + (j.val - 768 - 256), by omega⟩)
      else if h : j.val - 768 - 256 - 1792 < 8 then w (ix2 i ⟨2816 + (j.val - 768 - 256 - 1792), by omega⟩)
      else FloatOps.sitofp (F := Ideal) .f32 0#32) := by
  pointwise [packed, scaled, padded]

/-- The packed weights outside the queries and the zeros are the weights. -/
theorem packed_plain (w : Wt) (i : Fin 1024) (j : Fin 2944) (h : j.val < 768 ∨ 1024 ≤ j.val ∧ j.val < 2824) (J : Fin 5896) (hJ : J.val = j.val) :
    packed w (ix2 i j) = w (ix2 i J) := by
  rw [packed_apply]
  rcases h with h | ⟨h1, h2⟩
  · rw [dif_pos h]
    exact congrArg (fun q => w (ix2 i q)) (Fin.ext hJ.symm)
  · rw [dif_neg (by omega), dif_neg (by omega)]
    by_cases h3 : j.val - 768 - 256 < 1792
    · rw [dif_pos h3]
      exact congrArg (fun q => w (ix2 i q)) (Fin.ext (by dsimp only; omega))
    · rw [dif_neg h3, dif_pos (by omega)]
      exact congrArg (fun q => w (ix2 i q)) (Fin.ext (by dsimp only; omega))

/-- The packed weights at a query. -/
theorem packed_query (w : Wt) (i : Fin 1024) (j : Fin 2944) (h1 : 768 ≤ j.val) (h2 : j.val < 1024) (J : Fin 5896) (hJ : J.val = j.val) :
    packed w (ix2 i j) = (w (ix2 i J) * Ideal.ofBits .f32 0x3E000000#32 : EReal) := by
  rw [packed_apply, dif_neg (by omega), dif_pos (by omega)]
  exact congrArg (fun q => (w (ix2 i q) * Ideal.ofBits .f32 0x3E000000#32 : EReal)) (Fin.ext (by dsimp only; omega))

/-- The packed weights at a column of zeros. -/
theorem packed_zero (w : Wt) (i : Fin 1024) (j : Fin 2944) (h : 2824 ≤ j.val) : packed w (ix2 i j) = (0 : EReal) := by
  rw [packed_apply, dif_neg (by omega), dif_neg (by omega), dif_neg (by omega), dif_neg (by omega)]
  simp [FloatOps.sitofp]

end Cert.InprojIdeal.Hand
end
-- ==== Proof.InprojFinal.lean ====
module
public import proofs.«01_k».proof.Proof.Gen.InprojIdeal.Value
public import proofs.«01_k».proof.Proof.InprojRefer
public import proofs.«01_k».proof.Proof.InprojBlock
public import proofs.«01_k».proof.Proof.InprojEntry
public import proofs.«01_k».proof.Proof.Lanes
@[expose] public section
set_option maxRecDepth 16384
noncomputable section
/-! The input projection's five output arrays are the reference's results. -/
namespace Cert.InprojIdeal.Hand
open Cert.InprojIdeal Cert.InprojIdeal.Gen Idealize.ShloMosaic Idealize.ShloMosaic.TcCoe Idealize.SL.Sem
open Cert.Rows

variable (m : (ℓ : Loc nD τ sig) → Buf (Elt Ideal) ℓ) (c : Dev nD)

/-- Which block each window takes at a grid point. -/
theorem idx : ∀ t : Fin cfg0.N,
    win0_0.index t = ![t.val, 0] ∧ win0_1.index t = ![t.val / 32, 0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

/-- The batches one under the other, at an entry. -/
theorem under_apply (x : (⟨S2x16384x1024, .f32⟩ : BufTy).Contents (Elt Ideal)) (R : Fin 32768) (k : Fin 1024) :
    shapeCast S32768x1024 x shapeCasts_S2x16384x1024_S32768x1024 (ix2 R k) = x (ix3 (⟨R.val / 16384, by omega⟩ : Fin 2) (⟨R.val % 16384, by omega⟩ : Fin 16384) k) := by
  pointwise []

/-- A row of the block of the residual stream. -/
theorem blk_x (t : Fin cfg0.N) (r : Fin 512) (k : Fin 1024) (b : Fin 2) (T : Fin 16384) (h : t.val * 512 + r.val = b.val * 16384 + T.val) :
    iblk m c 0 t (ix2 r k) = m ((c : Thread nD τ).loc main_arg0) (ix3 b T k) := by
  have ht : t.val < 64 := t.isLt.trans_eq N_0
  have e : iblk m c 0 t (ix2 r k) = V m c main_v9 (ix2 (⟨t.val * 512 + r.val, by omega⟩ : Fin 32768) k) := by
    blk_simp [iblk]
    congr 1
    blk_ext [idx t]
  rw [e, entry_x]
  refine (under_apply _ _ k).trans ?_
  have eb : (⟨(t.val * 512 + r.val) / 16384, by omega⟩ : Fin 2) = b := Fin.ext (by show (t.val * 512 + r.val) / 16384 = b.val; omega)
  have eT : (⟨(t.val * 512 + r.val) % 16384, by omega⟩ : Fin 16384) = T := Fin.ext (by show (t.val * 512 + r.val) % 16384 = T.val; omega)
  show m ((c : Thread nD τ).loc main_arg0) (ix3 (⟨(t.val * 512 + r.val) / 16384, by omega⟩ : Fin 2) (⟨(t.val * 512 + r.val) % 16384, by omega⟩ : Fin 16384) k) = _
  rw [eb, eT]

/-- The modulation of the block's batch. -/
theorem blk_mod (t : Fin cfg0.N) (j : Fin 6) (k : Fin 1024) (b : Fin 2) (h : b.val = t.val / 32) :
    iblk m c 1 t (ix3 0 j k) = m ((c : Thread nD τ).loc main_arg1) (ix3 b j k) := by
  have e : iblk m c 1 t (ix3 0 j k) = V m c main_arg1 (ix3 b j k) := by
    blk_simp [iblk]
    congr 1
    blk_ext [idx t]
  rw [e, V_main_arg1]

/-- The gain is the same in every block. -/
theorem blk_gain (t : Fin cfg0.N) (k : Fin 1024) : iblk m c 2 t (ix2 0 k) = m ((c : Thread nD τ).loc main_arg2) (ix1 k) := by
  have e : iblk m c 2 t (ix2 0 k) = V m c main_v10 (ix2 0 k) := by
    blk_simp [iblk]
    congr 1
    blk_ext [idx t]
  rw [e, entry_gain]
  pointwise []

/-- The weights are the same in every block. -/
theorem blk_w (t : Fin cfg0.N) (i : Fin 1024) (j : Fin 2944) : iblk m c 3 t (ix2 i j) = packed (m ((c : Thread nD τ).loc main_arg3)) (ix2 i j) := by
  have e : iblk m c 3 t (ix2 i j) = V m c main_v8 (ix2 i j) := by
    blk_simp [iblk]
    congr 1
    blk_ext [idx t]
  rw [e, entry_w]

/-- The taps of the convolution are the same in every block. -/
theorem blk_conv (t : Fin cfg0.N) (j : Fin 3) (k : Fin 256) : iblk m c 4 t (ix2 j k) = m ((c : Thread nD τ).loc main_arg4) (ix2 j k) := by
  have e : iblk m c 4 t (ix2 j k) = V m c main_arg4 (ix2 j k) := by
    blk_simp [iblk]
    congr 1
    blk_ext [idx t]
  rw [e, V_main_arg4]

/-- The reference's projection, from the program's arguments. -/
abbrev rcol : Fin 2 → Fin 16384 → Fin 5896 → EReal :=
  Cert.InprojRefIdeal.Hand.col (m ((c : Thread nD τ).loc main_arg0)) (m ((c : Thread nD τ).loc main_arg1)) (m ((c : Thread nD τ).loc main_arg2)) (m ((c : Thread nD τ).loc main_arg3))

/-- The reference's gated product, from the program's arguments. -/
abbrev rinner : Fin 2 → Fin 16384 → Fin 256 → EReal :=
  Cert.InprojRefIdeal.Hand.inner (m ((c : Thread nD τ).loc main_arg0)) (m ((c : Thread nD τ).loc main_arg1)) (m ((c : Thread nD τ).loc main_arg2)) (m ((c : Thread nD τ).loc main_arg3))

/-- A column of the kernel's projection at a point. -/
abbrev bcol (t : Fin cfg0.N) : Fin 512 → Fin 2944 → EReal := col (iblk m c 0 t) (iblk m c 1 t) (iblk m c 2 t) (iblk m c 3 t)

/-- The kernel's modulated row is the reference's. -/
theorem entering_eq (t : Fin cfg0.N) (r : Fin 512) (b : Fin 2) (T : Fin 16384) (h : t.val * 512 + r.val = b.val * 16384 + T.val) :
    entering (iblk m c 0 t) (iblk m c 1 t) (iblk m c 2 t) r
      = Cert.InprojRefIdeal.Hand.entering (m ((c : Thread nD τ).loc main_arg0)) (m ((c : Thread nD τ).loc main_arg1)) (m ((c : Thread nD τ).loc main_arg2)) b T := by
  have hb : b.val = t.val / 32 := by omega
  unfold entering Cert.InprojRefIdeal.Hand.entering
  simp only [blk_gain, blk_x m c t r _ b T h, blk_mod m c t _ _ b hb]

/-- The columns that are neither queries nor zeros are the reference's. -/
theorem col_plain (t : Fin cfg0.N) (r : Fin 512) (b : Fin 2) (T : Fin 16384) (h : t.val * 512 + r.val = b.val * 16384 + T.val)
    (j : Fin 2944) (hj : j.val < 768 ∨ 1024 ≤ j.val ∧ j.val < 2824) : bcol m c t r j = rcol m c b T ⟨j.val, by omega⟩ := by
  unfold bcol rcol col Cert.InprojRefIdeal.Hand.col times
  rw [entering_eq m c t r b T h]
  refine Finset.sum_congr rfl fun i _ => ?_
  beta_reduce
  rw [blk_w, packed_plain _ i j hj ⟨j.val, by omega⟩ rfl]

/-- The queries' columns are the reference's, scaled. -/
theorem col_query (t : Fin cfg0.N) (r : Fin 512) (b : Fin 2) (T : Fin 16384) (h : t.val * 512 + r.val = b.val * 16384 + T.val)
    (j : Fin 2944) (h1 : 768 ≤ j.val) (h2 : j.val < 1024) : bcol m c t r j = rcol m c b T ⟨j.val, by omega⟩ * Ideal.ofBits .f32 0x3E000000#32 := by
  unfold bcol rcol col Cert.InprojRefIdeal.Hand.col times
  rw [entering_eq m c t r b T h, show Ideal.ofBits .f32 0x3E000000#32 = Cert.AttnIdeal.Hand.eighth from rfl, Cert.AttnIdeal.Hand.sum_eighth]
  refine Finset.sum_congr rfl fun i _ => ?_
  beta_reduce
  rw [blk_w, packed_query _ i j h1 h2 ⟨j.val, by omega⟩ rfl]
  exact (mul_assoc _ _ _).symm

/-- The last columns are zero. -/
theorem col_zero (t : Fin cfg0.N) (r : Fin 512) (j : Fin 2944) (h : 2824 ≤ j.val) : bcol m c t r j = 0 := by
  unfold bcol col times
  refine Finset.sum_eq_zero fun i _ => ?_
  beta_reduce
  rw [blk_w, packed_zero _ i j h]
  exact mul_zero _

/-- The kernel's gated product is the reference's. -/
theorem inner_eq (t : Fin cfg0.N) (r : Fin 512) (b : Fin 2) (T : Fin 16384) (h : t.val * 512 + r.val = b.val * 16384 + T.val) (d : Fin 256) :
    inner (iblk m c 0 t) (iblk m c 1 t) (iblk m c 2 t) (iblk m c 3 t) r d = rinner m c b T d := by
  unfold inner rinner Cert.InprojRefIdeal.Hand.inner
  have e1 := col_plain m c t r b T h ⟨256 + d.val, by omega⟩ (.inl (by show 256 + d.val < 768; omega))
  have e2 := col_plain m c t r b T h ⟨512 + d.val, by omega⟩ (.inl (by show 512 + d.val < 768; omega))
  exact congrArg₂ (fun a b : EReal => a * b) e1 e2

/-- The rows that the convolution looks back to are the reference's. -/
theorem earlier_eq (t : Fin cfg0.N) (n : ℕ) (hn : 0 < n ∧ n ≤ 2) (r : Fin 512) (b : Fin 2) (T : Fin 16384) (h : t.val * 512 + r.val = b.val * 16384 + T.val)
    (d : Fin 256) :
    earlier m c t n r d
      = Cert.InprojRefIdeal.Hand.back (m ((c : Thread nD τ).loc main_arg0)) (m ((c : Thread nD τ).loc main_arg1)) (m ((c : Thread nD τ).loc main_arg2)) (m ((c : Thread nD τ).loc main_arg3)) n b T d := by
  have ht : t.val < 64 := t.isLt.trans_eq N_0
  unfold earlier Cert.InprojRefIdeal.Hand.back
  by_cases h1 : n ≤ r.val
  · rw [if_pos h1, if_pos (by omega)]
    exact inner_eq m c t _ b _ (by show t.val * 512 + (r.val - n) = b.val * 16384 + (T.val - n); omega) d
  · rw [if_neg h1]
    by_cases h0 : t.val % 32 = 0
    · rw [if_pos h0, if_neg (by omega)]
    · rw [if_neg h0, if_pos (by omega)]
      exact inner_eq m c (before t) _ b _ (by show (t.val - 1) * 512 + (512 + r.val - n) % 512 = b.val * 16384 + (T.val - n); omega) d

section results
open Cert.InprojRefIdeal.Read

/-- The convolution's array is the reference's. -/
theorem final_short : (dats m 0 c).arrAt 5 cfg0.N
    = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, k, rfl⟩ : ∃ (r : Fin 512) (k : Fin 256), y = ix2 r k := ⟨y 0, y 1, by funext a; fin_cases a <;> rfl⟩
  have ht : t.val < 64 := t.isLt.trans_eq N_0
  have e : ((cfg0.win 5).blk t).view.emb (ix2 r k) = ix2 (⟨t.val * 512 + r.val, by omega⟩ : Fin 32768) k := by
    blk_ext [idx t]
  rw [e, point_short]
  refine Eq.trans ?_ (Cert.InprojRefIdeal.Hand.fa_apply _ _ _ _ _ _ _).symm
  have h : t.val * 512 + r.val = (t.val * 512 + r.val) / 16384 * 16384 + (t.val * 512 + r.val) % 16384 := by omega
  unfold short Cert.InprojRefIdeal.Hand.short
  rw [earlier_eq m c t 2 (by decide) r ⟨_, by omega⟩ ⟨_, by omega⟩ h, earlier_eq m c t 1 (by decide) r ⟨_, by omega⟩ ⟨_, by omega⟩ h,
    inner_eq m c t r ⟨_, by omega⟩ ⟨_, by omega⟩ h]
  have e1 := col_plain m c t r ⟨_, by omega⟩ ⟨_, by omega⟩ h ⟨k.val, by omega⟩ (.inl (by show k.val < 768; omega))
  refine congrArg₂ (fun a b : EReal => a * b) e1 ?_
  rw [blk_conv, blk_conv, blk_conv, add_assoc, add_comm]

/-- The array of queries, keys and values is the reference's. -/
theorem final_qkv : (dats m 0 c).arrAt 6 cfg0.N
    = val_main_v64 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  obtain ⟨r, k, rfl⟩ : ∃ (r : Fin 512) (k : Fin 768), y = ix2 r k := ⟨y 0, y 1, by funext a; fin_cases a <;> rfl⟩
  have ht : t.val < 64 := t.isLt.trans_eq N_0
  have e : ((cfg0.win 6).blk t).view.emb (ix2 r k) = ix2 (⟨t.val * 512 + r.val, by omega⟩ : Fin 32768) k := by
    blk_ext [idx t]
  rw [e, point_qkv]
  refine Eq.trans ?_ (Cert.InprojRefIdeal.Hand.qkv_apply _ _ _ _ _ _).symm
  have h : t.val * 512 + r.val = (t.val * 512 + r.val) / 16384 * 16384 + (t.val * 512 + r.val) % 16384 := by omega
  unfold Cert.InprojRefIdeal.Hand.qkv
  by_cases hk : k.val < 256
  · rw [if_pos hk]
    exact col_query m c t r ⟨_, by omega⟩ ⟨_, by omega⟩ h ⟨768 + k.val, by omega⟩ (by show 768 ≤ 768 + k.val; omega) (by show 768 + k.val < 1024; omega)
  · rw [if_neg hk]
    exact col_plain m c t r ⟨_, by omega⟩ ⟨_, by omega⟩ h ⟨768 + k.val, by omega⟩ (.inr ⟨by show 1024 ≤ 768 + k.val; omega, by show 768 + k.val < 2824; omega⟩)

/-- The array of the scan's gates is the reference's. -/
theorem final_z : (dats m 0 c).arrAt 7 cfg0.N
    = val_main_v66 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  obtain ⟨r, k, rfl⟩ : ∃ (r : Fin 512) (k : Fin 512), y = ix2 r k := ⟨y 0, y 1, by funext a; fin_cases a <;> rfl⟩
  have ht : t.val < 64 := t.isLt.trans_eq N_0
  have e : ((cfg0.win 7).blk t).view.emb (ix2 r k) = ix2 (⟨t.val * 512 + r.val, by omega⟩ : Fin 32768) k := by
    blk_ext [idx t]
  rw [e, point_z]
  refine Eq.trans ?_ (Cert.InprojRefIdeal.Hand.z_apply _ _ _ _ _ _).symm
  have h : t.val * 512 + r.val = (t.val * 512 + r.val) / 16384 * 16384 + (t.val * 512 + r.val) % 16384 := by omega
  exact col_plain m c t r ⟨_, by omega⟩ ⟨_, by omega⟩ h ⟨1536 + k.val, by omega⟩ (.inr ⟨by show 1024 ≤ 1536 + k.val; omega, by show 1536 + k.val < 2824; omega⟩)

/-- The array of the scan's inputs is the reference's. -/
theorem final_xbc : (dats m 0 c).arrAt 8 cfg0.N
    = val_main_v68 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨r, k, rfl⟩ : ∃ (r : Fin 512) (k : Fin 768), y = ix2 r k := ⟨y 0, y 1, by funext a; fin_cases a <;> rfl⟩
  have ht : t.val < 64 := t.isLt.trans_eq N_0
  have e : ((cfg0.win 8).blk t).view.emb (ix2 r k) = ix2 (⟨t.val * 512 + r.val, by omega⟩ : Fin 32768) k := by
    blk_ext [idx t]
  rw [e, point_xbc]
  refine Eq.trans ?_ (Cert.InprojRefIdeal.Hand.xbc_apply _ _ _ _ _ _).symm
  have h : t.val * 512 + r.val = (t.val * 512 + r.val) / 16384 * 16384 + (t.val * 512 + r.val) % 16384 := by omega
  exact col_plain m c t r ⟨_, by omega⟩ ⟨_, by omega⟩ h ⟨2048 + k.val, by omega⟩ (.inr ⟨by show 1024 ≤ 2048 + k.val; omega, by show 2048 + k.val < 2824; omega⟩)

/-- The array of step sizes is the reference's. -/
theorem final_dt : (dats m 0 c).arrAt 9 cfg0.N
    = val_main_v69 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  obtain ⟨r, k, rfl⟩ : ∃ (r : Fin 512) (k : Fin 128), y = ix2 r k := ⟨y 0, y 1, by funext a; fin_cases a <;> rfl⟩
  have ht : t.val < 64 := t.isLt.trans_eq N_0
  have e : ((cfg0.win 9).blk t).view.emb (ix2 r k) = ix2 (⟨t.val * 512 + r.val, by omega⟩ : Fin 32768) k := by
    blk_ext [idx t]
  rw [e, point_dt]
  refine Eq.trans ?_ (Cert.InprojRefIdeal.Hand.dt_apply _ _ _ _ _ _).symm
  have h : t.val * 512 + r.val = (t.val * 512 + r.val) / 16384 * 16384 + (t.val * 512 + r.val) % 16384 := by omega
  unfold Cert.InprojRefIdeal.Hand.step
  by_cases hk : k.val < 8
  · rw [dif_pos hk]
    exact col_plain m c t r ⟨_, by omega⟩ ⟨_, by omega⟩ h ⟨2816 + k.val, by omega⟩ (.inr ⟨by show 1024 ≤ 2816 + k.val; omega, by show 2816 + k.val < 2824; omega⟩)
  · rw [dif_neg hk]
    exact col_zero m c t r ⟨2816 + k.val, by omega⟩ (by show 2824 ≤ 2816 + k.val; omega)

end results

end Cert.InprojIdeal.Hand
end
-- ==== Proof.ModulationFinal.lean ====
module
public import proofs.«01_k».proof.Proof.Gen.ModulationIdeal.Value
public import proofs.«01_k».proof.Proof.Gen.ModulationRefIdeal.Read
public import proofs.«01_k».proof.Proof.Rows
public import Idealize.ShloMosaic.Lib.Pipeline.ValueKit
@[expose] public section
set_option maxRecDepth 16384
noncomputable section
/-! The modulation kernel's output array is the reference's result. -/
namespace Cert.ModulationRefIdeal.Hand
open Cert.ModulationRefIdeal Cert.ModulationRefIdeal.Gen Cert.ModulationRefIdeal.Read Idealize.ShloMosaic Idealize.ShloMosaic.TcCoe Idealize.SL.Sem
open Cert.Rows

variable (x0 : (⟨S2x1024, .f32⟩ : BufTy).Contents (Elt Ideal)) (x1 : (⟨S2x1024x6144, .f32⟩ : BufTy).Contents (Elt Ideal)) (x2 : (⟨S2x6144, .f32⟩ : BufTy).Contents (Elt Ideal))

/-- The modulation of layer `l` and batch `b`. -/
def value (l b : Fin 2) (n : Fin 6144) : EReal :=
  times (fun k => x0 (ix2 b k) * logistic (x0 (ix2 b k))) (fun k n => x1 (ix3 l k n)) n + x2 (ix2 l n)

/-- The reference's result. -/
theorem result_apply (l b : Fin 2) (n : Fin 6144) : val_main_v5 (F := Ideal) x0 x1 x2 (ix3 l b n) = value x0 x1 x2 l b n := by
  pointwise [val_main_v5, val_main_v4, val_main_v3, val_main_v2, val_main_v1, val_main_v0, val_main_call0_v5, val_main_call0_v4, val_main_call0_cst_0, val_main_call0_v3, val_main_call0_v2, val_main_call0_cst, val_main_call0_v1, val_main_call0_v0]
  exact congrArg (· + x2 (ix2 l n)) (Finset.sum_congr rfl fun k _ => mul_comm _ _)

end Cert.ModulationRefIdeal.Hand

namespace Cert.ModulationIdeal.Hand
open Cert.ModulationIdeal Cert.ModulationIdeal.Gen Idealize.ShloMosaic Idealize.ShloMosaic.TcCoe Idealize.SL.Sem
open Cert.Rows

/-- The block that the kernel stores. -/
theorem out_eq (x0 : Vec Ideal S2x1024 .f32) (x1 : Vec Ideal S1x1024x1024 .f32) (x2 : Vec Ideal S1x1x1024 .f32) (b : Fin 2) (k : Fin 1024) :
    out0_3 (F := Ideal) x0 x1 x2 (ix3 0 b k)
      = times (fun k => x0 (ix2 b k) * logistic (x0 (ix2 b k))) (fun k n => x1 (ix3 0 k n)) k + x2 (ix3 0 0 k) := by
  frame_out
  pointwise [k0_pay1]
  simp only [zero_sub]
  rfl

variable (m : (ℓ : Loc nD τ sig) → Buf (Elt Ideal) ℓ) (c : Dev nD)

/-- The bias enters with a middle axis of one. -/
theorem entry_bias : V m c main_v0 = shapeCast S2x1x6144 (m ((c : Thread nD τ).loc main_arg2)) shapeCasts_S2x6144_S2x1x6144 := by
  unfold V hostOps0
  after_results
  all_goals rfl

/-- Which block each window takes at a grid point. -/
theorem idx : ∀ t : Fin cfg0.N,
    win0_0.index t = ![0, 0] ∧ win0_1.index t = ![t.val / 6, 0, t.val % 6] ∧ win0_2.index t = ![t.val / 6, 0, t.val % 6] ∧ win0_3.index t = ![t.val / 6, 0, t.val % 6] :=
  (by decide +kernel : ∀ t : Fin grid0.N, _)

/-- The conditioning is the same in every block. -/
theorem blk_c (t : Fin cfg0.N) (b : Fin 2) (k : Fin 1024) : iblk m c 0 t (ix2 b k) = m ((c : Thread nD τ).loc main_arg0) (ix2 b k) := by
  have e : iblk m c 0 t (ix2 b k) = V m c main_arg0 (ix2 b k) := by
    blk_simp [iblk]
    congr 1
    blk_ext [idx t]
  rw [e, V_main_arg0]

/-- The columns of the layer's weights. -/
theorem blk_w (t : Fin cfg0.N) (i k : Fin 1024) (l : Fin 2) (hl : l.val = t.val / 6) (n : Fin 6144) (hn : n.val = t.val % 6 * 1024 + k.val) :
    iblk m c 1 t (ix3 0 i k) = m ((c : Thread nD τ).loc main_arg1) (ix3 l i n) := by
  have e : iblk m c 1 t (ix3 0 i k) = V m c main_arg1 (ix3 l i n) := by
    blk_simp [iblk]
    congr 1
    blk_ext [idx t]
  rw [e, V_main_arg1]

/-- The bias with an axis of one between its own. -/
theorem bias_apply (x : S2x6144.Idx → EReal) (l : Fin 2) (n : Fin 6144) :
    shapeCast S2x1x6144 x shapeCasts_S2x6144_S2x1x6144 (ix3 l 0 n) = x (ix2 l n) := by
  pointwise []

/-- The columns of the layer's bias. -/
theorem blk_b (t : Fin cfg0.N) (k : Fin 1024) (l : Fin 2) (hl : l.val = t.val / 6) (n : Fin 6144) (hn : n.val = t.val % 6 * 1024 + k.val) :
    iblk m c 2 t (ix3 0 0 k) = m ((c : Thread nD τ).loc main_arg2) (ix2 l n) := by
  have e : iblk m c 2 t (ix3 0 0 k) = V m c main_v0 (ix3 l 0 n) := by
    blk_simp [iblk]
    congr 1
    blk_ext [idx t]
  rw [e, entry_bias]
  exact bias_apply _ l n

/-- The reference's result, from the program's arguments. -/
abbrev goal : (⟨S2x2x6144, .f32⟩ : BufTy).Contents (Elt Ideal) :=
  Cert.ModulationRefIdeal.Read.val_main_v5 (F := Ideal) (m ((c : Thread nD τ).loc main_arg0)) (m ((c : Thread nD τ).loc main_arg1)) (m ((c : Thread nD τ).loc main_arg2))

/-- The kernel's output array is the reference's. -/
theorem final : (dats m 0 c).arrAt 3 cfg0.N = goal m c := by
  refine (dats m 0 c).arrAt_eq_of_covers 3 _ (by decide +kernel) fun t hf y => ?_
  blk_simp
  rw [after0_3]
  obtain ⟨b, k, rfl⟩ : ∃ (b : Fin 2) (k : Fin 1024), y = ix3 (0 : Fin 1) b k :=
    ⟨y 1, y 2, by funext a; fin_cases a; exacts [Subsingleton.elim (α := Fin 1) _ _, rfl, rfl]⟩
  have ht : t.val < 12 := t.isLt.trans_eq N_0
  have e : ((cfg0.win 3).blk t).view.emb (ix3 (0 : Fin 1) b k)
      = ix3 (⟨t.val / 6, by omega⟩ : Fin 2) b (⟨t.val % 6 * 1024 + k.val, by omega⟩ : Fin 6144) := by
    blk_ext [idx t]
  rw [e, out_eq]
  refine Eq.trans ?_ (Cert.ModulationRefIdeal.Hand.result_apply _ _ _ _ _ _).symm
  unfold Cert.ModulationRefIdeal.Hand.value times
  rw [blk_b m c t k ⟨t.val / 6, by omega⟩ rfl ⟨t.val % 6 * 1024 + k.val, by omega⟩ rfl]
  refine congrArg (· + _) (Finset.sum_congr rfl fun i _ => ?_)
  beta_reduce
  rw [blk_c, blk_w m c t i k ⟨t.val / 6, by omega⟩ rfl ⟨t.val % 6 * 1024 + k.val, by omega⟩ rfl]

end Cert.ModulationIdeal.Hand
end
-- ==== Proof.SsdLanes.lean ====
module
public import proofs.«01_k».proof.Proof.Gen.SsdIdeal.Skeleton
public import Idealize.ShloMosaic.Lib.Pointwise
@[expose] public section
set_option maxRecDepth 16384
noncomputable section
/-! The masks of the state-space scan, and the lanes its blocks are spread over. -/
namespace Cert.SsdIdeal.Hand
open Cert.SsdIdeal Cert.SsdIdeal.Gen Idealize.ShloMosaic Idealize.ShloMosaic.TcCoe Idealize.SL.Sem

/-- The mask of the lower 64 lanes. -/
theorem low_apply (r : Fin 256) (c : Fin 128) : k0_pay17 (ix2 r c) = BitVec.ofBool (decide (c.val < 64)) := by
  pointwise [k0_pay17]
  revert c
  decide +kernel

/-- The mask of the upper 64 lanes. -/
theorem high_apply (r : Fin 256) (c : Fin 128) : IntOp.xori (k0_pay17 (ix2 r c)) 1#1 = BitVec.ofBool (decide (64 ≤ c.val)) := by
  rw [low_apply r c]
  revert c
  decide +kernel

/-- Comparing small numbers as words compares the numbers. -/
theorem sge_small (r c : Fin 256) : IntOp.cmpi .sge (BitVec.ofNat 32 r.val) (BitVec.ofNat 32 c.val) = BitVec.ofBool (decide (c.val ≤ r.val)) := by
  have hr : (BitVec.ofNat 32 r.val).toInt = r.val := by
    rw [BitVec.toInt_eq_toNat_of_lt (by rw [BitVec.toNat_ofNat]; omega), BitVec.toNat_ofNat]; omega
  have hc : (BitVec.ofNat 32 c.val).toInt = c.val := by
    rw [BitVec.toInt_eq_toNat_of_lt (by rw [BitVec.toNat_ofNat]; omega), BitVec.toNat_ofNat]; omega
  simp [IntOp.cmpi, BitVec.sle, BitVec.slt, hr, hc]

/-- The mask of the tokens up to the row's. -/
theorem upto_apply (r c : Fin 256) : k0_pay13 (ix2 r c) = BitVec.ofBool (decide (c.val ≤ r.val)) := by
  pointwise [k0_pay13]
  exact sge_small r c

/-- The lower triangle of ones. -/
theorem tri_apply (r c : Fin 256) : (k0_pay14 (F := Ideal)) (ix2 r c) = if c.val ≤ r.val then 1 else 0 := by
  pointwise [k0_pay14]
  rw [upto_apply]
  by_cases h : c.val ≤ r.val <;> simp [h, Scalar.select]

/-- The state's rows belong to the group of their half. -/
theorem row_group (r : Fin 128) (k : Fin 512) : k0_pay47 (ix2 r k) = BitVec.ofNat 32 (r.val / 64) := by
  pointwise [k0_pay47]
  revert r
  decide +kernel

/-- A case split on the eight heads. -/
theorem heads (h : Fin 8) : h = 0 ∨ h = 1 ∨ h = 2 ∨ h = 3 ∨ h = 4 ∨ h = 5 ∨ h = 6 ∨ h = 7 := by omega

/-- Values spread over the lanes of their heads. -/
theorem spread_apply (v : FVec Ideal S256x128 .f32) (l : Fin 256) (h : Fin 8) (p : Fin 64) :
    k0_pay18 v (ix2 l (⟨h.val * 64 + p.val, by omega⟩ : Fin 512)) = v (ix2 l (⟨h.val, by omega⟩ : Fin 128)) := by
  pointwise [k0_pay18]
  simp only [low_apply]
  rcases heads h with rfl | rfl | rfl | rfl | rfl | rfl | rfl | rfl
  · rw [dif_pos (by dsimp; omega), decide_eq_true (by dsimp; omega)]; rfl
  · rw [dif_pos (by dsimp; omega), decide_eq_false (by dsimp; omega)]; rfl
  · rw [dif_neg (by dsimp; omega), dif_pos (by dsimp; omega), decide_eq_true (by dsimp; omega)]; rfl
  · rw [dif_neg (by dsimp; omega), dif_pos (by dsimp; omega), decide_eq_false (by dsimp; omega)]; rfl
  · rw [dif_neg (by dsimp; omega), dif_neg (by dsimp; omega), dif_pos (by dsimp; omega), decide_eq_true (by dsimp; omega)]; rfl
  · rw [dif_neg (by dsimp; omega), dif_neg (by dsimp; omega), dif_pos (by dsimp; omega), decide_eq_false (by dsimp; omega)]; rfl
  · rw [dif_neg (by dsimp; omega), dif_neg (by dsimp; omega), dif_neg (by dsimp; omega), decide_eq_true (by dsimp; omega)]; rfl
  · rw [dif_neg (by dsimp; omega), dif_neg (by dsimp; omega), dif_neg (by dsimp; omega), decide_eq_false (by dsimp; omega)]; rfl

/-- The state's lanes belong to the group of their half. -/
theorem lane_group : ∀ k : Fin 512, Scalar.select
          (IntOp.andi
            (IntOp.cmpi .ne
              (IntOp.subi (BitVec.setWidth 32 (IntOp.cmpi .sgt (BitVec.ofNat 32 k.val) 0#32))
                (BitVec.setWidth 32 (IntOp.cmpi .slt (BitVec.ofNat 32 k.val) 0#32)))
              (Scalar.subi (Scalar.extui (Scalar.cmpi .sgt 256#32 0#32))
                (Scalar.extui (Scalar.cmpi .slt 256#32 0#32))))
            (IntOp.cmpi .ne (IntOp.remsi .vector (BitVec.ofNat 32 k.val) 256#32) 0#32))
          (IntOp.subi (IntOp.divsi .vector (BitVec.ofNat 32 k.val) 256#32) 1#32)
          (IntOp.divsi .vector (BitVec.ofNat 32 k.val) 256#32) = BitVec.ofNat 32 (k.val / 256) := by
  decide +kernel

/-- The groups of a row and a lane, compared as words. -/
theorem same_group : ∀ a b : Fin 2, IntOp.cmpi .eq (BitVec.ofNat 32 a.val) (BitVec.ofNat 32 b.val) = BitVec.ofBool (decide (a.val = b.val)) := by
  decide +kernel

/-- The state after a block: the state before it, decayed, and the block's own where row and lane are of one group. -/
theorem state_apply (w : FVec Ideal S1x512 .f32) (s u : FVec Ideal S128x512 .f32) (r : Fin 128) (k : Fin 512) :
    k0_pay51 w s u k0_pay47 k0_pay48 k0_pay49 k0_pay50 0#32 (ix2 r k)
      = s (ix2 r k) * w (ix2 0 k) + if r.val / 64 = k.val / 256 then u (ix2 r k) else 0 := by
  pointwise [k0_pay51, k0_pay48, k0_pay49, k0_pay50]
  rw [row_group]
  congr 1
  rw [lane_group k, same_group ⟨r.val / 64, by omega⟩ ⟨k.val / 256, by omega⟩]
  by_cases h : r.val / 64 = k.val / 256 <;> simp [h, Scalar.select]

/-- The product of two blocks' rows over the lanes of one group. -/
def score (b c : FVec Ideal S256x128 .f32) (g : Fin 2) (l s : Fin 256) : EReal :=
  ∑ n : Fin 64, c (ix2 l (⟨g.val * 64 + n.val, by omega⟩ : Fin 128)) * b (ix2 s (⟨g.val * 64 + n.val, by omega⟩ : Fin 128))

/-- A sum over the lanes is the sum over the lower half and over the upper half. -/
theorem sum_halves (f : Fin 128 → EReal) :
    ∑ n : Fin 128, f n = (∑ n : Fin 64, f ⟨0 * 64 + n.val, by omega⟩) + ∑ n : Fin 64, f ⟨1 * 64 + n.val, by omega⟩ := by
  refine (Fin.sum_univ_add (a := 64) (b := 64) f).trans ?_
  refine congrArg₂ (· + ·) (Finset.sum_congr rfl fun n _ => congrArg f (Fin.ext ?_)) (Finset.sum_congr rfl fun n _ => congrArg f (Fin.ext ?_))
  · show n.val = 0 * 64 + n.val
    omega
  · show 64 + n.val = 1 * 64 + n.val
    omega

/-- Of a lower half's values only those are kept. -/
theorem keep_low (v : Bool) (hv : v = true) (x : EReal) : Scalar.select (BitVec.ofBool v) x 0 = x := by
  subst hv
  rfl

/-- The values of the other half are dropped. -/
theorem drop_low (v : Bool) (hv : v = false) (x : EReal) : Scalar.select (BitVec.ofBool v) x 0 = 0 := by
  subst hv
  rfl

/-- The masked product of two blocks' rows over the first group. -/
theorem score_low (b c : FVec Ideal S256x128 .f32) (l s : Fin 256) :
    k0_pay32 b c k0_pay17 (ix2 l s) = score b c 0 l s := by
  pointwise [k0_pay32, k0_pay30, k0_pay31]
  simp only [low_apply]
  rw [sum_halves, score]
  refine Eq.trans (congrArg₂ (· + ·) (Finset.sum_congr rfl fun n _ => keep_low _ (decide_eq_true (by dsimp; omega)) _)
    (Finset.sum_eq_zero fun n _ => drop_low _ (decide_eq_false (by dsimp; omega)) _)) (add_zero _)

/-- The masked product of two blocks' rows over the second group. -/
theorem score_high (b c : FVec Ideal S256x128 .f32) (l s : Fin 256) :
    k0_pay33 b c k0_pay17 (ix2 l s) = score b c 1 l s := by
  pointwise [k0_pay33, k0_pay30, k0_pay31]
  rw [sum_halves, score]
  simp only [high_apply]
  refine Eq.trans (congrArg₂ (· + ·) (Finset.sum_eq_zero fun n _ => drop_low _ (decide_eq_false (by dsimp; omega)) _)
    (Finset.sum_congr rfl fun n _ => keep_low _ (decide_eq_true (by dsimp; omega)) _)) (zero_add _)

/-- In a pair's lower half the first head is kept. -/
theorem pair_low (v : Bool) (hv : v = true) (f g : Fin 256 → EReal) :
    (∑ s, Scalar.select (BitVec.ofBool v) (f s) 0) + ∑ s, Scalar.select (IntOp.xori (BitVec.ofBool v) 1#1) (g s) 0 = ∑ s, f s := by
  subst hv
  exact Eq.trans (congrArg (_ + ·) (Finset.sum_eq_zero fun s _ => rfl)) (add_zero _)

/-- In a pair's upper half the second head is kept. -/
theorem pair_high (v : Bool) (hv : v = false) (f g : Fin 256 → EReal) :
    (∑ s, Scalar.select (BitVec.ofBool v) (f s) 0) + ∑ s, Scalar.select (IntOp.xori (BitVec.ofBool v) 1#1) (g s) 0 = ∑ s, g s := by
  subst hv
  exact Eq.trans (congrArg (· + _) (Finset.sum_eq_zero fun s _ => rfl)) (zero_add _)

/-- The decay from one token of a block to a later one, from the sums of the rates up to them. -/
def decay (l s : Fin 256) (u v : EReal) : EReal :=
  Ideal.exp (Scalar.select (BitVec.ofBool (decide (s.val ≤ l.val))) (u - v) (Ideal.ofBits .f32 0xFF800000#32))

section whole
variable (x m : FVec Ideal S256x512 .f32) (b c : FVec Ideal S256x128 .f32) (a : FVec Ideal S256x128 .f32) (at' : FVec Ideal S128x256 .f32)
  (e : FVec Ideal S256x512 .f32) (st : FVec Ideal S128x512 .f32)

/-- The block's rows before the skip and the gate, as the kernel computes them. -/
abbrev mixed : FVec Ideal S256x512 .f32 :=
  k0_pay44 k0_pay13 a at' k0_pay17 e (k0_pay31 c) (k0_pay33 b c k0_pay17) (k0_pay34 x m)
    (k0_pay39 (k0_pay36 x b c k0_pay13 a at' k0_pay17 m) (k0_pay37 b c k0_pay13 a at' k0_pay17) (k0_pay38 x k0_pay17 m) (constant S256x128 .f32 0x00000000#32))
    (k0_pay40 k0_pay13 a at' k0_pay17 (k0_pay32 b c k0_pay17) (k0_pay34 x m))
    (k0_pay41 (k0_pay34 x m)) (k0_pay42 k0_pay13 a at' k0_pay17 (k0_pay33 b c k0_pay17) (k0_pay34 x m)) (k0_pay43 a at') st

set_option maxHeartbeats 8000000 in
/-- The block's rows before the skip and the gate: what the block's own tokens give, and what the state gives. -/
theorem mixed_apply (l : Fin 256) (h : Fin 8) (p : Fin 64) :
    mixed x m b c a at' e st (ix2 l (⟨h.val * 64 + p.val, by omega⟩ : Fin 512))
      = (∑ s : Fin 256, score b c ⟨h.val / 4, by omega⟩ l s
          * decay l s (a (ix2 l (⟨h.val, by omega⟩ : Fin 128))) (at' (ix2 (⟨h.val, by omega⟩ : Fin 128) s))
          * (x (ix2 s (⟨h.val * 64 + p.val, by omega⟩ : Fin 512)) * m (ix2 s (⟨h.val * 64 + p.val, by omega⟩ : Fin 512))))
        + (∑ n : Fin 128, c (ix2 l n) * st (ix2 n (⟨h.val * 64 + p.val, by omega⟩ : Fin 512)))
          * e (ix2 l (⟨h.val * 64 + p.val, by omega⟩ : Fin 512)) := by
  pointwise [mixed, k0_pay44, k0_pay31, k0_pay40, k0_pay42, k0_pay43, k0_pay41, k0_pay39, k0_pay36, k0_pay37, k0_pay38, k0_pay35, k0_pay34, k0_pay25]
  simp only [upto_apply, low_apply, score_low, score_high]
  rcases heads h with hh | hh | hh | hh | hh | hh | hh | hh
  · have hv : h.val = 0 := congrArg Fin.val hh
    rw [dif_pos (by omega), pair_low _ (decide_eq_true (by omega))]
    refine congrArg₂ (· + ·) (Finset.sum_congr rfl fun s _ => ?_) rfl
    subst hh
    rfl
  · have hv : h.val = 1 := congrArg Fin.val hh
    rw [dif_pos (by omega), pair_high _ (decide_eq_false (by omega))]
    refine congrArg₂ (· + ·) (Finset.sum_congr rfl fun s _ => ?_) rfl
    subst hh
    rfl
  · have hv : h.val = 2 := congrArg Fin.val hh
    rw [dif_neg (by omega), dif_pos (by omega), pair_low _ (decide_eq_true (by omega))]
    refine congrArg₂ (· + ·) (Finset.sum_congr rfl fun s _ => ?_) rfl
    have e : 128 + (h.val * 64 + p.val - 128) = h.val * 64 + p.val := by omega
    simp only [e]
    subst hh
    rfl
  · have hv : h.val = 3 := congrArg Fin.val hh
    rw [dif_neg (by omega), dif_pos (by omega), pair_high _ (decide_eq_false (by omega))]
    refine congrArg₂ (· + ·) (Finset.sum_congr rfl fun s _ => ?_) rfl
    have e : 128 + (h.val * 64 + p.val - 128) = h.val * 64 + p.val := by omega
    simp only [e]
    subst hh
    rfl
  · have hv : h.val = 4 := congrArg Fin.val hh
    rw [dif_neg (by omega), dif_neg (by omega), dif_pos (by omega), pair_low _ (decide_eq_true (by omega))]
    refine congrArg₂ (· + ·) (Finset.sum_congr rfl fun s _ => ?_) rfl
    have e : 256 + (h.val * 64 + p.val - 128 - 128) = h.val * 64 + p.val := by omega
    simp only [e]
    subst hh
    rfl
  · have hv : h.val = 5 := congrArg Fin.val hh
    rw [dif_neg (by omega), dif_neg (by omega), dif_pos (by omega), pair_high _ (decide_eq_false (by omega))]
    refine congrArg₂ (· + ·) (Finset.sum_congr rfl fun s _ => ?_) rfl
    have e : 256 + (h.val * 64 + p.val - 128 - 128) = h.val * 64 + p.val := by omega
    simp only [e]
    subst hh
    rfl
  · have hv : h.val = 6 := congrArg Fin.val hh
    rw [dif_neg (by omega), dif_neg (by omega), dif_neg (by omega), pair_low _ (decide_eq_true (by omega))]
    refine congrArg₂ (· + ·) (Finset.sum_congr rfl fun s _ => ?_) rfl
    have e : 384 + (h.val * 64 + p.val - 128 - 128 - 128) = h.val * 64 + p.val := by omega
    simp only [e]
    subst hh
    rfl
  · have hv : h.val = 7 := congrArg Fin.val hh
    rw [dif_neg (by omega), dif_neg (by omega), dif_neg (by omega), pair_high _ (decide_eq_false (by omega))]
    refine congrArg₂ (· + ·) (Finset.sum_congr rfl fun s _ => ?_) rfl
    have e : 384 + (h.val * 64 + p.val - 128 - 128 - 128) = h.val * 64 + p.val := by omega
    simp only [e]
    subst hh
    rfl
end whole

end Cert.SsdIdeal.Hand
end
-- ==== Proof.SsdChunk.lean ====
module
public import proofs.«01_k».proof.Proof.SsdLanes
@[expose] public section
set_option maxRecDepth 16384
noncomputable section
/-! A block of the state-space scan: what its tokens, its rates and the state before it give. -/
namespace Cert.SsdIdeal.Hand
open Cert.SsdIdeal Cert.SsdIdeal.Gen Idealize.ShloMosaic Idealize.ShloMosaic.TcCoe Idealize.SL.Sem

/-- The lane of a head's value. -/
def lane (h : Fin 8) (p : Fin 64) : Fin 512 := ⟨h.val * 64 + p.val, by omega⟩

section chunk
variable (X : Fin 256 → Fin 768 → EReal) (D : Fin 256 → Fin 8 → EReal) (A : Fin 8 → EReal) (S : Fin 64 → EReal)

/-- A head's value at a token. -/
def val (l : Fin 256) (h : Fin 8) (p : Fin 64) : EReal := X l ⟨h.val * 64 + p.val, by omega⟩

/-- A head's input direction at a token. -/
def dirIn (l : Fin 256) (h : Fin 8) (n : Fin 64) : EReal := X l ⟨512 + (h.val / 4 * 64 + n.val), by omega⟩

/-- A head's output direction at a token. -/
def dirOut (l : Fin 256) (h : Fin 8) (n : Fin 64) : EReal := X l ⟨640 + (h.val / 4 * 64 + n.val), by omega⟩

/-- The sum of a head's rates up to a token. -/
def cum (l : Fin 256) (h : Fin 8) : EReal := ∑ s : Fin 256, (if s.val ≤ l.val then 1 else 0) * (D s h * A h)

/-- What the block's own tokens give. -/
def own (l : Fin 256) (h : Fin 8) (p : Fin 64) : EReal :=
  ∑ s : Fin 256, (∑ n : Fin 64, dirOut X l h n * dirIn X s h n) * decay l s (cum D A l h) (cum D A s h) * (val X s h p * D s h)

/-- What the state before the block gives. -/
def across (l : Fin 256) (h : Fin 8) : EReal := (∑ n : Fin 64, dirOut X l h n * S n) * Ideal.exp (cum D A l h)

/-- What the block leaves in the state. -/
def left (h : Fin 8) (n p : Fin 64) : EReal :=
  ∑ l : Fin 256, dirIn X l h n * (val X l h p * D l h * Ideal.exp (cum D A 255 h - cum D A l h))

end chunk

/-- A value times its logistic. -/
def swish (z : EReal) : EReal := z * Ideal.div 1 (1 + Ideal.exp (0 - z))

/-- A group's values normalised. -/
def normed (u : Fin 256 → EReal) (k : Fin 256) : EReal :=
  u k * Ideal.rsqrt (Ideal.div (∑ j, u j * u j) (Ideal.ofBits .f32 0x43800000#32) + Ideal.ofBits .f32 0x358637BD#32)

section payload
variable (q : FVec Ideal S256x768 .f32) (w : Vec Ideal S1x768 .f32) (u : Vec Ideal S256x768 .f32)
  (d : Vec Ideal S256x128 .f32) (db al : Vec Ideal S1x128 .f32) (st : Vec Ideal S128x512 .f32)
  (sk nw : Vec Ideal S1x512 .f32) (z : Vec Ideal S256x512 .bf16)

/-- The block's activated rows. -/
def act (l : Fin 256) (j : Fin 768) : EReal := swish (q (ix2 l j) + w (ix2 0 j) * u (ix2 l j))

/-- The kernel's activated rows. -/
theorem act_pay (l : Fin 256) (j : Fin 768) : k0_pay7 q w u (ix2 l j) = act q w u l j := by
  pointwise [k0_pay7]
  rfl

/-- A step size. -/
def soft (x : EReal) : EReal := max x 0 + Ideal.log (1 + Ideal.exp (0 - FloatOps.absf (F := Ideal) (φ := .f32) x))

/-- The block's step sizes. -/
def steps (l : Fin 256) (h : Fin 8) : EReal := soft (d (ix2 l (⟨h.val, by omega⟩ : Fin 128)) + db (ix2 0 (⟨h.val, by omega⟩ : Fin 128)))

/-- The kernel's step sizes. -/
theorem steps_pay (l : Fin 256) (h : Fin 8) : k0_pay11 d db (ix2 l (⟨h.val, by omega⟩ : Fin 128)) = steps d db l h := by
  pointwise [k0_pay11]
  rfl

/-- The heads' rates. -/
def rates (h : Fin 8) : EReal := 0 - Ideal.exp (al (ix2 0 (⟨h.val, by omega⟩ : Fin 128)))

/-- The kernel's step sizes times the rates. -/
theorem rates_pay (l : Fin 256) (h : Fin 8) : k0_pay12 d db al (ix2 l (⟨h.val, by omega⟩ : Fin 128)) = steps d db l h * rates al h := by
  pointwise [k0_pay12]
  rw [steps_pay]
  rfl

/-- The sums of the rates as the kernel computes them. -/
abbrev sums : FVec Ideal S256x128 .f32 := k0_pay15 (k0_pay12 d db al) k0_pay14 (constant S256x128 .f32 0x00000000#32)

/-- The kernel's sums of the rates. -/
theorem sums_apply (l : Fin 256) (h : Fin 8) : sums d db al (ix2 l (⟨h.val, by omega⟩ : Fin 128)) = cum (steps d db) (rates al) l h := by
  pointwise [sums, k0_pay15]
  simp only [rates_pay, tri_apply]
  rfl

/-- The kernel's sums of the rates, turned. -/
theorem sums_turned (l : Fin 256) (h : Fin 8) :
    k0_pay16 (k0_pay12 d db al) k0_pay14 (constant S256x128 .f32 0x00000000#32) (ix2 (⟨h.val, by omega⟩ : Fin 128) l) = cum (steps d db) (rates al) l h := by
  rw [← sums_apply]
  pointwise [k0_pay16]

/-- The sums spread over the lanes, as the kernel computes them. -/
theorem spread_sums :
    k0_pay24 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32)) = k0_pay18 (sums d db al) := rfl

/-- A state whose rows and lanes of different groups are zero. -/
def Split (st : Vec Ideal S128x512 .f32) (S : Fin 8 → Fin 64 → Fin 64 → EReal) : Prop :=
  ∀ (r : Fin 128) (h : Fin 8) (p : Fin 64), st (ix2 r (lane h p)) = if r.val / 64 = h.val / 4 then S h ⟨r.val % 64, by omega⟩ p else 0

/-- The state after the block, as the kernel computes it. -/
abbrev stateAfter : FVec Ideal S128x512 .f32 :=
  k0_pay51 (k0_pay29 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32))) st
    (k0_pay46 (k0_pay30 (k0_pay9 q w u)) (k0_pay45 (k0_pay25 (k0_pay8 q w u) (k0_pay18 (k0_pay11 d db)))
      (k0_pay27 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32)))))
    k0_pay47 k0_pay48 k0_pay49 k0_pay50 0#32

/-- The decay over the whole block. -/
theorem whole_decay (h : Fin 8) (p : Fin 64) :
    k0_pay29 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32)) (ix2 0 (lane h p))
      = Ideal.exp (cum (steps d db) (rates al) 255 h) := by
  rw [← sums_apply, ← spread_apply (sums d db al) 255 h p, ← spread_sums]
  pointwise [k0_pay29, k0_pay26]
  rfl

/-- What a token's value leaves for the end of the block. -/
theorem kept_apply (l : Fin 256) (h : Fin 8) (p : Fin 64) :
    k0_pay45 (k0_pay25 (k0_pay8 q w u) (k0_pay18 (k0_pay11 d db)))
      (k0_pay27 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32))) (ix2 l (lane h p))
      = val (act q w u) l h p * steps d db l h
        * Ideal.exp (cum (steps d db) (rates al) 255 h - cum (steps d db) (rates al) l h) := by
  rw [← sums_apply, ← sums_apply, ← spread_apply (sums d db al) 255 h p, ← spread_apply (sums d db al) l h p, ← spread_sums,
    ← steps_pay, ← spread_apply (k0_pay11 d db) l h p, val, ← act_pay]
  pointwise [k0_pay45, k0_pay25, k0_pay27, k0_pay26, k0_pay8]
  rfl

/-- The state after the block. -/
theorem stateAfter_apply (S : Fin 8 → Fin 64 → Fin 64 → EReal) (hS : Split st S) :
    Split (stateAfter q w u d db al st) fun h n p => S h n p * Ideal.exp (cum (steps d db) (rates al) 255 h)
      + left (act q w u) (steps d db) (rates al) h n p := by
  intro r h p
  refine (state_apply _ st _ r (lane h p)).trans ?_
  rw [hS r h p, whole_decay]
  have hg : (lane h p).val / 256 = h.val / 4 := by
    show (h.val * 64 + p.val) / 256 = h.val / 4
    omega
  rw [hg]
  by_cases hh : r.val / 64 = h.val / 4
  · rw [if_pos hh, if_pos hh, if_pos hh]
    refine congrArg₂ (· + ·) rfl ?_
    pointwise [k0_pay46, k0_pay30]
    simp only [kept_apply]
    refine Finset.sum_congr rfl fun l _ => congrArg (· * _) ?_
    rw [dirIn, ← act_pay]
    pointwise [k0_pay9]
    refine congrArg (fun j => k0_pay7 q w u (ix2 l j)) (Fin.ext ?_)
    dsimp
    omega
  · rw [if_neg hh, if_neg hh, if_neg hh, zero_mul, add_zero]

/-- The block's rows before the skip and the gate, as the kernel computes them. -/
abbrev rowsMixed : FVec Ideal S256x512 .f32 :=
  mixed (k0_pay8 q w u) (k0_pay18 (k0_pay11 d db)) (k0_pay9 q w u) (k0_pay10 q w u) (sums d db al)
    (k0_pay16 (k0_pay12 d db al) k0_pay14 (constant S256x128 .f32 0x00000000#32))
    (k0_pay28 k0_pay17 (k0_pay19 (k0_pay12 d db al) k0_pay14 (constant S256x128 .f32 0x00000000#32))
      (k0_pay20 (k0_pay12 d db al) k0_pay14 (constant S256x128 .f32 0x00000000#32))
      (k0_pay21 (k0_pay12 d db al) k0_pay14 (constant S256x128 .f32 0x00000000#32))
      (k0_pay22 (k0_pay12 d db al) k0_pay14 (constant S256x128 .f32 0x00000000#32))
      (k0_pay23 (k0_pay12 d db al) k0_pay14 (constant S256x128 .f32 0x00000000#32))) st

/-- The kernel's input directions. -/
theorem dirIn_pay (l : Fin 256) (h : Fin 8) (n : Fin 64) (k : Fin 128) (hk : k.val = h.val / 4 * 64 + n.val) :
    k0_pay9 q w u (ix2 l k) = dirIn (act q w u) l h n := by
  rw [dirIn, ← act_pay]
  have e : (⟨512 + (h.val / 4 * 64 + n.val), by omega⟩ : Fin 768) = ⟨512 + k.val, by omega⟩ := by simp only [hk]
  rw [e]
  pointwise [k0_pay9]

/-- The kernel's output directions. -/
theorem dirOut_pay (l : Fin 256) (h : Fin 8) (n : Fin 64) (k : Fin 128) (hk : k.val = h.val / 4 * 64 + n.val) :
    k0_pay10 q w u (ix2 l k) = dirOut (act q w u) l h n := by
  rw [dirOut, ← act_pay]
  have e : (⟨640 + (h.val / 4 * 64 + n.val), by omega⟩ : Fin 768) = ⟨640 + k.val, by omega⟩ := by simp only [hk]
  rw [e]
  pointwise [k0_pay10]

/-- The kernel's values. -/
theorem val_pay (l : Fin 256) (h : Fin 8) (p : Fin 64) : k0_pay8 q w u (ix2 l (lane h p)) = val (act q w u) l h p := by
  rw [val, ← act_pay]
  pointwise [k0_pay8]
  rfl

/-- A product over the rows of the state is one over the rows of the head's group. -/
theorem read_state (S : Fin 8 → Fin 64 → Fin 64 → EReal) (hS : Split st S) (l : Fin 256) (h : Fin 8) (p : Fin 64) :
    ∑ n : Fin 128, k0_pay10 q w u (ix2 l n) * st (ix2 n (lane h p)) = ∑ n : Fin 64, dirOut (act q w u) l h n * S h n p := by
  rw [sum_halves]
  by_cases hh : h.val / 4 = 0
  · refine (congrArg₂ (· + ·) (Finset.sum_congr rfl fun n _ => ?_) (Finset.sum_eq_zero fun n _ => ?_)).trans (add_zero _)
    · rw [hS, if_pos (by dsimp; omega), dirOut_pay q w u l h n _ (by dsimp; omega)]
      refine congrArg (fun i => dirOut (act q w u) l h n * S h i p) (Fin.ext ?_)
      dsimp
      omega
    · rw [hS, if_neg (by dsimp; omega), mul_zero]
  · refine (congrArg₂ (· + ·) (Finset.sum_eq_zero fun n _ => ?_) (Finset.sum_congr rfl fun n _ => ?_)).trans (zero_add _)
    · rw [hS, if_neg (by dsimp; omega), mul_zero]
    · rw [hS, if_pos (by dsimp; omega), dirOut_pay q w u l h n _ (by dsimp; omega)]
      refine congrArg (fun i => dirOut (act q w u) l h n * S h i p) (Fin.ext ?_)
      dsimp
      omega

/-- A row of the block before the skip and the gate. -/
theorem rowsMixed_apply (S : Fin 8 → Fin 64 → Fin 64 → EReal) (hS : Split st S) (l : Fin 256) (h : Fin 8) (p : Fin 64) :
    rowsMixed q w u d db al st (ix2 l (lane h p))
      = own (act q w u) (steps d db) (rates al) l h p + across (act q w u) (steps d db) (rates al) (fun n => S h n p) l h := by
  refine (mixed_apply _ _ _ _ _ _ _ st l h p).trans (congrArg₂ (· + ·) (Finset.sum_congr rfl fun s _ => ?_) (congrArg₂ (· * ·) ?_ ?_))
  · refine congrArg₂ (· * ·) (congrArg₂ (· * ·) (Finset.sum_congr rfl fun n _ => ?_) ?_) (congrArg₂ (· * ·) (val_pay q w u s h p) ?_)
    · exact congrArg₂ (· * ·) (dirOut_pay q w u l h n _ rfl) (dirIn_pay q w u s h n _ rfl)
    · rw [sums_turned, sums_apply]
    · rw [spread_apply, steps_pay]
  · exact read_state q w u st S hS l h p
  · rw [← sums_apply, ← spread_apply (sums d db al) l h p, ← spread_sums]
    pointwise [k0_pay28]

/-- The block's rows after the skip and the gate. -/
def gated (y : Fin 256 → Fin 8 → Fin 64 → EReal) (X : Fin 256 → Fin 768 → EReal) (sk : Fin 512 → EReal) (z : Fin 256 → Fin 512 → EReal)
    (l : Fin 256) (k : Fin 512) : EReal :=
  (y l ⟨k.val / 64, by omega⟩ ⟨k.val % 64, by omega⟩ + X l ⟨k.val, by omega⟩ * sk k) * swish (z l k)

/-- The block's result. -/
def result (y : Fin 256 → Fin 8 → Fin 64 → EReal) (X : Fin 256 → Fin 768 → EReal) (sk nw : Fin 512 → EReal) (z : Fin 256 → Fin 512 → EReal)
    (l : Fin 256) (g : Fin 2) (k : Fin 256) : EReal :=
  normed (fun j => gated y X sk z l ⟨g.val * 256 + j.val, by omega⟩) k * nw ⟨g.val * 256 + k.val, by omega⟩

/-- The kernel's rows after the skip and the gate. -/
theorem gated_pay (y : FVec Ideal S256x512 .f32) (l : Fin 256) (k : Fin 512) :
    k0_pay52 (k0_pay8 q w u) y sk z (ix2 l k)
      = gated (fun l h p => y (ix2 l (lane h p))) (act q w u) (fun k => sk (ix2 0 k)) (fun l k => z (ix2 l k)) l k := by
  have e : lane ⟨k.val / 64, by omega⟩ ⟨k.val % 64, by omega⟩ = k := Fin.ext (by show k.val / 64 * 64 + k.val % 64 = k.val; omega)
  rw [gated, e]
  pointwise [k0_pay52, k0_pay8]
  simp only [act_pay]
  rfl

/-- The kernel's result, from its rows before the skip and the gate. -/
theorem result_pay (y : FVec Ideal S256x512 .f32) (l : Fin 256) (g : Fin 2) (k : Fin 256) :
    k0_pay1 (k0_pay53 (k0_pay8 q w u) y sk z) (k0_pay54 (k0_pay8 q w u) y sk z) (k0_pay55 (k0_pay8 q w u) y sk z) nw
      (ix2 l (⟨g.val * 256 + k.val, by omega⟩ : Fin 512))
      = result (fun l h p => y (ix2 l (lane h p))) (act q w u) (fun k => sk (ix2 0 k)) (fun k => nw (ix2 0 k)) (fun l k => z (ix2 l k)) l g k := by
  unfold result normed
  simp only [← gated_pay q w u sk z y]
  pointwise [k0_pay1, k0_pay53, k0_pay54, k0_pay55]
  rcases (by omega : g = 0 ∨ g = 1) with rfl | rfl
  · rw [dif_pos (by dsimp; omega)]
    simp only [Fin.coe_ofNat_eq_mod, Nat.zero_mod, zero_mul, zero_add]
  · rw [dif_neg (by dsimp; omega)]
    have e : 256 + ((1 : Fin 2).val * 256 + k.val - 256) = (1 : Fin 2).val * 256 + k.val := by dsimp; omega
    simp only [e]
    rfl

/-- The block's rows before the skip and the gate. -/
def rows (X : Fin 256 → Fin 768 → EReal) (D : Fin 256 → Fin 8 → EReal) (A : Fin 8 → EReal) (S : Fin 8 → Fin 64 → Fin 64 → EReal)
    (l : Fin 256) (h : Fin 8) (p : Fin 64) : EReal :=
  own X D A l h p + across X D A (fun n => S h n p) l h

/-- The kernel's result. -/
theorem block_pay (S : Fin 8 → Fin 64 → Fin 64 → EReal) (hS : Split st S) (l : Fin 256) (g : Fin 2) (k : Fin 256) :
    k0_pay1 (k0_pay53 (k0_pay8 q w u) (rowsMixed q w u d db al st) sk z) (k0_pay54 (k0_pay8 q w u) (rowsMixed q w u d db al st) sk z)
        (k0_pay55 (k0_pay8 q w u) (rowsMixed q w u d db al st) sk z) nw (ix2 l (⟨g.val * 256 + k.val, by omega⟩ : Fin 512))
      = result (rows (act q w u) (steps d db) (rates al) S) (act q w u) (fun k => sk (ix2 0 k)) (fun k => nw (ix2 0 k)) (fun l k => z (ix2 l k)) l g k := by
  rw [result_pay]
  refine congrArg (fun y => result y _ _ _ _ l g k) ?_
  funext l h p
  exact rowsMixed_apply q w u d db al st S hS l h p

end payload

end Cert.SsdIdeal.Hand
end
-- ==== Proof.SsdBlock.lean ====
module
public import proofs.«01_k».proof.Proof.Gen.SsdIdeal.Frame
public import proofs.«01_k».proof.Proof.SsdChunk
public import proofs.«01_k».proof.Proof.Rows
public import Idealize.ShloMosaic.Lib.Pipeline.ValueKit
public import Idealize.ShloMosaic.Lib.Pipeline.ReadBack
public import Idealize.ShloMosaic.Lib.Pointwise
@[expose] public section
set_option maxRecDepth 16384
noncomputable section
/-! What one grid point of the state-space scan writes. -/
namespace Cert.SsdIdeal.Hand
open Cert.SsdIdeal Cert.SsdIdeal.Gen Idealize.ShloMosaic Idealize.ShloMosaic.TcCoe Idealize.SL.Sem

open Cert.Rows

/-- The scratch after its two stores: eight rows from the block before, then this block's rows. -/
theorem stored (w : S256x768.Idx → Elt Ideal .f32) (w' : S8x768.Idx → Elt Ideal .f32) (R : Fin 264) (d : Fin 768) :
    View.canon (Val := Elt Ideal) (e := .f32) [⟨Rect.unit (s := S264x768) ![8, 0] ![256, 768] inb_S264x768_S256x768_8_0, w⟩,
        ⟨Rect.unit (s := S264x768) ![0, 0] ![8, 768] inb_S264x768_S8x768_0_0, w'⟩] (ix2 R d)
      = if h : R.val < 8 then w' (ix2 (⟨R.val, h⟩ : Fin 8) d) else w (ix2 (⟨R.val - 8, by omega⟩ : Fin 256) d) := by
  by_cases h : R.val < 8
  · rw [dif_pos h, View.canon_cons_of_not_mem]
    · have e : (ix2 R d : S264x768.Idx) = (Rect.unit (s := S264x768) ![0, 0] ![8, 768] inb_S264x768_S8x768_0_0).emb (ix2 (⟨R.val, h⟩ : Fin 8) d) := by
        funext a
        apply Fin.ext
        rw [Rect.emb_apply]
        fin_cases a
        · show R.val = 0 + 1 * R.val
          omega
        · show d.val = 0 + 1 * d.val
          omega
      rw [e, View.canon_cons_emb]
    · rw [Rect.mem_set_unit]
      intro hh
      have := (hh 0).1
      have h8 : 8 ≤ R.val := this
      omega
  · rw [dif_neg h]
    have e : (ix2 R d : S264x768.Idx) = (Rect.unit (s := S264x768) ![8, 0] ![256, 768] inb_S264x768_S256x768_8_0).emb (ix2 (⟨R.val - 8, by omega⟩ : Fin 256) d) := by
      funext a
      apply Fin.ext
      rw [Rect.emb_apply]
      fin_cases a
      · show R.val = 8 + 1 * (R.val - 8)
        omega
      · show d.val = 0 + 1 * d.val
        omega
    rw [e, View.canon_cons_emb]

variable (m : (ℓ : Loc nD τ sig) → Buf (Elt Ideal) ℓ) (c : Dev nD)

/-- The activated rows of a block, over the rows its scratch holds. -/
abbrev actOver (t : Fin cfg0.N) (H : S264x768.Idx → Elt Ideal .f32) : Fin 256 → Fin 768 → EReal :=
  act (k0_pay6 (iblk m c 4 t) (View.ld (iblk m c 3 t) (Rect.unit ![3, 0] ![1, 768] inb_S4x768_S1x768_3_0))
      (View.ld H (Rect.unit ![8, 0] ![256, 768] inb_S264x768_S256x768_8_0))
      (View.ld (iblk m c 3 t) (Rect.unit ![0, 0] ![1, 768] inb_S4x768_S1x768_0_0))
      (View.ld H (Rect.unit ![5, 0] ![256, 768] inb_S264x768_S256x768_5_0))
      (View.ld (iblk m c 3 t) (Rect.unit ![1, 0] ![1, 768] inb_S4x768_S1x768_1_0))
      (View.ld H (Rect.unit ![6, 0] ![256, 768] inb_S264x768_S256x768_6_0)))
    (View.ld (iblk m c 3 t) (Rect.unit ![2, 0] ![1, 768] inb_S4x768_S1x768_2_0))
    (View.ld H (Rect.unit ![7, 0] ![256, 768] inb_S264x768_S256x768_7_0))

/-- The depthwise convolution from its bias, its weights, and the rows at the token and before it. -/
def conv (b w0 w1 w2 w3 u0 u1 u2 u3 : EReal) : EReal := b + w3 * u0 + w0 * u3 + w1 * u2 + w2 * u1

/-- An activated row, from the rows the scratch holds. -/
theorem actOver_apply (t : Fin cfg0.N) (H : S264x768.Idx → Elt Ideal .f32) (l : Fin 256) (j : Fin 768) :
    actOver m c t H l j = swish (conv (iblk m c 4 t (ix2 0 j)) (iblk m c 3 t (ix2 0 j)) (iblk m c 3 t (ix2 1 j)) (iblk m c 3 t (ix2 2 j)) (iblk m c 3 t (ix2 3 j))
      (H (ix2 (⟨8 + l.val, by omega⟩ : Fin 264) j)) (H (ix2 (⟨7 + l.val, by omega⟩ : Fin 264) j)) (H (ix2 (⟨6 + l.val, by omega⟩ : Fin 264) j)) (H (ix2 (⟨5 + l.val, by omega⟩ : Fin 264) j))) := by
  unfold actOver act
  pointwise [k0_pay6]
  rfl

/-- The scratch keeps this block's rows for the next block. -/
theorem kept (t : Fin cfg0.N) (R : Fin 264) (hR : 8 ≤ R.val) (d : Fin 768) :
    (outsAt0 m c t.val t.isLt).2.1 (ix2 R d) = iblk m c 1 t (ix2 (⟨R.val - 8, by omega⟩ : Fin 256) d) := by
  by_cases h0 : t.val % 64 = 0
  · rw [outsAt0_A m c t h0 (by omega)]
    frame_out
    rw [stored, dif_neg (by omega)]
    pointwise [k0_pay5]
  · rw [outsAt0_B m c t h0 (by omega)]
    frame_out
    rw [stored, dif_neg (by omega)]
    pointwise [k0_pay5]

/-- The grid point before. -/
def before (t : Fin cfg0.N) : Fin cfg0.N := ⟨t.val - 1, Nat.lt_of_le_of_lt (Nat.sub_le _ _) t.isLt⟩

/-- The row `n` rows back: in this block, in the block before, or zero before the sequence. -/
def earlier (t : Fin cfg0.N) (n : ℕ) (l : Fin 256) (j : Fin 768) : EReal :=
  if n ≤ l.val then iblk m c 1 t (ix2 (⟨l.val - n, by omega⟩ : Fin 256) j)
  else if t.val % 64 = 0 then 0
  else iblk m c 1 (before t) (ix2 (⟨(256 + l.val - n) % 256, Nat.mod_lt _ (by decide)⟩ : Fin 256) j)

/-- A block's activated rows. -/
def acts (t : Fin cfg0.N) (l : Fin 256) (j : Fin 768) : EReal :=
  swish (conv (iblk m c 4 t (ix2 0 j)) (iblk m c 3 t (ix2 0 j)) (iblk m c 3 t (ix2 1 j)) (iblk m c 3 t (ix2 2 j)) (iblk m c 3 t (ix2 3 j))
      (earlier m c t 0 l j) (earlier m c t 1 l j) (earlier m c t 2 l j) (earlier m c t 3 l j))

/-- The rows a sequence's first block computes with. -/
abbrev heldFirst (t : Fin cfg0.N) : S264x768.Idx → Elt Ideal .f32 :=
  View.canon (Val := Elt Ideal) (e := .f32) [⟨Rect.unit (s := S264x768) ![8, 0] ![256, 768] inb_S264x768_S256x768_8_0, k0_pay5 (iblk m c 1 t)⟩,
        ⟨Rect.unit (s := S264x768) ![0, 0] ![8, 768] inb_S264x768_S8x768_0_0, k0_pay2 (F := Ideal)⟩]

/-- The rows a later block computes with. -/
abbrev heldLater (t : Fin cfg0.N) : S264x768.Idx → Elt Ideal .f32 :=
  View.canon (Val := Elt Ideal) (e := .f32) [⟨Rect.unit (s := S264x768) ![8, 0] ![256, 768] inb_S264x768_S256x768_8_0, k0_pay5 (iblk m c 1 t)⟩,
        ⟨Rect.unit (s := S264x768) ![0, 0] ![8, 768] inb_S264x768_S8x768_0_0,
          k0_pay4 (View.ld (outsAt0 m c (before t).val (before t).isLt).2.1 (Rect.unit ![256, 0] ![8, 768] inb_S264x768_S8x768_256_0))⟩]

/-- A row that the convolution reads in a sequence's first block. -/
theorem read_first (t : Fin cfg0.N) (h0 : t.val % 64 = 0) (n : ℕ) (l : Fin 256) (j : Fin 768) (R : Fin 264) (hR : R.val + n = 8 + l.val) :
    heldFirst m c t (ix2 R j) = earlier m c t n l j := by
  rw [heldFirst, stored]
  unfold earlier
  by_cases h : R.val < 8
  · rw [dif_pos h, if_neg (by omega), if_pos h0]
    pointwise [k0_pay2]
  · rw [dif_neg h, if_pos (by omega)]
    have e : R.val - 8 = l.val - n := by omega
    simp only [e]
    pointwise [k0_pay5]

/-- A row that the convolution reads in a later block. -/
theorem read_later (t : Fin cfg0.N) (h0 : ¬t.val % 64 = 0) (n : ℕ) (hn : n ≤ 8) (l : Fin 256) (j : Fin 768) (R : Fin 264) (hR : R.val + n = 8 + l.val) :
    heldLater m c t (ix2 R j) = earlier m c t n l j := by
  rw [heldLater, stored]
  unfold earlier
  by_cases h : R.val < 8
  · rw [dif_pos h, if_neg (by omega), if_neg h0]
    pointwise [k0_pay4]
    refine (kept m c (before t) ⟨256 + R.val, by omega⟩ (by show 8 ≤ 256 + R.val; omega) j).trans ?_
    refine congrArg (fun i : Fin 256 => iblk m c 1 (before t) (ix2 i j)) (Fin.ext ?_)
    show 256 + R.val - 8 = (256 + l.val - n) % 256
    omega
  · rw [dif_neg h, if_pos (by omega)]
    have e : R.val - 8 = l.val - n := by omega
    simp only [e]
    pointwise [k0_pay5]

/-- The activated rows of a sequence's first block. -/
theorem acts_first (t : Fin cfg0.N) (h0 : t.val % 64 = 0) : actOver m c t (heldFirst m c t) = acts m c t := by
  funext l j
  rw [actOver_apply, acts, read_first m c t h0 0 l j _ rfl, read_first m c t h0 1 l j _ (by dsimp; omega),
    read_first m c t h0 2 l j _ (by dsimp; omega), read_first m c t h0 3 l j _ (by dsimp; omega)]

/-- The activated rows of a later block. -/
theorem acts_later (t : Fin cfg0.N) (h0 : ¬t.val % 64 = 0) : actOver m c t (heldLater m c t) = acts m c t := by
  funext l j
  rw [actOver_apply, acts, read_later m c t h0 0 (by decide) l j _ rfl, read_later m c t h0 1 (by decide) l j _ (by dsimp; omega),
    read_later m c t h0 2 (by decide) l j _ (by dsimp; omega), read_later m c t h0 3 (by decide) l j _ (by dsimp; omega)]

/-- A block's step sizes and rates. -/
abbrev stepsAt (t : Fin cfg0.N) : Fin 256 → Fin 8 → EReal := steps (iblk m c 2 t) (iblk m c 5 t)

/-- The heads' rates at a block. -/
abbrev ratesAt (t : Fin cfg0.N) : Fin 8 → EReal := rates (iblk m c 6 t)

/-- The state after a sequence's first block. -/
theorem state_first (t : Fin cfg0.N) (h0 : t.val % 64 = 0) :
    Split (outsAt0 m c t.val t.isLt).2.2 fun h n p => 0 * Ideal.exp (cum (stepsAt m c t) (ratesAt m c t) 255 h)
      + left (acts m c t) (stepsAt m c t) (ratesAt m c t) h n p := by
  rw [← acts_first m c t h0, outsAt0_A m c t h0 (by omega)]
  frame_out
  simp only [View.readCov_eq_canon']
  have hz : Split (k0_pay3 (F := Ideal)) fun _ _ _ => 0 := fun r h p => by pointwise [k0_pay3]; simp
  refine stateAfter_apply _ _ _ _ _ _ _ _ hz

/-- The state after a later block. -/
theorem state_later (t : Fin cfg0.N) (h0 : ¬t.val % 64 = 0) (S : Fin 8 → Fin 64 → Fin 64 → EReal)
    (hS : Split (outsAt0 m c (before t).val (before t).isLt).2.2 S) :
    Split (outsAt0 m c t.val t.isLt).2.2 fun h n p => S h n p * Ideal.exp (cum (stepsAt m c t) (ratesAt m c t) 255 h)
      + left (acts m c t) (stepsAt m c t) (ratesAt m c t) h n p := by
  rw [← acts_later m c t h0, outsAt0_B m c t h0 (by omega)]
  frame_out
  simp only [read_unread_whole, View.readCov_eq_canon']
  exact stateAfter_apply _ _ _ _ _ _ _ _ hS

/-- The result of a sequence's first block. -/
theorem out_first (t : Fin cfg0.N) (h0 : t.val % 64 = 0) (l : Fin 256) (g : Fin 2) (k : Fin 256) :
    (outsAt0 m c t.val t.isLt).1 (ix2 l (⟨g.val * 256 + k.val, by omega⟩ : Fin 512))
      = result (rows (acts m c t) (stepsAt m c t) (ratesAt m c t) fun _ _ _ => 0) (acts m c t)
        (fun k => iblk m c 7 t (ix2 0 k)) (fun k => iblk m c 8 t (ix2 0 k)) (fun l k => iblk m c 0 t (ix2 l k)) l g k := by
  rw [← acts_first m c t h0, outsAt0_A m c t h0 (by omega)]
  frame_out
  simp only [View.readCov_eq_canon']
  have hz : Split (k0_pay3 (F := Ideal)) fun _ _ _ => 0 := fun r h p => by pointwise [k0_pay3]; simp
  exact block_pay _ _ _ _ _ _ _ _ _ _ _ hz l g k

/-- The result of a later block. -/
theorem out_later (t : Fin cfg0.N) (h0 : ¬t.val % 64 = 0) (S : Fin 8 → Fin 64 → Fin 64 → EReal)
    (hS : Split (outsAt0 m c (before t).val (before t).isLt).2.2 S) (l : Fin 256) (g : Fin 2) (k : Fin 256) :
    (outsAt0 m c t.val t.isLt).1 (ix2 l (⟨g.val * 256 + k.val, by omega⟩ : Fin 512))
      = result (rows (acts m c t) (stepsAt m c t) (ratesAt m c t) S) (acts m c t)
        (fun k => iblk m c 7 t (ix2 0 k)) (fun k => iblk m c 8 t (ix2 0 k)) (fun l k => iblk m c 0 t (ix2 l k)) l g k := by
  rw [← acts_later m c t h0, outsAt0_B m c t h0 (by omega)]
  frame_out
  simp only [read_unread_whole, View.readCov_eq_canon']
  exact block_pay _ _ _ _ _ _ _ _ _ _ _ hS l g k

end Cert.SsdIdeal.Hand
end
-- ==== Proof.SsdScan.lean ====
module
public import proofs.«01_k».proof.Proof.SsdChunk
@[expose] public section
set_option maxRecDepth 16384
noncomputable section
/-! The recurrence of the state over the blocks of a sequence, and its closed form. -/
namespace Cert.SsdIdeal.Hand
open Cert.SsdIdeal Cert.SsdIdeal.Gen Idealize.ShloMosaic Idealize.ShloMosaic.TcCoe Idealize.SL.Sem

/-- The word of minus infinity denotes it. -/
theorem low_word : Ideal.ofBits .f32 0xFF800000#32 = (⊥ : EReal) := by
  simp [Ideal.ofBits, Ideal.ieee]

/-- An exponential is not negative. -/
theorem exp_nonneg (x : EReal) : 0 ≤ Ideal.exp x := by
  induction x with
  | bot => exact le_refl _
  | top => exact le_top
  | coe r => exact EReal.coe_nonneg.mpr (Real.exp_pos r).le

/-- The exponential of a sum is the product of the exponentials. -/
theorem exp_sum (x y : EReal) : Ideal.exp (x + y) = Ideal.exp x * Ideal.exp y := by
  induction x with
  | bot => rw [EReal.bot_add]; exact (zero_mul _).symm
  | top =>
    induction y with
    | bot => exact (mul_zero _).symm
    | top => exact EReal.top_mul_top.symm
    | coe s => exact (EReal.top_mul_coe_of_pos (Real.exp_pos s)).symm
  | coe r =>
    induction y with
    | bot => exact (mul_zero _).symm
    | top => exact (EReal.coe_mul_top_of_pos (Real.exp_pos r)).symm
    | coe s => exact congrArg (fun v : ℝ => (v : EReal)) (Real.exp_add r s)

/-- The exponential of no decay is one. -/
theorem exp_none : Ideal.exp 0 = 1 := congrArg (fun v : ℝ => (v : EReal)) Real.exp_zero

/-- A decay is finite. -/
theorem exp_finite (x : EReal) (hx : x ≤ 0) : Ideal.exp x ≠ ⊤ := by
  induction x with
  | bot => exact EReal.zero_ne_top
  | top => exact absurd hx (by decide)
  | coe r => exact EReal.coe_ne_top _

/-- The logarithm of a number that is at least one is not negative. -/
theorem log_nonneg (x : EReal) (hx : 1 ≤ x) : 0 ≤ Ideal.log x := by
  induction x with
  | bot => exact absurd hx (by decide)
  | top => exact le_top
  | coe r =>
    have hr : (1 : ℝ) ≤ r := EReal.coe_le_coe_iff.mp hx
    show 0 ≤ (if r ≤ 0 then (⊥ : EReal) else (Real.log r : EReal))
    rw [if_neg (by linarith)]
    exact EReal.coe_nonneg.mpr (Real.log_nonneg hr)

/-- A step size is not negative. -/
theorem soft_nonneg (x : EReal) : 0 ≤ soft x :=
  add_nonneg (le_max_right _ _) (log_nonneg _ (le_add_of_nonneg_right (exp_nonneg _)))

/-- A sum of rates is not positive. -/
theorem cum_nonpos (D : Fin 256 → Fin 8 → EReal) (A : Fin 8 → EReal) (hD : ∀ l h, 0 ≤ D l h) (hA : ∀ h, A h ≤ 0) (l : Fin 256) (h : Fin 8) :
    cum D A l h ≤ 0 := by
  refine Finset.sum_nonpos fun s _ => ?_
  have hp : D s h * A h ≤ 0 := EReal.mul_nonpos_iff.mpr (Or.inl ⟨hD s h, hA h⟩)
  by_cases hs : s.val ≤ l.val
  · rw [if_pos hs, one_mul]
    exact hp
  · rw [if_neg hs, zero_mul]

/-- A rate is not positive. -/
theorem rate_nonpos (x : EReal) : 0 - Ideal.exp x ≤ 0 := by
  rw [zero_sub]
  exact EReal.neg_le_zero.mpr (exp_nonneg x)

/-- Comparing two block numbers. -/
theorem slt_small (x y : Fin 64) : IntOp.cmpi .slt (BitVec.ofNat 32 x.val) (BitVec.ofNat 32 y.val) = BitVec.ofBool (decide (x.val < y.val)) := by
  revert x y
  decide +kernel

/-- The state before a block: decayed by each block before, and added to by it. -/
def scan (L E : ℕ → EReal) : ℕ → EReal
  | 0 => 0
  | n + 1 => scan L E n * E n + L n

/-- What is left of one block's part of the state before a later block. -/
def weight (T : ℕ → EReal) (e n : ℕ) : EReal :=
  if e < n then Ideal.exp (∑ x : Fin 64, T x.val * (if e < x.val ∧ x.val < n then 1 else 0)) else 0

/-- One block more. -/
theorem weight_succ (T : ℕ → EReal) (e n : ℕ) (hn : n < 64) :
    weight T e (n + 1) = if e = n then 1 else weight T e n * Ideal.exp (T n) := by
  unfold weight
  by_cases h1 : e = n
  · rw [if_pos (by omega), if_pos h1, Finset.sum_eq_zero, exp_none]
    intro x _
    rw [if_neg (by omega), mul_zero]
  · rw [if_neg h1]
    by_cases h2 : e < n
    · rw [if_pos h2, if_pos (by omega), ← exp_sum]
      refine congrArg Ideal.exp ?_
      have e1 : T n = ∑ x : Fin 64, if (⟨n, hn⟩ : Fin 64) = x then T x.val else 0 := by
        rw [Finset.sum_ite_eq, if_pos (Finset.mem_univ _)]
      rw [e1, ← Finset.sum_add_distrib]
      refine Finset.sum_congr rfl fun x _ => ?_
      by_cases h3 : x.val = n
      · rw [if_pos (by omega), if_neg (by omega), if_pos (Fin.ext h3.symm), mul_one, mul_zero, zero_add]
      · rw [if_neg (fun hh => h3 (congrArg Fin.val hh).symm), add_zero]
        refine congrArg (T x.val * ·) (if_congr (by omega) rfl rfl)
    · rw [if_neg h2, if_neg (by omega), zero_mul]

/-- A finite factor that is not negative goes into a sum. -/
theorem sum_times (f : Fin 64 → EReal) (v : EReal) (h0 : 0 ≤ v) (hv : v ≠ ⊤) (s : Finset (Fin 64)) : (∑ e ∈ s, f e) * v = ∑ e ∈ s, f e * v := by
  induction s using Finset.induction_on with
  | empty => exact zero_mul v
  | insert a s ha ih => rw [Finset.sum_insert ha, Finset.sum_insert ha, EReal.right_distrib_of_nonneg_of_ne_top h0 hv, ih]

/-- The closed form of the state before a block. -/
theorem scan_eq (L T : ℕ → EReal) (hT : ∀ n, T n ≤ 0) : ∀ n, n ≤ 64 →
    scan L (fun n => Ideal.exp (T n)) n = ∑ e : Fin 64, L e.val * weight T e.val n
  | 0, _ => (Finset.sum_eq_zero fun e _ => by rw [weight, if_neg (by omega), mul_zero]).symm
  | n + 1, hn => by
    rw [scan, scan_eq L T hT n (by omega), sum_times _ _ (exp_nonneg _) (exp_finite _ (hT n))]
    have e1 : L n = ∑ e : Fin 64, if (⟨n, by omega⟩ : Fin 64) = e then L e.val else 0 := by
      rw [Finset.sum_ite_eq, if_pos (Finset.mem_univ _)]
    rw [e1, ← Finset.sum_add_distrib]
    refine Finset.sum_congr rfl fun e _ => ?_
    rw [weight_succ T e.val n (by omega)]
    by_cases h : e.val = n
    · rw [if_pos h, if_pos (Fin.ext h.symm), mul_one, weight, if_neg (by omega), mul_zero, zero_mul, zero_add]
    · rw [if_neg h, if_neg (fun hh => h (congrArg Fin.val hh).symm), add_zero, mul_assoc]

end Cert.SsdIdeal.Hand
end
-- ==== Proof.SsdRefer.lean ====
module
public import proofs.«01_k».proof.Proof.Gen.SsdRefIdeal.Read
public import proofs.«01_k».proof.Proof.SsdBlock
public import proofs.«01_k».proof.Proof.SsdScan
public import Idealize.ShloMosaic.Lib.Pointwise
@[expose] public section
set_option maxRecDepth 16384
noncomputable section
/-! The reference of the state-space scan, entry by entry. -/
namespace Cert.SsdRefIdeal.Hand
open Cert.SsdRefIdeal Cert.SsdRefIdeal.Gen Cert.SsdRefIdeal.Read Idealize.ShloMosaic Idealize.ShloMosaic.TcCoe Idealize.SL.Sem
open Cert.SsdIdeal.Hand (swish conv soft cum own across left dirIn dirOut decay normed gated result rows weight scan)

variable (x0 : (⟨S32768x512, .bf16⟩ : BufTy).Contents (Elt Ideal)) (x1 : (⟨S32768x768, .bf16⟩ : BufTy).Contents (Elt Ideal))
  (x2 : (⟨S32768x128, .f32⟩ : BufTy).Contents (Elt Ideal)) (x3 : (⟨S4x768, .f32⟩ : BufTy).Contents (Elt Ideal))
  (x4 : (⟨S768, .f32⟩ : BufTy).Contents (Elt Ideal)) (x5 x6 x7 : (⟨S8, .f32⟩ : BufTy).Contents (Elt Ideal))
  (x8 : (⟨S512, .f32⟩ : BufTy).Contents (Elt Ideal))

/-- The padding is zero. -/
theorem pad_zero : (FloatOps.sitofp .f32 0#32 : Ideal .f32) = (0 : EReal) := by
  simp [FloatOps.sitofp]

/-- The row `n` tokens back, zero before the sequence. -/
def back (n : ℕ) (b : Fin 2) (T : Fin 16384) (j : Fin 768) : EReal :=
  if n ≤ T.val then x1 (ix2 (⟨b.val * 16384 + (T.val - n), by omega⟩ : Fin 32768) j) else 0

/-- The rows with three zero rows in front, read `n` tokens back. -/
theorem u_apply (b : Fin 2) (T : Fin 16384) (n : ℕ) (S : Fin 16387) (hS : S.val + n = T.val + 3) (j : Fin 768) :
    val_main_v6 (F := Ideal) x1 (ix3 b S j) = back x1 n b T j := by
  pointwise [val_main_v6, val_main_call0_v0, val_main_c, val_main_v3, val_main_v2]
  unfold back
  by_cases h : n ≤ T.val
  · have e : S.val - 3 = T.val - n := by omega
    rw [if_pos h, dif_pos]
    · simp only [e]
    · omega
  · rw [if_neg h, dif_neg]
    · exact pad_zero
    · omega

/-- A sequence's activated rows. -/
def acts (b : Fin 2) (T : Fin 16384) (j : Fin 768) : EReal :=
  swish (conv (x4 (ix1 j)) (x3 (ix2 0 j)) (x3 (ix2 1 j)) (x3 (ix2 2 j)) (x3 (ix2 3 j))
    (back x1 0 b T j) (back x1 1 b T j) (back x1 2 b T j) (back x1 3 b T j))

/-- Adding the bias last or first. -/
theorem taps (b a0 a1 a2 a3 : EReal) : a0 + a1 + a2 + a3 + b = b + a3 + a0 + a1 + a2 := by
  ac_rfl

/-- The reference's activated rows. -/
theorem acts_apply (b : Fin 2) (T : Fin 16384) (j : Fin 768) : val_main_v39 (F := Ideal) x1 x3 x4 (ix3 b T j) = acts x1 x3 x4 b T j := by
  pointwise [val_main_v39, val_main_call1_v5, val_main_call1_v4, val_main_call1_cst_0, val_main_call1_v3, val_main_call1_v2, val_main_call1_cst, val_main_call1_v1, val_main_call1_v0]
  have h38 : val_main_v38 (F := Ideal) x1 x3 x4 (ix3 b T j) = conv (x4 (ix1 j)) (x3 (ix2 0 j)) (x3 (ix2 1 j)) (x3 (ix2 2 j)) (x3 (ix2 3 j))
    (back x1 0 b T j) (back x1 1 b T j) (back x1 2 b T j) (back x1 3 b T j) := by
    pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst]
    rw [u_apply x1 b T 3 ⟨T.val, by omega⟩ (by dsimp only), u_apply x1 b T 2 ⟨1 + T.val, by omega⟩ (by dsimp only; omega),
      u_apply x1 b T 1 ⟨2 + T.val, by omega⟩ (by dsimp only; omega), u_apply x1 b T 0 ⟨3 + T.val, by omega⟩ (by dsimp only; omega)]
    exact taps _ _ _ _ _
  rw [h38]
  unfold acts swish
  rw [zero_sub]

/-- A sequence's step sizes. -/
def steps (b : Fin 2) (T : Fin 16384) (h : Fin 8) : EReal :=
  soft (x2 (ix2 (⟨b.val * 16384 + T.val, by omega⟩ : Fin 32768) (⟨h.val, by omega⟩ : Fin 128)) + x5 (ix1 h))

/-- The reference's step sizes. -/
theorem steps_apply (b : Fin 2) (T : Fin 16384) (h : Fin 8) : val_main_v49 (F := Ideal) x2 x5 (ix3 b T h) = steps x2 x5 b T h := by
  pointwise [val_main_v49, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_v48, val_main_v47, val_main_v46, val_main_v5, val_main_v4]
  rw [if_neg (fun hh => hh rfl)]
  unfold steps soft
  rw [zero_sub]
  rfl

/-- The heads' rates. -/
def rates (h : Fin 8) : EReal := 0 - Ideal.exp (x6 (ix1 h))

/-- A block's token. -/
def tok (n : Fin 64) (l : Fin 256) : Fin 16384 := ⟨n.val * 256 + l.val, by omega⟩

/-- The reference's step sizes times the rates. -/
theorem rate_apply (b : Fin 2) (n : Fin 64) (l : Fin 256) (h : Fin 8) :
    val_main_v69 (F := Ideal) x2 x5 x6 (ix4 b n l h) = steps x2 x5 b (tok n l) h * rates x6 h := by
  pointwise [val_main_v69, val_main_v61, val_main_v60, val_main_v59, val_main_v51, val_main_v50]
  rw [steps_apply, rates, zero_sub]
  rfl

/-- A truth value as a number. -/
theorem one_of (v : Bool) : (FloatOps.uitofp .f32 (BitVec.ofBool v) : Ideal .f32) = (if v then (1 : EReal) else 0) := by
  cases v <;> simp [FloatOps.uitofp]

/-- The reference's sums of the rates. -/
theorem cum_apply (b : Fin 2) (n : Fin 64) (l : Fin 256) (h : Fin 8) :
    val_main_v71 (F := Ideal) x2 x5 x6 (ix4 b n l h) = cum (fun l h => steps x2 x5 b (tok n l) h) (rates x6) l h := by
  pointwise [val_main_v71, val_main_v70, val_main_v68, val_main_v67, val_main_v66, val_main_v65]
  refine Finset.sum_congr rfl fun s _ => ?_
  rw [rate_apply, Cert.SsdIdeal.Hand.sge_small, one_of, mul_comm]
  simp only [decide_eq_true_eq]

/-- A block's activated rows. -/
abbrev X (b : Fin 2) (n : Fin 64) : Fin 256 → Fin 768 → EReal := fun l j => acts x1 x3 x4 b (tok n l) j

/-- A block's step sizes. -/
abbrev D (b : Fin 2) (n : Fin 64) : Fin 256 → Fin 8 → EReal := fun l h => steps x2 x5 b (tok n l) h

/-- The reference's values, times their step sizes. -/
theorem val_apply (b : Fin 2) (n : Fin 64) (l : Fin 256) (h : Fin 8) (p : Fin 64) :
    val_main_v62 (F := Ideal) x1 x2 x3 x4 x5 (ix5 b n l h p)
      = Cert.SsdIdeal.Hand.val (X x1 x3 x4 b n) l h p * D x2 x5 b n l h := by
  pointwise [val_main_v62, val_main_v58, val_main_v57, val_main_v56, val_main_v43, val_main_v40]
  rw [acts_apply, steps_apply]
  rfl

/-- The reference's input directions. -/
theorem dirIn_apply (b : Fin 2) (n : Fin 64) (l : Fin 256) (h : Fin 8) (k : Fin 64) :
    val_main_v63 (F := Ideal) x1 x3 x4 (ix5 b n l h k) = dirIn (X x1 x3 x4 b n) l h k := by
  pointwise [val_main_v63, val_main_v53, val_main_v52, val_main_v44, val_main_v41]
  rw [acts_apply]
  rfl

/-- The reference's output directions. -/
theorem dirOut_apply (b : Fin 2) (n : Fin 64) (l : Fin 256) (h : Fin 8) (k : Fin 64) :
    val_main_v64 (F := Ideal) x1 x3 x4 (ix5 b n l h k) = dirOut (X x1 x3 x4 b n) l h k := by
  pointwise [val_main_v64, val_main_v55, val_main_v54, val_main_v45, val_main_v42]
  rw [acts_apply]
  rfl

/-- What a block's own tokens give in the reference. -/
theorem own_apply (b : Fin 2) (n : Fin 64) (l : Fin 256) (h : Fin 8) (p : Fin 64) :
    val_main_v86 (F := Ideal) x1 x2 x3 x4 x5 x6 (ix5 b n l h p) = own (X x1 x3 x4 b n) (D x2 x5 b n) (rates x6) l h p := by
  pointwise [val_main_v86, val_main_v85, val_main_v84, val_main_v83, val_main_v82, val_main_v81, val_main_v80, val_main_v79, val_main_v78, val_main_v77, val_main_v76, val_main_v75, val_main_v74, val_main_v73, val_main_v72, val_main_call3_v2, val_main_call3_v1, val_main_call3_v0, val_main_cst_0]
  refine Finset.sum_congr rfl fun s _ => ?_
  simp only [val_apply, dirIn_apply, dirOut_apply, cum_apply, Cert.SsdIdeal.Hand.sge_small]
  rw [mul_comm]
  rfl

/-- What a block leaves in the state in the reference. -/
theorem left_apply (b : Fin 2) (n : Fin 64) (h : Fin 8) (p k : Fin 64) :
    val_main_v94 (F := Ideal) x1 x2 x3 x4 x5 x6 (ix5 b n h p k) = left (X x1 x3 x4 b n) (D x2 x5 b n) (rates x6) h k p := by
  pointwise [val_main_v94, val_main_v93, val_main_v92, val_main_v91, val_main_v90, val_main_v89, val_main_v88, val_main_v87]
  refine Finset.sum_congr rfl fun l _ => ?_
  simp only [val_apply, dirIn_apply, cum_apply]
  rw [mul_left_comm]

/-- The whole of a block's decay. -/
abbrev total (b : Fin 2) (h : Fin 8) (n : Fin 64) : EReal := cum (D x2 x5 b n) (rates x6) 255 h

/-- The whole decays, by the number of the block. -/
def totals (b : Fin 2) (h : Fin 8) (n : ℕ) : EReal := total x2 x5 x6 b h ⟨n % 64, Nat.mod_lt _ (by decide)⟩

/-- A block's whole decay by its number. -/
theorem totals_fin (b : Fin 2) (h : Fin 8) (n : Fin 64) : totals x2 x5 x6 b h n.val = total x2 x5 x6 b h n :=
  congrArg (total x2 x5 x6 b h) (Fin.ext (Nat.mod_eq_of_lt n.isLt))

/-- The reference's decay from one block to another. -/
theorem carry_apply (b : Fin 2) (n e : Fin 64) (h : Fin 8) :
    val_main_v109 (F := Ideal) x2 x5 x6 (ix4 b n e h) = weight (totals x2 x5 x6 b h) e.val n.val := by
  pointwise [val_main_v109, val_main_v108, val_main_v107, val_main_v106, val_main_v105, val_main_v104, val_main_v103, val_main_v102, val_main_v101, val_main_v100, val_main_v99, val_main_v98, val_main_v97, val_main_v96, val_main_v95, val_main_call4_v2, val_main_call4_v1, val_main_call4_v0, val_main_cst_1]
  simp only [cum_apply, Cert.SsdIdeal.Hand.slt_small]
  have hm : ∀ x : Fin 64, (FloatOps.uitofp .f32 (IntOp.andi (BitVec.ofBool (decide (e.val < x.val))) (BitVec.ofBool (decide (x.val < n.val)))) : Ideal .f32)
      = (if e.val < x.val ∧ x.val < n.val then (1 : EReal) else 0) := by
    intro x
    have ha : IntOp.andi (BitVec.ofBool (decide (e.val < x.val))) (BitVec.ofBool (decide (x.val < n.val))) = BitVec.ofBool (decide (e.val < x.val ∧ x.val < n.val)) := by
      by_cases h1 : e.val < x.val <;> by_cases h2 : x.val < n.val <;> simp [h1, h2, IntOp.andi]
    rw [ha, one_of]
    simp only [decide_eq_true_eq]
  simp only [hm]
  unfold weight
  simp only [totals_fin]
  by_cases hh : e.val < n.val
  · rw [if_pos hh, decide_eq_true hh]
    rfl
  · rw [if_neg hh, decide_eq_false hh]
    exact congrArg Ideal.exp Cert.SsdIdeal.Hand.low_word

/-- The state before a block. -/
def prev (b : Fin 2) (n : Fin 64) (h : Fin 8) (k p : Fin 64) : EReal :=
  ∑ e : Fin 64, left (X x1 x3 x4 b e) (D x2 x5 b e) (rates x6) h k p * weight (totals x2 x5 x6 b h) e.val n.val

/-- What a block's tokens take from the state in the reference. -/
theorem across_apply (b : Fin 2) (n : Fin 64) (l : Fin 256) (h : Fin 8) (p : Fin 64) :
    val_main_v117 (F := Ideal) x1 x2 x3 x4 x5 x6 (ix5 b n l h p)
      = across (X x1 x3 x4 b n) (D x2 x5 b n) (rates x6) (fun k => prev x1 x2 x3 x4 x5 x6 b n h k p) l h := by
  pointwise [val_main_v117, val_main_v116, val_main_v115, val_main_v114, val_main_v113, val_main_v112, val_main_v111, val_main_v110]
  simp only [dirOut_apply, cum_apply, left_apply, carry_apply]
  unfold across prev
  exact congrArg (· * _) (Finset.sum_congr rfl fun x _ => mul_comm _ _)

/-- A block's gated rows in the reference. -/
theorem gated_apply (b : Fin 2) (n : Fin 64) (l : Fin 256) (k : Fin 512) :
    val_main_v127 (F := Ideal) x0 x1 x2 x3 x4 x5 x6 x7 (ix3 b (tok n l) k)
      = gated (rows (X x1 x3 x4 b n) (D x2 x5 b n) (rates x6) (prev x1 x2 x3 x4 x5 x6 b n)) (X x1 x3 x4 b n) (fun k => x7 (ix1 (⟨k.val / 64, by omega⟩ : Fin 8))) (fun l k => x0 (ix2 (⟨b.val * 16384 + (tok n l).val, by omega⟩ : Fin 32768) k)) l k := by
  pointwise [val_main_v127, val_main_v126, val_main_v125, val_main_v124, val_main_v123, val_main_v122, val_main_v121, val_main_v120, val_main_v119, val_main_v118, val_main_call5_v5, val_main_call5_v4, val_main_call5_cst_0, val_main_call5_v3, val_main_call5_v2, val_main_call5_cst, val_main_call5_v1, val_main_call5_v0, val_main_v1, val_main_v0, val_main_v43, val_main_v40]
  have e1 : (⟨(tok n l).val / 256, by omega⟩ : Fin 64) = n := Fin.ext (by show (n.val * 256 + l.val) / 256 = n.val; omega)
  have e2 : (⟨(tok n l).val % 256, by omega⟩ : Fin 256) = l := Fin.ext (by show (n.val * 256 + l.val) % 256 = l.val; omega)
  rw [e1, e2]
  simp only [acts_apply, own_apply, across_apply]
  unfold gated swish
  rw [zero_sub]
  rfl

/-- The reference's result. -/
theorem result_apply (b : Fin 2) (n : Fin 64) (l : Fin 256) (g : Fin 2) (k : Fin 256) :
    val_main_v143 (F := Ideal) x0 x1 x2 x3 x4 x5 x6 x7 x8 (ix2 (⟨b.val * 16384 + (tok n l).val, by omega⟩ : Fin 32768) (⟨g.val * 256 + k.val, by omega⟩ : Fin 512))
      = result (rows (X x1 x3 x4 b n) (D x2 x5 b n) (rates x6) (prev x1 x2 x3 x4 x5 x6 b n)) (X x1 x3 x4 b n) (fun k => x7 (ix1 (⟨k.val / 64, by omega⟩ : Fin 8))) (fun k => x8 (ix1 k)) (fun l k => x0 (ix2 (⟨b.val * 16384 + (tok n l).val, by omega⟩ : Fin 32768) k)) l g k := by
  pointwise [val_main_v143, val_main_v142, val_main_v141, val_main_v140, val_main_v139, val_main_v138, val_main_v137, val_main_v136, val_main_v135, val_main_v134, val_main_v133, val_main_v132, val_main_v131, val_main_v130, val_main_v129, val_main_v128, val_main_cst_2, val_main_cst_3, val_main_cst_4]
  simp only [gated_apply]
  rfl

end Cert.SsdRefIdeal.Hand
end
-- ==== Proof.SsdFinal.lean ====
module
public import proofs.«01_k».proof.Proof.Gen.SsdIdeal.Value
public import proofs.«01_k».proof.Proof.SsdRefer
public import Idealize.ShloMosaic.Lib.KernelVsHost
@[expose] public section
set_option maxRecDepth 16384
noncomputable section
/-! The state-space scan's output array is the reference's result. -/
namespace Cert.SsdIdeal.Hand
open Cert.SsdIdeal Cert.SsdIdeal.Gen Idealize.ShloMosaic Idealize.ShloMosaic.TcCoe Idealize.SL.Sem

variable (m : (ℓ : Loc nD τ sig) → Buf (Elt Ideal) ℓ) (c : Dev nD)

/-- A head's parameters as one row with zeros behind. -/
def rowOf (x : (⟨S8, .f32⟩ : BufTy).Contents (Elt Ideal)) : (⟨S1x128, .f32⟩ : BufTy).Contents (Elt Ideal) :=
  shapeCast S1x128 (pad S128 ![0] ![120] ![0] x (sitofp (F := Ideal) .f32 (constantI S_ 32 0#32)) pads_S8_S128_01200 h_S_) shapeCasts_S128_S1x128

/-- The row's first entries are the parameters. -/
theorem rowOf_apply (x : (⟨S8, .f32⟩ : BufTy).Contents (Elt Ideal)) (h : Fin 8) : rowOf x (ix2 0 (⟨h.val, by omega⟩ : Fin 128)) = x (ix1 h) := by
  pointwise [rowOf]

/-- A head's parameters repeated over its lanes, as one row. -/
def lanesOf (x : (⟨S8, .f32⟩ : BufTy).Contents (Elt Ideal)) : (⟨S1x512, .f32⟩ : BufTy).Contents (Elt Ideal) :=
  shapeCast S1x512 (shapeCast S512 (broadcastInDim S8x64 ![0] bcast_S8_S8x64_0 x) shapeCasts_S8x64_S512) shapeCasts_S512_S1x512

/-- The repeated row at a lane. -/
theorem lanesOf_apply (x : (⟨S8, .f32⟩ : BufTy).Contents (Elt Ideal)) (k : Fin 512) : lanesOf x (ix2 0 k) = x (ix1 (⟨k.val / 64, by omega⟩ : Fin 8)) := by
  pointwise [lanesOf]

/-- The convolution's bias enters as one row. -/
theorem entry_cb : V m c main_v0 = shapeCast S1x768 (m ((c : Thread nD τ).loc main_arg4)) shapeCasts_S768_S1x768 := by
  unfold V hostOps0 hostOps0_1 hostOps0_2 hostOps0_3 hostOps0_4
  after_results
  all_goals rfl

/-- The bias of the step sizes enters as one row. -/
theorem entry_db : V m c main_v2 = rowOf (m ((c : Thread nD τ).loc main_arg5)) := by
  unfold V hostOps0 hostOps0_1 hostOps0_2 hostOps0_3 hostOps0_4
  after_results
  all_goals rfl

/-- The logarithms of the rates enter as one row. -/
theorem entry_al : V m c main_v4 = rowOf (m ((c : Thread nD τ).loc main_arg6)) := by
  unfold V hostOps0 hostOps0_1 hostOps0_2 hostOps0_3 hostOps0_4
  after_results
  all_goals rfl

/-- The skip enters repeated over the lanes. -/
theorem entry_sk : V m c main_v7 = lanesOf (m ((c : Thread nD τ).loc main_arg7)) := by
  unfold V hostOps0 hostOps0_1 hostOps0_2 hostOps0_3 hostOps0_4
  after_results
  all_goals rfl

/-- The gain enters as one row. -/
theorem entry_nw : V m c main_v8 = shapeCast S1x512 (m ((c : Thread nD τ).loc main_arg8)) shapeCasts_S512_S1x512 := by
  unfold V hostOps0 hostOps0_1 hostOps0_2 hostOps0_3 hostOps0_4
  after_results
  all_goals rfl

/-- Which block each window takes at a grid point. -/
theorem idx : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

/-- A row of the block of gates. -/
theorem blk_z (t : Fin cfg0.N) (r : Fin 256) (k : Fin 512) (R : Fin 32768) (h : R.val = t.val * 256 + r.val) :
    iblk m c 0 t (ix2 r k) = m ((c : Thread nD τ).loc main_arg0) (ix2 R k) := by
  have e : iblk m c 0 t (ix2 r k) = V m c main_arg0 (ix2 R k) := by
    blk_simp [iblk]
    congr 1
    blk_ext [idx t]
  rw [e, V_main_arg0]

/-- A row of the block of inputs. -/
theorem blk_x (t : Fin cfg0.N) (r : Fin 256) (k : Fin 768) (R : Fin 32768) (h : R.val = t.val * 256 + r.val) :
    iblk m c 1 t (ix2 r k) = m ((c : Thread nD τ).loc main_arg1) (ix2 R k) := by
  have e : iblk m c 1 t (ix2 r k) = V m c main_arg1 (ix2 R k) := by
    blk_simp [iblk]
    congr 1
    blk_ext [idx t]
  rw [e, V_main_arg1]

/-- A row of the block of step sizes. -/
theorem blk_d (t : Fin cfg0.N) (r : Fin 256) (k : Fin 128) (R : Fin 32768) (h : R.val = t.val * 256 + r.val) :
    iblk m c 2 t (ix2 r k) = m ((c : Thread nD τ).loc main_arg2) (ix2 R k) := by
  have e : iblk m c 2 t (ix2 r k) = V m c main_arg2 (ix2 R k) := by
    blk_simp [iblk]
    congr 1
    blk_ext [idx t]
  rw [e, V_main_arg2]

/-- The taps of the convolution are the same in every block. -/
theorem blk_cw (t : Fin cfg0.N) (i : Fin 4) (j : Fin 768) : iblk m c 3 t (ix2 i j) = m ((c : Thread nD τ).loc main_arg3) (ix2 i j) := by
  have e : iblk m c 3 t (ix2 i j) = V m c main_arg3 (ix2 i j) := by
    blk_simp [iblk]
    congr 1
    blk_ext [idx t]
  rw [e, V_main_arg3]

/-- The convolution's bias is the same in every block. -/
theorem blk_cb (t : Fin cfg0.N) (j : Fin 768) : iblk m c 4 t (ix2 0 j) = m ((c : Thread nD τ).loc main_arg4) (ix1 j) := by
  have e : iblk m c 4 t (ix2 0 j) = V m c main_v0 (ix2 0 j) := by
    blk_simp [iblk]
    congr 1
    blk_ext [idx t]
  rw [e, entry_cb]
  pointwise []

/-- The bias of the step sizes is the same in every block. -/
theorem blk_db (t : Fin cfg0.N) (h : Fin 8) : iblk m c 5 t (ix2 0 (⟨h.val, by omega⟩ : Fin 128)) = m ((c : Thread nD τ).loc main_arg5) (ix1 h) := by
  have e : iblk m c 5 t (ix2 0 (⟨h.val, by omega⟩ : Fin 128)) = V m c main_v2 (ix2 0 (⟨h.val, by omega⟩ : Fin 128)) := by
    blk_simp [iblk]
    congr 1
    blk_ext [idx t]
  rw [e, entry_db]
  exact rowOf_apply _ h

/-- The logarithms of the rates are the same in every block. -/
theorem blk_al (t : Fin cfg0.N) (h : Fin 8) : iblk m c 6 t (ix2 0 (⟨h.val, by omega⟩ : Fin 128)) = m ((c : Thread nD τ).loc main_arg6) (ix1 h) := by
  have e : iblk m c 6 t (ix2 0 (⟨h.val, by omega⟩ : Fin 128)) = V m c main_v4 (ix2 0 (⟨h.val, by omega⟩ : Fin 128)) := by
    blk_simp [iblk]
    congr 1
    blk_ext [idx t]
  rw [e, entry_al]
  exact rowOf_apply _ h

/-- The skip is the same in every block. -/
theorem blk_sk (t : Fin cfg0.N) (k : Fin 512) : iblk m c 7 t (ix2 0 k) = m ((c : Thread nD τ).loc main_arg7) (ix1 (⟨k.val / 64, by omega⟩ : Fin 8)) := by
  have e : iblk m c 7 t (ix2 0 k) = V m c main_v7 (ix2 0 k) := by
    blk_simp [iblk]
    congr 1
    blk_ext [idx t]
  rw [e, entry_sk]
  exact lanesOf_apply _ k

/-- The gain is the same in every block. -/
theorem blk_nw (t : Fin cfg0.N) (k : Fin 512) : iblk m c 8 t (ix2 0 k) = m ((c : Thread nD τ).loc main_arg8) (ix1 k) := by
  have e : iblk m c 8 t (ix2 0 k) = V m c main_v8 (ix2 0 k) := by
    blk_simp [iblk]
    congr 1
    blk_ext [idx t]
  rw [e, entry_nw]
  pointwise []

/-- The reference's activated rows of a block, from the program's arguments. -/
abbrev rX (b : Fin 2) (n : Fin 64) : Fin 256 → Fin 768 → EReal :=
  Cert.SsdRefIdeal.Hand.X (m ((c : Thread nD τ).loc main_arg1)) (m ((c : Thread nD τ).loc main_arg3)) (m ((c : Thread nD τ).loc main_arg4)) b n

/-- The reference's step sizes of a block, from the program's arguments. -/
abbrev rD (b : Fin 2) (n : Fin 64) : Fin 256 → Fin 8 → EReal :=
  Cert.SsdRefIdeal.Hand.D (m ((c : Thread nD τ).loc main_arg2)) (m ((c : Thread nD τ).loc main_arg5)) b n

/-- The reference's rates, from the program's arguments. -/
abbrev rA : Fin 8 → EReal := Cert.SsdRefIdeal.Hand.rates (m ((c : Thread nD τ).loc main_arg6))

/-- The rows that the convolution looks back to are the reference's. -/
theorem earlier_eq (t : Fin cfg0.N) (b : Fin 2) (n : Fin 64) (h : t.val = b.val * 64 + n.val) (i : ℕ) (hi : i ≤ 3) (l : Fin 256) (j : Fin 768) :
    earlier m c t i l j = Cert.SsdRefIdeal.Hand.back (m ((c : Thread nD τ).loc main_arg1)) i b (Cert.SsdRefIdeal.Hand.tok n l) j := by
  have hT : (Cert.SsdRefIdeal.Hand.tok n l).val = n.val * 256 + l.val := rfl
  unfold earlier Cert.SsdRefIdeal.Hand.back
  by_cases h1 : i ≤ l.val
  · rw [if_pos h1, if_pos (by omega)]
    exact blk_x m c t _ j _ (by dsimp only; omega)
  · rw [if_neg h1]
    by_cases h0 : t.val % 64 = 0
    · rw [if_pos h0, if_neg (by omega)]
    · rw [if_neg h0, if_pos (by omega)]
      exact blk_x m c (before t) _ j _ (by show b.val * 16384 + ((Cert.SsdRefIdeal.Hand.tok n l).val - i) = (t.val - 1) * 256 + (256 + l.val - i) % 256; omega)

/-- The kernel's activated rows are the reference's. -/
theorem acts_eq (t : Fin cfg0.N) (b : Fin 2) (n : Fin 64) (h : t.val = b.val * 64 + n.val) : acts m c t = rX m c b n := by
  funext l j
  show acts m c t l j = Cert.SsdRefIdeal.Hand.acts _ _ _ b (Cert.SsdRefIdeal.Hand.tok n l) j
  unfold acts Cert.SsdRefIdeal.Hand.acts
  rw [earlier_eq m c t b n h 0 (by decide), earlier_eq m c t b n h 1 (by decide), earlier_eq m c t b n h 2 (by decide), earlier_eq m c t b n h 3 (by decide),
    blk_cb, blk_cw, blk_cw, blk_cw, blk_cw]

/-- The kernel's step sizes are the reference's. -/
theorem steps_eq (t : Fin cfg0.N) (b : Fin 2) (n : Fin 64) (h : t.val = b.val * 64 + n.val) : stepsAt m c t = rD m c b n := by
  funext l q
  show soft _ = soft _
  refine congrArg soft (congrArg₂ (fun u v : EReal => u + v) ?_ (blk_db m c t q))
  exact blk_d m c t l _ _ (by show b.val * 16384 + (n.val * 256 + l.val) = t.val * 256 + l.val; omega)

/-- The kernel's rates are the reference's. -/
theorem rates_eq (t : Fin cfg0.N) : ratesAt m c t = rA m c := by
  funext q
  show 0 - Ideal.exp _ = 0 - Ideal.exp _
  exact congrArg (fun v : EReal => 0 - Ideal.exp v) (blk_al m c t q)

/-- What a block leaves in the state, by its number. -/
def lefts (b : Fin 2) (h : Fin 8) (k p : Fin 64) (n : ℕ) : EReal :=
  left (rX m c b ⟨n % 64, Nat.mod_lt _ (by decide)⟩) (rD m c b ⟨n % 64, Nat.mod_lt _ (by decide)⟩) (rA m c) h k p

/-- The whole decays, by the number of the block. -/
abbrev whole (b : Fin 2) (h : Fin 8) : ℕ → EReal :=
  Cert.SsdRefIdeal.Hand.totals (m ((c : Thread nD τ).loc main_arg2)) (m ((c : Thread nD τ).loc main_arg5)) (m ((c : Thread nD τ).loc main_arg6)) b h

/-- The state before a block of a sequence. -/
def held (b : Fin 2) (n : ℕ) (h : Fin 8) (k p : Fin 64) : EReal := scan (lefts m c b h k p) (fun n => Ideal.exp (whole m c b h n)) n

/-- One block's step of the state. -/
theorem held_succ (t : Fin cfg0.N) (b : Fin 2) (n : Fin 64) (h : t.val = b.val * 64 + n.val) :
    held m c b (n.val + 1) = fun q k p => held m c b n.val q k p * Ideal.exp (cum (stepsAt m c t) (ratesAt m c t) 255 q)
      + left (acts m c t) (stepsAt m c t) (ratesAt m c t) q k p := by
  funext q k p
  rw [acts_eq m c t b n h, steps_eq m c t b n h, rates_eq m c t]
  have e : (⟨n.val % 64, Nat.mod_lt _ (by decide)⟩ : Fin 64) = n := Fin.ext (Nat.mod_eq_of_lt n.isLt)
  show scan _ _ n.val * Ideal.exp (Cert.SsdRefIdeal.Hand.total _ _ _ b q ⟨n.val % 64, _⟩) + left (rX m c b ⟨n.val % 64, _⟩) (rD m c b ⟨n.val % 64, _⟩) (rA m c) q k p = _
  rw [e]
  rfl

/-- The state the kernel holds after a block. -/
theorem state_eq (b : Fin 2) : ∀ (j : ℕ) (hj : j < 64) (t : Fin cfg0.N), t.val = b.val * 64 + j →
    Split (outsAt0 m c t.val t.isLt).2.2 (held m c b (j + 1))
  | 0, hj, t, h => by
    rw [held_succ m c t b ⟨0, hj⟩ h]
    exact state_first m c t (by omega)
  | j + 1, hj, t, h => by
    rw [held_succ m c t b ⟨j + 1, hj⟩ h]
    exact state_later m c t (by omega) _ (state_eq b j (by omega) (before t) (by show t.val - 1 = _; omega))

/-- The state before a block is the reference's. -/
theorem held_eq (b : Fin 2) (n : Fin 64) :
    held m c b n.val = Cert.SsdRefIdeal.Hand.prev (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) b n := by
  funext q k p
  rw [held, scan_eq (lefts m c b q k p) (whole m c b q) (fun i => cum_nonpos _ _ (fun _ _ => soft_nonneg _) (fun _ => rate_nonpos _) 255 q) n.val (by omega)]
  refine Finset.sum_congr rfl fun e _ => ?_
  have he : (⟨e.val % 64, Nat.mod_lt _ (by decide)⟩ : Fin 64) = e := Fin.ext (Nat.mod_eq_of_lt e.isLt)
  rw [lefts, he]

/-- A block's result. -/
theorem out_eq (t : Fin cfg0.N) (b : Fin 2) (n : Fin 64) (h : t.val = b.val * 64 + n.val) (l : Fin 256) (g : Fin 2) (k : Fin 256) :
    (outsAt0 m c t.val t.isLt).1 (ix2 l (⟨g.val * 256 + k.val, by omega⟩ : Fin 512))
      = result (rows (acts m c t) (stepsAt m c t) (ratesAt m c t) (held m c b n.val)) (acts m c t)
        (fun k => iblk m c 7 t (ix2 0 k)) (fun k => iblk m c 8 t (ix2 0 k)) (fun l k => iblk m c 0 t (ix2 l k)) l g k := by
  by_cases h0 : t.val % 64 = 0
  · have e : n.val = 0 := by omega
    rw [e]
    exact out_first m c t h0 l g k
  · refine out_later m c t h0 _ ?_ l g k
    have e : n.val = n.val - 1 + 1 := by omega
    rw [e]
    exact state_eq m c b (n.val - 1) (by omega) (before t) (by show t.val - 1 = _; omega)

/-- The reference's result, from the program's arguments. -/
abbrev goal : (⟨S32768x512, .bf16⟩ : BufTy).Contents (Elt Ideal) :=
  Cert.SsdRefIdeal.Read.val_main_v143 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- The kernel's output array is the reference's. -/
theorem final : (dats m 0 c).arrAt 9 cfg0.N = goal m c := by
  refine (dats m 0 c).arrAt_eq_of_covers 9 _ (by decide +kernel) fun t hf y => ?_
  blk_simp
  rw [after0_9]
  obtain ⟨l, K, rfl⟩ : ∃ (l : Fin 256) (K : Fin 512), y = ix2 l K := ⟨y 0, y 1, by funext a; fin_cases a <;> rfl⟩
  obtain ⟨g, k, rfl⟩ : ∃ (g : Fin 2) (k : Fin 256), K = ⟨g.val * 256 + k.val, by omega⟩ :=
    ⟨⟨K.val / 256, by omega⟩, ⟨K.val % 256, by omega⟩, Fin.ext (by show K.val = K.val / 256 * 256 + K.val % 256; omega)⟩
  have ht : t.val < 128 := t.isLt.trans_eq N_0
  obtain ⟨b, n, h⟩ : ∃ (b : Fin 2) (n : Fin 64), t.val = b.val * 64 + n.val :=
    ⟨⟨t.val / 64, by omega⟩, ⟨t.val % 64, by omega⟩, by show t.val = t.val / 64 * 64 + t.val % 64; omega⟩
  have hT : (Cert.SsdRefIdeal.Hand.tok n l).val = n.val * 256 + l.val := rfl
  have e : ((cfg0.win 9).blk t).view.emb (ix2 l (⟨g.val * 256 + k.val, by omega⟩ : Fin 512))
      = ix2 (⟨b.val * 16384 + (Cert.SsdRefIdeal.Hand.tok n l).val, by omega⟩ : Fin 32768) (⟨g.val * 256 + k.val, by omega⟩ : Fin 512) := by
    blk_ext [idx t]
  rw [e, out_eq m c t b n h]
  refine Eq.trans ?_ (Cert.SsdRefIdeal.Hand.result_apply _ _ _ _ _ _ _ _ _ b n l g k).symm
  rw [held_eq m c b n, acts_eq m c t b n h, steps_eq m c t b n h, rates_eq m c t]
  simp only [blk_sk, blk_nw]
  refine congrArg (fun z => result _ _ _ _ z l g k) ?_
  funext r q
  exact blk_z m c t r q _ (by show b.val * 16384 + (n.val * 256 + r.val) = t.val * 256 + r.val; omega)

end Cert.SsdIdeal.Hand
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Gen.ModulationRefIdeal.Read
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.Gen.SsdRefIdeal.Read
public import proofs.«01_k».proof.Proof.Final
public import proofs.«01_k».proof.Proof.FfnFinal
public import proofs.«01_k».proof.Proof.MergeFinal
public import proofs.«01_k».proof.Proof.InprojFinal
public import proofs.«01_k».proof.Proof.ModulationFinal
public import proofs.«01_k».proof.Proof.SsdFinal
public import Idealize.ShloMosaic.Adequacy
public import Idealize.ShloMosaic.Init

@[expose] public section

set_option maxRecDepth 16384

noncomputable section

namespace Cert.Proof

open Idealize.ShloMosaic Idealize.SL.Sem Cert.Attn

/-- The reference of the attention leaves its arguments as they were and every counter at zero. -/
theorem settles : Cert.quiescent_AttnRefIdeal := fun m g _ =>
  (θ_run Cert.AttnRefIdeal.defs _ _).mono
    (fun r h => ⟨fun c => (h c).2, sem_eq_zero_of_no_sems (by decide) r.2⟩)
    (Cert.AttnRefIdeal.Value.run (F := Ideal) m g)

/-- The kernel and the reference of the attention, from equal arguments, leave the same result. -/
theorem agree : Cert.algebraic_AttnIdeal_AttnRefIdeal := by
  intro m g m' g' _ hagree
  refine ⟨fun c => Cert.AttnRefIdeal.Value.res_main_v25 (F := Ideal) m' c, ?_, ?_⟩
  · refine (θ_run _ _ _).mono (fun r h c => ⟨(h c).1.trans ?_, (h c).2⟩) (Cert.AttnIdeal.Value.run_blocks (F := Ideal) m g)
    obtain ⟨e0, e1, e2⟩ := hagree c
    refine (Cert.AttnIdeal.Hand.final m c).trans ((Cert.AttnRefIdeal.Read.val_main_v25_eq (F := Ideal) m' c).trans ?_).symm
    rw [e0, e1, e2]
  · exact (θ_run _ _ _).mono (fun r h c => h c) (Cert.AttnRefIdeal.Value.run (F := Ideal) m' g')

/-- The reference of the feed-forward part leaves its arguments as they were and every counter at zero. -/
theorem settles_ffn : Cert.quiescent_FfnRefIdeal := fun m g _ =>
  (θ_run Cert.FfnRefIdeal.defs _ _).mono
    (fun r h => ⟨fun c => (h c).2, sem_eq_zero_of_no_sems (by decide) r.2⟩)
    (Cert.FfnRefIdeal.Value.run (F := Ideal) m g)

/-- The kernel and the reference of the feed-forward part, from equal arguments, leave the same result. -/
theorem agree_ffn : Cert.algebraic_FfnIdeal_FfnRefIdeal := by
  intro m g m' g' _ hagree
  refine ⟨fun c => Cert.FfnRefIdeal.Value.res_main_v44 (F := Ideal) m' c, ?_, ?_⟩
  · refine (θ_run _ _ _).mono (fun r h c => ⟨(h c).1.trans ?_, (h c).2⟩) (Cert.FfnIdeal.Value.run_blocks (F := Ideal) m g)
    obtain ⟨e0, e1, e2, e3, e4, e5⟩ := hagree c
    refine (Cert.FfnIdeal.Hand.final m c).trans ((Cert.FfnRefIdeal.Read.val_main_v44_eq (F := Ideal) m' c).trans ?_).symm
    rw [e0, e1, e2, e3, e4, e5]
  · exact (θ_run _ _ _).mono (fun r h c => h c) (Cert.FfnRefIdeal.Value.run (F := Ideal) m' g')

/-- The reference of the merge of the branches leaves its arguments as they were and every counter at zero. -/
theorem settles_merge : Cert.quiescent_MergeRefIdeal := fun m g _ =>
  (θ_run Cert.MergeRefIdeal.defs _ _).mono
    (fun r h => ⟨fun c => (h c).2, sem_eq_zero_of_no_sems (by decide) r.2⟩)
    (Cert.MergeRefIdeal.Value.run (F := Ideal) m g)

/-- The kernel and the reference of the merge of the branches, from equal arguments, leave the same result. -/
theorem agree_merge : Cert.algebraic_MergeIdeal_MergeRefIdeal := by
  intro m g m' g' _ hagree
  refine ⟨fun c => Cert.MergeRefIdeal.Value.res_main_v76 (F := Ideal) m' c, ?_, ?_⟩
  · refine (θ_run _ _ _).mono (fun r h c => ⟨(h c).1.trans ?_, (h c).2⟩) (Cert.MergeIdeal.Value.run_blocks (F := Ideal) m g)
    obtain ⟨e0, e1, e2, e3, e4, e5, e6, e7, e8, e9, e10, e11⟩ := hagree c
    refine (Cert.MergeIdeal.Hand.final m c).trans ((Cert.MergeRefIdeal.Read.val_main_v76_eq (F := Ideal) m' c).trans ?_).symm
    rw [e0, e1, e2, e3, e4, e5, e6, e7, e8, e9, e10, e11]
  · exact (θ_run _ _ _).mono (fun r h c => h c) (Cert.MergeRefIdeal.Value.run (F := Ideal) m' g')

/-- The reference of the input projection leaves its arguments as they were and every counter at zero. -/
theorem settles_inproj : Cert.quiescent_InprojRefIdeal := fun m g _ =>
  (θ_run Cert.InprojRefIdeal.defs _ _).mono
    (fun r h => ⟨fun c => (h c).2.2.2.2.2, sem_eq_zero_of_no_sems (by decide) r.2⟩)
    (Cert.InprojRefIdeal.Value.run (F := Ideal) m g)

/-- The kernel and the reference of the input projection, from equal arguments, leave the same results. -/
theorem agree_inproj : Cert.algebraic_InprojIdeal_InprojRefIdeal := by
  intro m g m' g' _ hagree
  refine ⟨fun c => Cert.InprojRefIdeal.Read.val_main_v62 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)),
    fun c => Cert.InprojRefIdeal.Read.val_main_v64 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)),
    fun c => Cert.InprojRefIdeal.Read.val_main_v66 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)),
    fun c => Cert.InprojRefIdeal.Read.val_main_v68 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)),
    fun c => Cert.InprojRefIdeal.Read.val_main_v69 (F := Ideal) (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)), ?_, ?_⟩
  · refine (θ_run _ _ _).mono (fun r h c => ?_) (Cert.InprojIdeal.Value.run_blocks (F := Ideal) m g)
    obtain ⟨e0, e1, e2, e3, e4⟩ := hagree c
    beta_reduce
    rw [e0, e1, e2, e3, e4]
    obtain ⟨h5, h6, h7, h8, h9, ha⟩ := h c
    exact ⟨h5.trans (Cert.InprojIdeal.Hand.final_short m c), h6.trans (Cert.InprojIdeal.Hand.final_qkv m c), h7.trans (Cert.InprojIdeal.Hand.final_z m c),
      h8.trans (Cert.InprojIdeal.Hand.final_xbc m c), h9.trans (Cert.InprojIdeal.Hand.final_dt m c), ha⟩
  · refine (θ_run _ _ _).mono (fun r h c => ?_) (Cert.InprojRefIdeal.Value.run (F := Ideal) m' g')
    obtain ⟨h5, h6, h7, h8, h9, ha⟩ := h c
    exact ⟨h5.trans (Cert.InprojRefIdeal.Read.val_main_v62_eq (F := Ideal) m' c), h6.trans (Cert.InprojRefIdeal.Read.val_main_v64_eq (F := Ideal) m' c),
      h7.trans (Cert.InprojRefIdeal.Read.val_main_v66_eq (F := Ideal) _ _ _ _), h8.trans (Cert.InprojRefIdeal.Read.val_main_v68_eq (F := Ideal) _ _ _ _),
      h9.trans (Cert.InprojRefIdeal.Read.val_main_v69_eq (F := Ideal) _ _ _ _), ha⟩

/-- The reference of the modulation leaves its arguments as they were and every counter at zero. -/
theorem settles_modulation : Cert.quiescent_ModulationRefIdeal := fun m g _ =>
  (θ_run Cert.ModulationRefIdeal.defs _ _).mono
    (fun r h => ⟨fun c => (h c).2, sem_eq_zero_of_no_sems (by decide) r.2⟩)
    (Cert.ModulationRefIdeal.Value.run (F := Ideal) m g)

/-- The kernel and the reference of the modulation, from equal arguments, leave the same result. -/
theorem agree_modulation : Cert.algebraic_ModulationIdeal_ModulationRefIdeal := by
  intro m g m' g' _ hagree
  refine ⟨fun c => Cert.ModulationIdeal.Hand.goal m c, ?_, ?_⟩
  · exact (θ_run _ _ _).mono (fun r h c => ⟨(h c).1.trans (Cert.ModulationIdeal.Hand.final m c), (h c).2⟩) (Cert.ModulationIdeal.Value.run_blocks (F := Ideal) m g)
  · refine (θ_run _ _ _).mono (fun r h c => ⟨(h c).1.trans ?_, (h c).2⟩) (Cert.ModulationRefIdeal.Value.run (F := Ideal) m' g')
    obtain ⟨e0, e1, e2⟩ := hagree c
    refine (Cert.ModulationRefIdeal.Read.val_main_v5_eq (F := Ideal) _ _ _).trans ?_
    rw [e0, e1, e2]

/-- The reference of the state-space scan leaves its arguments as they were and every counter at zero. -/
theorem settles_ssd : Cert.quiescent_SsdRefIdeal := fun m g _ =>
  (θ_run Cert.SsdRefIdeal.defs _ _).mono
    (fun r h => ⟨fun c => (h c).2, sem_eq_zero_of_no_sems (by decide) r.2⟩)
    (Cert.SsdRefIdeal.Value.run (F := Ideal) m g)

/-- The kernel and the reference of the state-space scan, from equal arguments, leave the same result. -/
theorem agree_ssd : Cert.algebraic_SsdIdeal_SsdRefIdeal := by
  intro m g m' g' _ hagree
  refine ⟨fun c => Cert.SsdIdeal.Hand.goal m c, ?_, ?_⟩
  · exact (θ_run _ _ _).mono (fun r h c => ⟨(h c).1.trans (Cert.SsdIdeal.Hand.final m c), (h c).2⟩) (Cert.SsdIdeal.Value.run_blocks (F := Ideal) m g)
  · refine (θ_run _ _ _).mono (fun r h c => ⟨(h c).1.trans ?_, (h c).2⟩) (Cert.SsdRefIdeal.Value.run (F := Ideal) m' g')
    obtain ⟨e0, e1, e2, e3, e4, e5, e6, e7, e8⟩ := hagree c
    refine (Cert.SsdRefIdeal.Read.val_main_v143_eq (F := Ideal) _).trans ?_
    show Cert.SsdRefIdeal.Read.val_main_v143 (F := Ideal) (m' (c.tc.loc Cert.SsdRefIdeal.main_arg0)) (m' (c.tc.loc Cert.SsdRefIdeal.main_arg1)) (m' (c.tc.loc Cert.SsdRefIdeal.main_arg2)) (m' (c.tc.loc Cert.SsdRefIdeal.main_arg3)) (m' (c.tc.loc Cert.SsdRefIdeal.main_arg4)) (m' (c.tc.loc Cert.SsdRefIdeal.main_arg5)) (m' (c.tc.loc Cert.SsdRefIdeal.main_arg6)) (m' (c.tc.loc Cert.SsdRefIdeal.main_arg7)) (m' (c.tc.loc Cert.SsdRefIdeal.main_arg8)) = _
    rw [e0, e1, e2, e3, e4, e5, e6, e7, e8]

/-- The certificate's claim: the programs run, each idealization is its program's own, and each kernel agrees with its reference. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.Inproj.Gen.facts, Cert.InprojIdeal.Gen.facts, Cert.InprojRefIdeal.Gen.facts, Cert.Modulation.Gen.facts, Cert.ModulationIdeal.Gen.facts, Cert.ModulationRefIdeal.Gen.facts, Cert.Ssd.Gen.facts, Cert.SsdIdeal.Gen.facts, Cert.SsdRefIdeal.Gen.facts,
  fun m g _ => Cert.Attn.Gen.frame m g, fun m g _ => Cert.AttnIdeal.Gen.frame m g, settles,
  fun m g _ => Cert.Ffn.Gen.frame m g, fun m g _ => Cert.FfnIdeal.Gen.frame m g, settles_ffn,
  fun m g _ => Cert.Merge.Gen.frame m g, fun m g _ => Cert.MergeIdeal.Gen.frame m g, settles_merge,
  fun m g _ => Cert.Inproj.Gen.frame m g, fun m g _ => Cert.InprojIdeal.Gen.frame m g, settles_inproj,
  fun m g _ => Cert.Modulation.Gen.frame m g, fun m g _ => Cert.ModulationIdeal.Gen.frame m g, settles_modulation,
  fun m g _ => Cert.Ssd.Gen.frame m g, fun m g _ => Cert.SsdIdeal.Gen.frame m g, settles_ssd,
  trivial, agree, trivial, agree_ffn, trivial, agree_merge, trivial, agree_inproj, trivial, agree_modulation, trivial, agree_ssd⟩

end Cert.Proof

end
